-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Projections (m : (ℓ : Loc Cert.Projections.nD Cert.Projections.τ Cert.Projections.sig) → Buf (Elt Bits) ℓ) : Prop :=
  True

def Pre_ProjectionsIdeal (m : (ℓ : Loc Cert.ProjectionsIdeal.nD Cert.ProjectionsIdeal.τ Cert.ProjectionsIdeal.sig) → Buf (Elt Ideal) ℓ) : Prop :=
  True

def Pre_ProjectionsRefIdeal (m : (ℓ : Loc Cert.ProjectionsRefIdeal.nD Cert.ProjectionsRefIdeal.τ Cert.ProjectionsRefIdeal.sig) → Buf (Elt Ideal) ℓ) : Prop :=
  True

def Pre_AttnOut (m : (ℓ : Loc Cert.AttnOut.nD Cert.AttnOut.τ Cert.AttnOut.sig) → Buf (Elt Bits) ℓ) : Prop :=
  True

def Pre_AttnOutIdeal (m : (ℓ : Loc Cert.AttnOutIdeal.nD Cert.AttnOutIdeal.τ Cert.AttnOutIdeal.sig) → Buf (Elt Ideal) ℓ) : Prop :=
  True

def Pre_AttnOutRefIdeal (m : (ℓ : Loc Cert.AttnOutRefIdeal.nD Cert.AttnOutRefIdeal.τ Cert.AttnOutRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_CombineRefIdeal (m : (ℓ : Loc Cert.CombineRefIdeal.nD Cert.CombineRefIdeal.τ Cert.CombineRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Projections [hProjections : Cert.Projections.Facts] : Prop :=
  ∀ (m : (ℓ : Loc Cert.Projections.nD Cert.Projections.τ Cert.Projections.sig) → Buf (Elt Bits) ℓ) (g : Dev Cert.Projections.nD → PrngReg), Pre_Projections m →
    θ_run (Cert.Projections.defs (F := Bits)) (onTc (τ := Cert.Projections.τ) (Cert.Projections.main (F := Bits))) ⟨m, fun _ => 0, g⟩ (fun r => (∀ c : Dev Cert.Projections.nD,
      r.2.mem ((c.tc : Thread Cert.Projections.nD Cert.Projections.τ).loc Cert.Projections.main_arg0) = m ((c.tc : Thread Cert.Projections.nD Cert.Projections.τ).loc Cert.Projections.main_arg0)
      ∧ r.2.mem ((c.tc : Thread Cert.Projections.nD Cert.Projections.τ).loc Cert.Projections.main_arg1) = m ((c.tc : Thread Cert.Projections.nD Cert.Projections.τ).loc Cert.Projections.main_arg1)
      ∧ r.2.mem ((c.tc : Thread Cert.Projections.nD Cert.Projections.τ).loc Cert.Projections.main_arg2) = m ((c.tc : Thread Cert.Projections.nD Cert.Projections.τ).loc Cert.Projections.main_arg2)
      ∧ r.2.mem ((c.tc : Thread Cert.Projections.nD Cert.Projections.τ).loc Cert.Projections.main_arg3) = m ((c.tc : Thread Cert.Projections.nD Cert.Projections.τ).loc Cert.Projections.main_arg3)
      ∧ r.2.mem ((c.tc : Thread Cert.Projections.nD Cert.Projections.τ).loc Cert.Projections.main_arg4) = m ((c.tc : Thread Cert.Projections.nD Cert.Projections.τ).loc Cert.Projections.main_arg4)
      ∧ r.2.mem ((c.tc : Thread Cert.Projections.nD Cert.Projections.τ).loc Cert.Projections.main_arg5) = m ((c.tc : Thread Cert.Projections.nD Cert.Projections.τ).loc Cert.Projections.main_arg5)
      ∧ r.2.mem ((c.tc : Thread Cert.Projections.nD Cert.Projections.τ).loc Cert.Projections.main_arg6) = m ((c.tc : Thread Cert.Projections.nD Cert.Projections.τ).loc Cert.Projections.main_arg6)
      ∧ r.2.mem ((c.tc : Thread Cert.Projections.nD Cert.Projections.τ).loc Cert.Projections.main_arg7) = m ((c.tc : Thread Cert.Projections.nD Cert.Projections.τ).loc Cert.Projections.main_arg7)
      ∧ r.2.mem ((c.tc : Thread Cert.Projections.nD Cert.Projections.τ).loc Cert.Projections.main_arg8) = m ((c.tc : Thread Cert.Projections.nD Cert.Projections.τ).loc Cert.Projections.main_arg8)
      ∧ r.2.mem ((c.tc : Thread Cert.Projections.nD Cert.Projections.τ).loc Cert.Projections.main_arg9) = m ((c.tc : Thread Cert.Projections.nD Cert.Projections.τ).loc Cert.Projections.main_arg9)
      ∧ r.2.mem ((c.tc : Thread Cert.Projections.nD Cert.Projections.τ).loc Cert.Projections.main_arg10) = m ((c.tc : Thread Cert.Projections.nD Cert.Projections.τ).loc Cert.Projections.main_arg10)
      ∧ r.2.mem ((c.tc : Thread Cert.Projections.nD Cert.Projections.τ).loc Cert.Projections.main_arg11) = m ((c.tc : Thread Cert.Projections.nD Cert.Projections.τ).loc Cert.Projections.main_arg11)
      ∧ r.2.mem ((c.tc : Thread Cert.Projections.nD Cert.Projections.τ).loc Cert.Projections.main_arg12) = m ((c.tc : Thread Cert.Projections.nD Cert.Projections.τ).loc Cert.Projections.main_arg12)
      ∧ r.2.mem ((c.tc : Thread Cert.Projections.nD Cert.Projections.τ).loc Cert.Projections.main_arg13) = m ((c.tc : Thread Cert.Projections.nD Cert.Projections.τ).loc Cert.Projections.main_arg13))
      ∧ r.2.sem = fun _ => 0)

def quiescent_ProjectionsIdeal [hProjectionsIdeal : Cert.ProjectionsIdeal.Facts] : Prop :=
  ∀ (m : (ℓ : Loc Cert.ProjectionsIdeal.nD Cert.ProjectionsIdeal.τ Cert.ProjectionsIdeal.sig) → Buf (Elt Ideal) ℓ) (g : Dev Cert.ProjectionsIdeal.nD → PrngReg), Pre_ProjectionsIdeal m →
    θ_run (Cert.ProjectionsIdeal.defs (F := Ideal)) (onTc (τ := Cert.ProjectionsIdeal.τ) (Cert.ProjectionsIdeal.main (F := Ideal))) ⟨m, fun _ => 0, g⟩ (fun r => (∀ c : Dev Cert.ProjectionsIdeal.nD,
      r.2.mem ((c.tc : Thread Cert.ProjectionsIdeal.nD Cert.ProjectionsIdeal.τ).loc Cert.ProjectionsIdeal.main_arg0) = m ((c.tc : Thread Cert.ProjectionsIdeal.nD Cert.ProjectionsIdeal.τ).loc Cert.ProjectionsIdeal.main_arg0)
      ∧ r.2.mem ((c.tc : Thread Cert.ProjectionsIdeal.nD Cert.ProjectionsIdeal.τ).loc Cert.ProjectionsIdeal.main_arg1) = m ((c.tc : Thread Cert.ProjectionsIdeal.nD Cert.ProjectionsIdeal.τ).loc Cert.ProjectionsIdeal.main_arg1)
      ∧ r.2.mem ((c.tc : Thread Cert.ProjectionsIdeal.nD Cert.ProjectionsIdeal.τ).loc Cert.ProjectionsIdeal.main_arg2) = m ((c.tc : Thread Cert.ProjectionsIdeal.nD Cert.ProjectionsIdeal.τ).loc Cert.ProjectionsIdeal.main_arg2)
      ∧ r.2.mem ((c.tc : Thread Cert.ProjectionsIdeal.nD Cert.ProjectionsIdeal.τ).loc Cert.ProjectionsIdeal.main_arg3) = m ((c.tc : Thread Cert.ProjectionsIdeal.nD Cert.ProjectionsIdeal.τ).loc Cert.ProjectionsIdeal.main_arg3)
      ∧ r.2.mem ((c.tc : Thread Cert.ProjectionsIdeal.nD Cert.ProjectionsIdeal.τ).loc Cert.ProjectionsIdeal.main_arg4) = m ((c.tc : Thread Cert.ProjectionsIdeal.nD Cert.ProjectionsIdeal.τ).loc Cert.ProjectionsIdeal.main_arg4)
      ∧ r.2.mem ((c.tc : Thread Cert.ProjectionsIdeal.nD Cert.ProjectionsIdeal.τ).loc Cert.ProjectionsIdeal.main_arg5) = m ((c.tc : Thread Cert.ProjectionsIdeal.nD Cert.ProjectionsIdeal.τ).loc Cert.ProjectionsIdeal.main_arg5)
      ∧ r.2.mem ((c.tc : Thread Cert.ProjectionsIdeal.nD Cert.ProjectionsIdeal.τ).loc Cert.ProjectionsIdeal.main_arg6) = m ((c.tc : Thread Cert.ProjectionsIdeal.nD Cert.ProjectionsIdeal.τ).loc Cert.ProjectionsIdeal.main_arg6)
      ∧ r.2.mem ((c.tc : Thread Cert.ProjectionsIdeal.nD Cert.ProjectionsIdeal.τ).loc Cert.ProjectionsIdeal.main_arg7) = m ((c.tc : Thread Cert.ProjectionsIdeal.nD Cert.ProjectionsIdeal.τ).loc Cert.ProjectionsIdeal.main_arg7)
      ∧ r.2.mem ((c.tc : Thread Cert.ProjectionsIdeal.nD Cert.ProjectionsIdeal.τ).loc Cert.ProjectionsIdeal.main_arg8) = m ((c.tc : Thread Cert.ProjectionsIdeal.nD Cert.ProjectionsIdeal.τ).loc Cert.ProjectionsIdeal.main_arg8)
      ∧ r.2.mem ((c.tc : Thread Cert.ProjectionsIdeal.nD Cert.ProjectionsIdeal.τ).loc Cert.ProjectionsIdeal.main_arg9) = m ((c.tc : Thread Cert.ProjectionsIdeal.nD Cert.ProjectionsIdeal.τ).loc Cert.ProjectionsIdeal.main_arg9)
      ∧ r.2.mem ((c.tc : Thread Cert.ProjectionsIdeal.nD Cert.ProjectionsIdeal.τ).loc Cert.ProjectionsIdeal.main_arg10) = m ((c.tc : Thread Cert.ProjectionsIdeal.nD Cert.ProjectionsIdeal.τ).loc Cert.ProjectionsIdeal.main_arg10)
      ∧ r.2.mem ((c.tc : Thread Cert.ProjectionsIdeal.nD Cert.ProjectionsIdeal.τ).loc Cert.ProjectionsIdeal.main_arg11) = m ((c.tc : Thread Cert.ProjectionsIdeal.nD Cert.ProjectionsIdeal.τ).loc Cert.ProjectionsIdeal.main_arg11)
      ∧ r.2.mem ((c.tc : Thread Cert.ProjectionsIdeal.nD Cert.ProjectionsIdeal.τ).loc Cert.ProjectionsIdeal.main_arg12) = m ((c.tc : Thread Cert.ProjectionsIdeal.nD Cert.ProjectionsIdeal.τ).loc Cert.ProjectionsIdeal.main_arg12)
      ∧ r.2.mem ((c.tc : Thread Cert.ProjectionsIdeal.nD Cert.ProjectionsIdeal.τ).loc Cert.ProjectionsIdeal.main_arg13) = m ((c.tc : Thread Cert.ProjectionsIdeal.nD Cert.ProjectionsIdeal.τ).loc Cert.ProjectionsIdeal.main_arg13))
      ∧ r.2.sem = fun _ => 0)

def quiescent_ProjectionsRefIdeal [hProjectionsRefIdeal : Cert.ProjectionsRefIdeal.Facts] : Prop :=
  ∀ (m : (ℓ : Loc Cert.ProjectionsRefIdeal.nD Cert.ProjectionsRefIdeal.τ Cert.ProjectionsRefIdeal.sig) → Buf (Elt Ideal) ℓ) (g : Dev Cert.ProjectionsRefIdeal.nD → PrngReg), Pre_ProjectionsRefIdeal m →
    θ_run (Cert.ProjectionsRefIdeal.defs (F := Ideal)) (onTc (τ := Cert.ProjectionsRefIdeal.τ) (Cert.ProjectionsRefIdeal.main (F := Ideal))) ⟨m, fun _ => 0, g⟩ (fun r => (∀ c : Dev Cert.ProjectionsRefIdeal.nD,
      r.2.mem ((c.tc : Thread Cert.ProjectionsRefIdeal.nD Cert.ProjectionsRefIdeal.τ).loc Cert.ProjectionsRefIdeal.main_arg0) = m ((c.tc : Thread Cert.ProjectionsRefIdeal.nD Cert.ProjectionsRefIdeal.τ).loc Cert.ProjectionsRefIdeal.main_arg0)
      ∧ r.2.mem ((c.tc : Thread Cert.ProjectionsRefIdeal.nD Cert.ProjectionsRefIdeal.τ).loc Cert.ProjectionsRefIdeal.main_arg1) = m ((c.tc : Thread Cert.ProjectionsRefIdeal.nD Cert.ProjectionsRefIdeal.τ).loc Cert.ProjectionsRefIdeal.main_arg1)
      ∧ r.2.mem ((c.tc : Thread Cert.ProjectionsRefIdeal.nD Cert.ProjectionsRefIdeal.τ).loc Cert.ProjectionsRefIdeal.main_arg2) = m ((c.tc : Thread Cert.ProjectionsRefIdeal.nD Cert.ProjectionsRefIdeal.τ).loc Cert.ProjectionsRefIdeal.main_arg2)
      ∧ r.2.mem ((c.tc : Thread Cert.ProjectionsRefIdeal.nD Cert.ProjectionsRefIdeal.τ).loc Cert.ProjectionsRefIdeal.main_arg3) = m ((c.tc : Thread Cert.ProjectionsRefIdeal.nD Cert.ProjectionsRefIdeal.τ).loc Cert.ProjectionsRefIdeal.main_arg3)
      ∧ r.2.mem ((c.tc : Thread Cert.ProjectionsRefIdeal.nD Cert.ProjectionsRefIdeal.τ).loc Cert.ProjectionsRefIdeal.main_arg4) = m ((c.tc : Thread Cert.ProjectionsRefIdeal.nD Cert.ProjectionsRefIdeal.τ).loc Cert.ProjectionsRefIdeal.main_arg4)
      ∧ r.2.mem ((c.tc : Thread Cert.ProjectionsRefIdeal.nD Cert.ProjectionsRefIdeal.τ).loc Cert.ProjectionsRefIdeal.main_arg5) = m ((c.tc : Thread Cert.ProjectionsRefIdeal.nD Cert.ProjectionsRefIdeal.τ).loc Cert.ProjectionsRefIdeal.main_arg5)
      ∧ r.2.mem ((c.tc : Thread Cert.ProjectionsRefIdeal.nD Cert.ProjectionsRefIdeal.τ).loc Cert.ProjectionsRefIdeal.main_arg6) = m ((c.tc : Thread Cert.ProjectionsRefIdeal.nD Cert.ProjectionsRefIdeal.τ).loc Cert.ProjectionsRefIdeal.main_arg6)
      ∧ r.2.mem ((c.tc : Thread Cert.ProjectionsRefIdeal.nD Cert.ProjectionsRefIdeal.τ).loc Cert.ProjectionsRefIdeal.main_arg7) = m ((c.tc : Thread Cert.ProjectionsRefIdeal.nD Cert.ProjectionsRefIdeal.τ).loc Cert.ProjectionsRefIdeal.main_arg7)
      ∧ r.2.mem ((c.tc : Thread Cert.ProjectionsRefIdeal.nD Cert.ProjectionsRefIdeal.τ).loc Cert.ProjectionsRefIdeal.main_arg8) = m ((c.tc : Thread Cert.ProjectionsRefIdeal.nD Cert.ProjectionsRefIdeal.τ).loc Cert.ProjectionsRefIdeal.main_arg8)
      ∧ r.2.mem ((c.tc : Thread Cert.ProjectionsRefIdeal.nD Cert.ProjectionsRefIdeal.τ).loc Cert.ProjectionsRefIdeal.main_arg9) = m ((c.tc : Thread Cert.ProjectionsRefIdeal.nD Cert.ProjectionsRefIdeal.τ).loc Cert.ProjectionsRefIdeal.main_arg9)
      ∧ r.2.mem ((c.tc : Thread Cert.ProjectionsRefIdeal.nD Cert.ProjectionsRefIdeal.τ).loc Cert.ProjectionsRefIdeal.main_arg10) = m ((c.tc : Thread Cert.ProjectionsRefIdeal.nD Cert.ProjectionsRefIdeal.τ).loc Cert.ProjectionsRefIdeal.main_arg10)
      ∧ r.2.mem ((c.tc : Thread Cert.ProjectionsRefIdeal.nD Cert.ProjectionsRefIdeal.τ).loc Cert.ProjectionsRefIdeal.main_arg11) = m ((c.tc : Thread Cert.ProjectionsRefIdeal.nD Cert.ProjectionsRefIdeal.τ).loc Cert.ProjectionsRefIdeal.main_arg11)
      ∧ r.2.mem ((c.tc : Thread Cert.ProjectionsRefIdeal.nD Cert.ProjectionsRefIdeal.τ).loc Cert.ProjectionsRefIdeal.main_arg12) = m ((c.tc : Thread Cert.ProjectionsRefIdeal.nD Cert.ProjectionsRefIdeal.τ).loc Cert.ProjectionsRefIdeal.main_arg12)
      ∧ r.2.mem ((c.tc : Thread Cert.ProjectionsRefIdeal.nD Cert.ProjectionsRefIdeal.τ).loc Cert.ProjectionsRefIdeal.main_arg13) = m ((c.tc : Thread Cert.ProjectionsRefIdeal.nD Cert.ProjectionsRefIdeal.τ).loc Cert.ProjectionsRefIdeal.main_arg13))
      ∧ r.2.sem = fun _ => 0)

def quiescent_AttnOut [hAttnOut : Cert.AttnOut.Facts] : Prop :=
  ∀ (m : (ℓ : Loc Cert.AttnOut.nD Cert.AttnOut.τ Cert.AttnOut.sig) → Buf (Elt Bits) ℓ) (g : Dev Cert.AttnOut.nD → PrngReg), Pre_AttnOut m →
    θ_run (Cert.AttnOut.defs (F := Bits)) (onTc (τ := Cert.AttnOut.τ) (Cert.AttnOut.main (F := Bits))) ⟨m, fun _ => 0, g⟩ (fun r => (∀ c : Dev Cert.AttnOut.nD,
      r.2.mem ((c.tc : Thread Cert.AttnOut.nD Cert.AttnOut.τ).loc Cert.AttnOut.main_arg0) = m ((c.tc : Thread Cert.AttnOut.nD Cert.AttnOut.τ).loc Cert.AttnOut.main_arg0)
      ∧ r.2.mem ((c.tc : Thread Cert.AttnOut.nD Cert.AttnOut.τ).loc Cert.AttnOut.main_arg1) = m ((c.tc : Thread Cert.AttnOut.nD Cert.AttnOut.τ).loc Cert.AttnOut.main_arg1)
      ∧ r.2.mem ((c.tc : Thread Cert.AttnOut.nD Cert.AttnOut.τ).loc Cert.AttnOut.main_arg2) = m ((c.tc : Thread Cert.AttnOut.nD Cert.AttnOut.τ).loc Cert.AttnOut.main_arg2)
      ∧ r.2.mem ((c.tc : Thread Cert.AttnOut.nD Cert.AttnOut.τ).loc Cert.AttnOut.main_arg3) = m ((c.tc : Thread Cert.AttnOut.nD Cert.AttnOut.τ).loc Cert.AttnOut.main_arg3)
      ∧ r.2.mem ((c.tc : Thread Cert.AttnOut.nD Cert.AttnOut.τ).loc Cert.AttnOut.main_arg4) = m ((c.tc : Thread Cert.AttnOut.nD Cert.AttnOut.τ).loc Cert.AttnOut.main_arg4))
      ∧ r.2.sem = fun _ => 0)

def quiescent_AttnOutIdeal [hAttnOutIdeal : Cert.AttnOutIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg), Pre_AttnOutIdeal m →
    θ_run (Cert.AttnOutIdeal.defs (F := Ideal)) (onTc (τ := Cert.AttnOutIdeal.τ) (Cert.AttnOutIdeal.main (F := Ideal))) ⟨m, fun _ => 0, g⟩ (fun r => (∀ c : Dev Cert.AttnOutIdeal.nD,
      r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
      ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
      ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2)
      ∧ r.2.mem ((c.tc : Thread Cert.AttnOutIdeal.nD Cert.AttnOutIdeal.τ).loc Cert.AttnOutIdeal.main_arg3) = m ((c.tc : Thread Cert.AttnOutIdeal.nD Cert.AttnOutIdeal.τ).loc Cert.AttnOutIdeal.main_arg3)
      ∧ r.2.mem ((c.tc : Thread Cert.AttnOutIdeal.nD Cert.AttnOutIdeal.τ).loc Cert.AttnOutIdeal.main_arg4) = m ((c.tc : Thread Cert.AttnOutIdeal.nD Cert.AttnOutIdeal.τ).loc Cert.AttnOutIdeal.main_arg4))
      ∧ r.2.sem = fun _ => 0)

def quiescent_AttnOutRefIdeal [hAttnOutRefIdeal : Cert.AttnOutRefIdeal.Facts] : Prop :=
  ∀ (m : (ℓ : Loc Cert.AttnOutRefIdeal.nD Cert.AttnOutRefIdeal.τ Cert.AttnOutRefIdeal.sig) → Buf (Elt Ideal) ℓ) (g : Dev Cert.AttnOutRefIdeal.nD → PrngReg), Pre_AttnOutRefIdeal m →
    θ_run (Cert.AttnOutRefIdeal.defs (F := Ideal)) (onTc (τ := Cert.AttnOutRefIdeal.τ) (Cert.AttnOutRefIdeal.main (F := Ideal))) ⟨m, fun _ => 0, g⟩ (fun r => (∀ c : Dev Cert.AttnOutRefIdeal.nD,
      r.2.mem ((c.tc : Thread Cert.AttnOutRefIdeal.nD Cert.AttnOutRefIdeal.τ).loc Cert.AttnOutRefIdeal.main_arg0) = m ((c.tc : Thread Cert.AttnOutRefIdeal.nD Cert.AttnOutRefIdeal.τ).loc Cert.AttnOutRefIdeal.main_arg0)
      ∧ r.2.mem ((c.tc : Thread Cert.AttnOutRefIdeal.nD Cert.AttnOutRefIdeal.τ).loc Cert.AttnOutRefIdeal.main_arg1) = m ((c.tc : Thread Cert.AttnOutRefIdeal.nD Cert.AttnOutRefIdeal.τ).loc Cert.AttnOutRefIdeal.main_arg1)
      ∧ r.2.mem ((c.tc : Thread Cert.AttnOutRefIdeal.nD Cert.AttnOutRefIdeal.τ).loc Cert.AttnOutRefIdeal.main_arg2) = m ((c.tc : Thread Cert.AttnOutRefIdeal.nD Cert.AttnOutRefIdeal.τ).loc Cert.AttnOutRefIdeal.main_arg2)
      ∧ r.2.mem ((c.tc : Thread Cert.AttnOutRefIdeal.nD Cert.AttnOutRefIdeal.τ).loc Cert.AttnOutRefIdeal.main_arg3) = m ((c.tc : Thread Cert.AttnOutRefIdeal.nD Cert.AttnOutRefIdeal.τ).loc Cert.AttnOutRefIdeal.main_arg3)
      ∧ r.2.mem ((c.tc : Thread Cert.AttnOutRefIdeal.nD Cert.AttnOutRefIdeal.τ).loc Cert.AttnOutRefIdeal.main_arg4) = m ((c.tc : Thread Cert.AttnOutRefIdeal.nD Cert.AttnOutRefIdeal.τ).loc Cert.AttnOutRefIdeal.main_arg4))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3)
      ∧ r.2.mem ((c.tc : Thread Cert.Combine.nD Cert.Combine.τ).loc Cert.Combine.main_arg4) = m ((c.tc : Thread Cert.Combine.nD Cert.Combine.τ).loc Cert.Combine.main_arg4))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4))
      ∧ r.2.sem = fun _ => 0)

def quiescent_CombineRefIdeal [hCombineRefIdeal : Cert.CombineRefIdeal.Facts] : Prop :=
  ∀ (m : (ℓ : Loc Cert.CombineRefIdeal.nD Cert.CombineRefIdeal.τ Cert.CombineRefIdeal.sig) → Buf (Elt Ideal) ℓ) (g : Dev Cert.CombineRefIdeal.nD → PrngReg), Pre_CombineRefIdeal m →
    θ_run (Cert.CombineRefIdeal.defs (F := Ideal)) (onTc (τ := Cert.CombineRefIdeal.τ) (Cert.CombineRefIdeal.main (F := Ideal))) ⟨m, fun _ => 0, g⟩ (fun r => (∀ c : Dev Cert.CombineRefIdeal.nD,
      r.2.mem ((c.tc : Thread Cert.CombineRefIdeal.nD Cert.CombineRefIdeal.τ).loc Cert.CombineRefIdeal.main_arg0) = m ((c.tc : Thread Cert.CombineRefIdeal.nD Cert.CombineRefIdeal.τ).loc Cert.CombineRefIdeal.main_arg0)
      ∧ r.2.mem ((c.tc : Thread Cert.CombineRefIdeal.nD Cert.CombineRefIdeal.τ).loc Cert.CombineRefIdeal.main_arg1) = m ((c.tc : Thread Cert.CombineRefIdeal.nD Cert.CombineRefIdeal.τ).loc Cert.CombineRefIdeal.main_arg1)
      ∧ r.2.mem ((c.tc : Thread Cert.CombineRefIdeal.nD Cert.CombineRefIdeal.τ).loc Cert.CombineRefIdeal.main_arg2) = m ((c.tc : Thread Cert.CombineRefIdeal.nD Cert.CombineRefIdeal.τ).loc Cert.CombineRefIdeal.main_arg2)
      ∧ r.2.mem ((c.tc : Thread Cert.CombineRefIdeal.nD Cert.CombineRefIdeal.τ).loc Cert.CombineRefIdeal.main_arg3) = m ((c.tc : Thread Cert.CombineRefIdeal.nD Cert.CombineRefIdeal.τ).loc Cert.CombineRefIdeal.main_arg3)
      ∧ r.2.mem ((c.tc : Thread Cert.CombineRefIdeal.nD Cert.CombineRefIdeal.τ).loc Cert.CombineRefIdeal.main_arg4) = m ((c.tc : Thread Cert.CombineRefIdeal.nD Cert.CombineRefIdeal.τ).loc Cert.CombineRefIdeal.main_arg4))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6)
      ∧ r.2.mem ((c.tc : Thread Cert.Qkv.nD Cert.Qkv.τ).loc Cert.Qkv.main_arg7) = m ((c.tc : Thread Cert.Qkv.nD Cert.Qkv.τ).loc Cert.Qkv.main_arg7)
      ∧ r.2.mem ((c.tc : Thread Cert.Qkv.nD Cert.Qkv.τ).loc Cert.Qkv.main_arg8) = m ((c.tc : Thread Cert.Qkv.nD Cert.Qkv.τ).loc Cert.Qkv.main_arg8))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
      ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
      ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6)
      ∧ r.2.mem ((c.tc : Thread Cert.QkvRefIdeal.nD Cert.QkvRefIdeal.τ).loc Cert.QkvRefIdeal.main_arg7) = m ((c.tc : Thread Cert.QkvRefIdeal.nD Cert.QkvRefIdeal.τ).loc Cert.QkvRefIdeal.main_arg7)
      ∧ r.2.mem ((c.tc : Thread Cert.QkvRefIdeal.nD Cert.QkvRefIdeal.τ).loc Cert.QkvRefIdeal.main_arg8) = m ((c.tc : Thread Cert.QkvRefIdeal.nD Cert.QkvRefIdeal.τ).loc Cert.QkvRefIdeal.main_arg8))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Projections_ProjectionsIdeal : Prop :=
  True

def algebraic_ProjectionsIdeal_ProjectionsRefIdeal [hProjectionsIdeal : Cert.ProjectionsIdeal.Facts] [hProjectionsRefIdeal : Cert.ProjectionsRefIdeal.Facts] : Prop :=
  ∀ (m : (ℓ : Loc Cert.ProjectionsIdeal.nD Cert.ProjectionsIdeal.τ Cert.ProjectionsIdeal.sig) → Buf (Elt Ideal) ℓ) (g : Dev Cert.ProjectionsIdeal.nD → PrngReg)
    (m' : (ℓ : Loc Cert.ProjectionsRefIdeal.nD Cert.ProjectionsRefIdeal.τ Cert.ProjectionsRefIdeal.sig) → Buf (Elt Ideal) ℓ) (g' : Dev Cert.ProjectionsRefIdeal.nD → PrngReg), Pre_ProjectionsIdeal m →
    (∀ c : Dev Cert.ProjectionsIdeal.nD,
      m' ((c.tc : Thread Cert.ProjectionsRefIdeal.nD Cert.ProjectionsRefIdeal.τ).loc Cert.ProjectionsRefIdeal.main_arg0) = m ((c.tc : Thread Cert.ProjectionsIdeal.nD Cert.ProjectionsIdeal.τ).loc Cert.ProjectionsIdeal.main_arg0)
      ∧ m' ((c.tc : Thread Cert.ProjectionsRefIdeal.nD Cert.ProjectionsRefIdeal.τ).loc Cert.ProjectionsRefIdeal.main_arg1) = m ((c.tc : Thread Cert.ProjectionsIdeal.nD Cert.ProjectionsIdeal.τ).loc Cert.ProjectionsIdeal.main_arg1)
      ∧ m' ((c.tc : Thread Cert.ProjectionsRefIdeal.nD Cert.ProjectionsRefIdeal.τ).loc Cert.ProjectionsRefIdeal.main_arg2) = m ((c.tc : Thread Cert.ProjectionsIdeal.nD Cert.ProjectionsIdeal.τ).loc Cert.ProjectionsIdeal.main_arg2)
      ∧ m' ((c.tc : Thread Cert.ProjectionsRefIdeal.nD Cert.ProjectionsRefIdeal.τ).loc Cert.ProjectionsRefIdeal.main_arg3) = m ((c.tc : Thread Cert.ProjectionsIdeal.nD Cert.ProjectionsIdeal.τ).loc Cert.ProjectionsIdeal.main_arg3)
      ∧ m' ((c.tc : Thread Cert.ProjectionsRefIdeal.nD Cert.ProjectionsRefIdeal.τ).loc Cert.ProjectionsRefIdeal.main_arg4) = m ((c.tc : Thread Cert.ProjectionsIdeal.nD Cert.ProjectionsIdeal.τ).loc Cert.ProjectionsIdeal.main_arg4)
      ∧ m' ((c.tc : Thread Cert.ProjectionsRefIdeal.nD Cert.ProjectionsRefIdeal.τ).loc Cert.ProjectionsRefIdeal.main_arg5) = m ((c.tc : Thread Cert.ProjectionsIdeal.nD Cert.ProjectionsIdeal.τ).loc Cert.ProjectionsIdeal.main_arg5)
      ∧ m' ((c.tc : Thread Cert.ProjectionsRefIdeal.nD Cert.ProjectionsRefIdeal.τ).loc Cert.ProjectionsRefIdeal.main_arg6) = m ((c.tc : Thread Cert.ProjectionsIdeal.nD Cert.ProjectionsIdeal.τ).loc Cert.ProjectionsIdeal.main_arg6)
      ∧ m' ((c.tc : Thread Cert.ProjectionsRefIdeal.nD Cert.ProjectionsRefIdeal.τ).loc Cert.ProjectionsRefIdeal.main_arg7) = m ((c.tc : Thread Cert.ProjectionsIdeal.nD Cert.ProjectionsIdeal.τ).loc Cert.ProjectionsIdeal.main_arg7)
      ∧ m' ((c.tc : Thread Cert.ProjectionsRefIdeal.nD Cert.ProjectionsRefIdeal.τ).loc Cert.ProjectionsRefIdeal.main_arg8) = m ((c.tc : Thread Cert.ProjectionsIdeal.nD Cert.ProjectionsIdeal.τ).loc Cert.ProjectionsIdeal.main_arg8)
      ∧ m' ((c.tc : Thread Cert.ProjectionsRefIdeal.nD Cert.ProjectionsRefIdeal.τ).loc Cert.ProjectionsRefIdeal.main_arg9) = m ((c.tc : Thread Cert.ProjectionsIdeal.nD Cert.ProjectionsIdeal.τ).loc Cert.ProjectionsIdeal.main_arg9)
      ∧ m' ((c.tc : Thread Cert.ProjectionsRefIdeal.nD Cert.ProjectionsRefIdeal.τ).loc Cert.ProjectionsRefIdeal.main_arg10) = m ((c.tc : Thread Cert.ProjectionsIdeal.nD Cert.ProjectionsIdeal.τ).loc Cert.ProjectionsIdeal.main_arg10)
      ∧ m' ((c.tc : Thread Cert.ProjectionsRefIdeal.nD Cert.ProjectionsRefIdeal.τ).loc Cert.ProjectionsRefIdeal.main_arg11) = m ((c.tc : Thread Cert.ProjectionsIdeal.nD Cert.ProjectionsIdeal.τ).loc Cert.ProjectionsIdeal.main_arg11)
      ∧ m' ((c.tc : Thread Cert.ProjectionsRefIdeal.nD Cert.ProjectionsRefIdeal.τ).loc Cert.ProjectionsRefIdeal.main_arg12) = m ((c.tc : Thread Cert.ProjectionsIdeal.nD Cert.ProjectionsIdeal.τ).loc Cert.ProjectionsIdeal.main_arg12)
      ∧ m' ((c.tc : Thread Cert.ProjectionsRefIdeal.nD Cert.ProjectionsRefIdeal.τ).loc Cert.ProjectionsRefIdeal.main_arg13) = m ((c.tc : Thread Cert.ProjectionsIdeal.nD Cert.ProjectionsIdeal.τ).loc Cert.ProjectionsIdeal.main_arg13)) →
    ∃ (v0 : (c : Dev Cert.ProjectionsIdeal.nD) → Buf (Elt Ideal) ((c.tc : Thread Cert.ProjectionsIdeal.nD Cert.ProjectionsIdeal.τ).loc Cert.ProjectionsIdeal.main_v28)),
      θ_run (Cert.ProjectionsIdeal.defs (F := Ideal)) (onTc (τ := Cert.ProjectionsIdeal.τ) (Cert.ProjectionsIdeal.main (F := Ideal))) ⟨m, fun _ => 0, g⟩ (fun r => ∀ c : Dev Cert.ProjectionsIdeal.nD,
          r.2.mem ((c.tc : Thread Cert.ProjectionsIdeal.nD Cert.ProjectionsIdeal.τ).loc Cert.ProjectionsIdeal.main_v28) = v0 c
          ∧ r.2.mem ((c.tc : Thread Cert.ProjectionsIdeal.nD Cert.ProjectionsIdeal.τ).loc Cert.ProjectionsIdeal.main_arg0) = m ((c.tc : Thread Cert.ProjectionsIdeal.nD Cert.ProjectionsIdeal.τ).loc Cert.ProjectionsIdeal.main_arg0)
          ∧ r.2.mem ((c.tc : Thread Cert.ProjectionsIdeal.nD Cert.ProjectionsIdeal.τ).loc Cert.ProjectionsIdeal.main_arg1) = m ((c.tc : Thread Cert.ProjectionsIdeal.nD Cert.ProjectionsIdeal.τ).loc Cert.ProjectionsIdeal.main_arg1)
          ∧ r.2.mem ((c.tc : Thread Cert.ProjectionsIdeal.nD Cert.ProjectionsIdeal.τ).loc Cert.ProjectionsIdeal.main_arg2) = m ((c.tc : Thread Cert.ProjectionsIdeal.nD Cert.ProjectionsIdeal.τ).loc Cert.ProjectionsIdeal.main_arg2)
          ∧ r.2.mem ((c.tc : Thread Cert.ProjectionsIdeal.nD Cert.ProjectionsIdeal.τ).loc Cert.ProjectionsIdeal.main_arg3) = m ((c.tc : Thread Cert.ProjectionsIdeal.nD Cert.ProjectionsIdeal.τ).loc Cert.ProjectionsIdeal.main_arg3)
          ∧ r.2.mem ((c.tc : Thread Cert.ProjectionsIdeal.nD Cert.ProjectionsIdeal.τ).loc Cert.ProjectionsIdeal.main_arg4) = m ((c.tc : Thread Cert.ProjectionsIdeal.nD Cert.ProjectionsIdeal.τ).loc Cert.ProjectionsIdeal.main_arg4)
          ∧ r.2.mem ((c.tc : Thread Cert.ProjectionsIdeal.nD Cert.ProjectionsIdeal.τ).loc Cert.ProjectionsIdeal.main_arg5) = m ((c.tc : Thread Cert.ProjectionsIdeal.nD Cert.ProjectionsIdeal.τ).loc Cert.ProjectionsIdeal.main_arg5)
          ∧ r.2.mem ((c.tc : Thread Cert.ProjectionsIdeal.nD Cert.ProjectionsIdeal.τ).loc Cert.ProjectionsIdeal.main_arg6) = m ((c.tc : Thread Cert.ProjectionsIdeal.nD Cert.ProjectionsIdeal.τ).loc Cert.ProjectionsIdeal.main_arg6)
          ∧ r.2.mem ((c.tc : Thread Cert.ProjectionsIdeal.nD Cert.ProjectionsIdeal.τ).loc Cert.ProjectionsIdeal.main_arg7) = m ((c.tc : Thread Cert.ProjectionsIdeal.nD Cert.ProjectionsIdeal.τ).loc Cert.ProjectionsIdeal.main_arg7)
          ∧ r.2.mem ((c.tc : Thread Cert.ProjectionsIdeal.nD Cert.ProjectionsIdeal.τ).loc Cert.ProjectionsIdeal.main_arg8) = m ((c.tc : Thread Cert.ProjectionsIdeal.nD Cert.ProjectionsIdeal.τ).loc Cert.ProjectionsIdeal.main_arg8)
          ∧ r.2.mem ((c.tc : Thread Cert.ProjectionsIdeal.nD Cert.ProjectionsIdeal.τ).loc Cert.ProjectionsIdeal.main_arg9) = m ((c.tc : Thread Cert.ProjectionsIdeal.nD Cert.ProjectionsIdeal.τ).loc Cert.ProjectionsIdeal.main_arg9)
          ∧ r.2.mem ((c.tc : Thread Cert.ProjectionsIdeal.nD Cert.ProjectionsIdeal.τ).loc Cert.ProjectionsIdeal.main_arg10) = m ((c.tc : Thread Cert.ProjectionsIdeal.nD Cert.ProjectionsIdeal.τ).loc Cert.ProjectionsIdeal.main_arg10)
          ∧ r.2.mem ((c.tc : Thread Cert.ProjectionsIdeal.nD Cert.ProjectionsIdeal.τ).loc Cert.ProjectionsIdeal.main_arg11) = m ((c.tc : Thread Cert.ProjectionsIdeal.nD Cert.ProjectionsIdeal.τ).loc Cert.ProjectionsIdeal.main_arg11)
          ∧ r.2.mem ((c.tc : Thread Cert.ProjectionsIdeal.nD Cert.ProjectionsIdeal.τ).loc Cert.ProjectionsIdeal.main_arg12) = m ((c.tc : Thread Cert.ProjectionsIdeal.nD Cert.ProjectionsIdeal.τ).loc Cert.ProjectionsIdeal.main_arg12)
          ∧ r.2.mem ((c.tc : Thread Cert.ProjectionsIdeal.nD Cert.ProjectionsIdeal.τ).loc Cert.ProjectionsIdeal.main_arg13) = m ((c.tc : Thread Cert.ProjectionsIdeal.nD Cert.ProjectionsIdeal.τ).loc Cert.ProjectionsIdeal.main_arg13))
      ∧ θ_run (Cert.ProjectionsRefIdeal.defs (F := Ideal)) (onTc (τ := Cert.ProjectionsRefIdeal.τ) (Cert.ProjectionsRefIdeal.main (F := Ideal))) ⟨m', fun _ => 0, g'⟩ (fun r => ∀ c : Dev Cert.ProjectionsRefIdeal.nD,
          r.2.mem ((c.tc : Thread Cert.ProjectionsRefIdeal.nD Cert.ProjectionsRefIdeal.τ).loc Cert.ProjectionsRefIdeal.main_v90) = v0 c
          ∧ r.2.mem ((c.tc : Thread Cert.ProjectionsRefIdeal.nD Cert.ProjectionsRefIdeal.τ).loc Cert.ProjectionsRefIdeal.main_arg0) = m' ((c.tc : Thread Cert.ProjectionsRefIdeal.nD Cert.ProjectionsRefIdeal.τ).loc Cert.ProjectionsRefIdeal.main_arg0)
          ∧ r.2.mem ((c.tc : Thread Cert.ProjectionsRefIdeal.nD Cert.ProjectionsRefIdeal.τ).loc Cert.ProjectionsRefIdeal.main_arg1) = m' ((c.tc : Thread Cert.ProjectionsRefIdeal.nD Cert.ProjectionsRefIdeal.τ).loc Cert.ProjectionsRefIdeal.main_arg1)
          ∧ r.2.mem ((c.tc : Thread Cert.ProjectionsRefIdeal.nD Cert.ProjectionsRefIdeal.τ).loc Cert.ProjectionsRefIdeal.main_arg2) = m' ((c.tc : Thread Cert.ProjectionsRefIdeal.nD Cert.ProjectionsRefIdeal.τ).loc Cert.ProjectionsRefIdeal.main_arg2)
          ∧ r.2.mem ((c.tc : Thread Cert.ProjectionsRefIdeal.nD Cert.ProjectionsRefIdeal.τ).loc Cert.ProjectionsRefIdeal.main_arg3) = m' ((c.tc : Thread Cert.ProjectionsRefIdeal.nD Cert.ProjectionsRefIdeal.τ).loc Cert.ProjectionsRefIdeal.main_arg3)
          ∧ r.2.mem ((c.tc : Thread Cert.ProjectionsRefIdeal.nD Cert.ProjectionsRefIdeal.τ).loc Cert.ProjectionsRefIdeal.main_arg4) = m' ((c.tc : Thread Cert.ProjectionsRefIdeal.nD Cert.ProjectionsRefIdeal.τ).loc Cert.ProjectionsRefIdeal.main_arg4)
          ∧ r.2.mem ((c.tc : Thread Cert.ProjectionsRefIdeal.nD Cert.ProjectionsRefIdeal.τ).loc Cert.ProjectionsRefIdeal.main_arg5) = m' ((c.tc : Thread Cert.ProjectionsRefIdeal.nD Cert.ProjectionsRefIdeal.τ).loc Cert.ProjectionsRefIdeal.main_arg5)
          ∧ r.2.mem ((c.tc : Thread Cert.ProjectionsRefIdeal.nD Cert.ProjectionsRefIdeal.τ).loc Cert.ProjectionsRefIdeal.main_arg6) = m' ((c.tc : Thread Cert.ProjectionsRefIdeal.nD Cert.ProjectionsRefIdeal.τ).loc Cert.ProjectionsRefIdeal.main_arg6)
          ∧ r.2.mem ((c.tc : Thread Cert.ProjectionsRefIdeal.nD Cert.ProjectionsRefIdeal.τ).loc Cert.ProjectionsRefIdeal.main_arg7) = m' ((c.tc : Thread Cert.ProjectionsRefIdeal.nD Cert.ProjectionsRefIdeal.τ).loc Cert.ProjectionsRefIdeal.main_arg7)
          ∧ r.2.mem ((c.tc : Thread Cert.ProjectionsRefIdeal.nD Cert.ProjectionsRefIdeal.τ).loc Cert.ProjectionsRefIdeal.main_arg8) = m' ((c.tc : Thread Cert.ProjectionsRefIdeal.nD Cert.ProjectionsRefIdeal.τ).loc Cert.ProjectionsRefIdeal.main_arg8)
          ∧ r.2.mem ((c.tc : Thread Cert.ProjectionsRefIdeal.nD Cert.ProjectionsRefIdeal.τ).loc Cert.ProjectionsRefIdeal.main_arg9) = m' ((c.tc : Thread Cert.ProjectionsRefIdeal.nD Cert.ProjectionsRefIdeal.τ).loc Cert.ProjectionsRefIdeal.main_arg9)
          ∧ r.2.mem ((c.tc : Thread Cert.ProjectionsRefIdeal.nD Cert.ProjectionsRefIdeal.τ).loc Cert.ProjectionsRefIdeal.main_arg10) = m' ((c.tc : Thread Cert.ProjectionsRefIdeal.nD Cert.ProjectionsRefIdeal.τ).loc Cert.ProjectionsRefIdeal.main_arg10)
          ∧ r.2.mem ((c.tc : Thread Cert.ProjectionsRefIdeal.nD Cert.ProjectionsRefIdeal.τ).loc Cert.ProjectionsRefIdeal.main_arg11) = m' ((c.tc : Thread Cert.ProjectionsRefIdeal.nD Cert.ProjectionsRefIdeal.τ).loc Cert.ProjectionsRefIdeal.main_arg11)
          ∧ r.2.mem ((c.tc : Thread Cert.ProjectionsRefIdeal.nD Cert.ProjectionsRefIdeal.τ).loc Cert.ProjectionsRefIdeal.main_arg12) = m' ((c.tc : Thread Cert.ProjectionsRefIdeal.nD Cert.ProjectionsRefIdeal.τ).loc Cert.ProjectionsRefIdeal.main_arg12)
          ∧ r.2.mem ((c.tc : Thread Cert.ProjectionsRefIdeal.nD Cert.ProjectionsRefIdeal.τ).loc Cert.ProjectionsRefIdeal.main_arg13) = m' ((c.tc : Thread Cert.ProjectionsRefIdeal.nD Cert.ProjectionsRefIdeal.τ).loc Cert.ProjectionsRefIdeal.main_arg13))

def preserves_AttnOut_AttnOutIdeal : Prop :=
  True

def algebraic_AttnOutIdeal_AttnOutRefIdeal [hAttnOutIdeal : Cert.AttnOutIdeal.Facts] [hAttnOutRefIdeal : Cert.AttnOutRefIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg)
    (m' : (ℓ : Loc Cert.AttnOutRefIdeal.nD Cert.AttnOutRefIdeal.τ Cert.AttnOutRefIdeal.sig) → Buf (Elt Ideal) ℓ) (g' : Dev Cert.AttnOutRefIdeal.nD → PrngReg), Pre_AttnOutIdeal m →
    (∀ c : Dev Cert.AttnOutIdeal.nD,
      m' ((c.tc : Thread Cert.AttnOutRefIdeal.nD Cert.AttnOutRefIdeal.τ).loc Cert.AttnOutRefIdeal.main_arg0) = m ((c.tc : Thread Cert.AttnOutIdeal.nD Cert.AttnOutIdeal.τ).loc Cert.AttnOutIdeal.main_arg0)
      ∧ m' ((c.tc : Thread Cert.AttnOutRefIdeal.nD Cert.AttnOutRefIdeal.τ).loc Cert.AttnOutRefIdeal.main_arg1) = m ((c.tc : Thread Cert.AttnOutIdeal.nD Cert.AttnOutIdeal.τ).loc Cert.AttnOutIdeal.main_arg1)
      ∧ m' ((c.tc : Thread Cert.AttnOutRefIdeal.nD Cert.AttnOutRefIdeal.τ).loc Cert.AttnOutRefIdeal.main_arg2) = m ((c.tc : Thread Cert.AttnOutIdeal.nD Cert.AttnOutIdeal.τ).loc Cert.AttnOutIdeal.main_arg2)
      ∧ m' ((c.tc : Thread Cert.AttnOutRefIdeal.nD Cert.AttnOutRefIdeal.τ).loc Cert.AttnOutRefIdeal.main_arg3) = m ((c.tc : Thread Cert.AttnOutIdeal.nD Cert.AttnOutIdeal.τ).loc Cert.AttnOutIdeal.main_arg3)
      ∧ m' ((c.tc : Thread Cert.AttnOutRefIdeal.nD Cert.AttnOutRefIdeal.τ).loc Cert.AttnOutRefIdeal.main_arg4) = m ((c.tc : Thread Cert.AttnOutIdeal.nD Cert.AttnOutIdeal.τ).loc Cert.AttnOutIdeal.main_arg4)) →
    ∃ (v0 : (c : Dev Cert.AttnOutIdeal.nD) → Buf (Elt Ideal) ((c.tc : Thread Cert.AttnOutIdeal.nD Cert.AttnOutIdeal.τ).loc Cert.AttnOutIdeal.main_v3)),
      θ_run (Cert.AttnOutIdeal.defs (F := Ideal)) (onTc (τ := Cert.AttnOutIdeal.τ) (Cert.AttnOutIdeal.main (F := Ideal))) ⟨m, fun _ => 0, g⟩ (fun r => ∀ c : Dev Cert.AttnOutIdeal.nD,
          r.2.mem ((c.tc : Thread Cert.AttnOutIdeal.nD Cert.AttnOutIdeal.τ).loc Cert.AttnOutIdeal.main_v3) = v0 c
          ∧ r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
          ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
          ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2)
          ∧ r.2.mem ((c.tc : Thread Cert.AttnOutIdeal.nD Cert.AttnOutIdeal.τ).loc Cert.AttnOutIdeal.main_arg3) = m ((c.tc : Thread Cert.AttnOutIdeal.nD Cert.AttnOutIdeal.τ).loc Cert.AttnOutIdeal.main_arg3)
          ∧ r.2.mem ((c.tc : Thread Cert.AttnOutIdeal.nD Cert.AttnOutIdeal.τ).loc Cert.AttnOutIdeal.main_arg4) = m ((c.tc : Thread Cert.AttnOutIdeal.nD Cert.AttnOutIdeal.τ).loc Cert.AttnOutIdeal.main_arg4))
      ∧ θ_run (Cert.AttnOutRefIdeal.defs (F := Ideal)) (onTc (τ := Cert.AttnOutRefIdeal.τ) (Cert.AttnOutRefIdeal.main (F := Ideal))) ⟨m', fun _ => 0, g'⟩ (fun r => ∀ c : Dev Cert.AttnOutRefIdeal.nD,
          r.2.mem ((c.tc : Thread Cert.AttnOutRefIdeal.nD Cert.AttnOutRefIdeal.τ).loc Cert.AttnOutRefIdeal.main_v8) = v0 c
          ∧ r.2.mem ((c.tc : Thread Cert.AttnOutRefIdeal.nD Cert.AttnOutRefIdeal.τ).loc Cert.AttnOutRefIdeal.main_arg0) = m' ((c.tc : Thread Cert.AttnOutRefIdeal.nD Cert.AttnOutRefIdeal.τ).loc Cert.AttnOutRefIdeal.main_arg0)
          ∧ r.2.mem ((c.tc : Thread Cert.AttnOutRefIdeal.nD Cert.AttnOutRefIdeal.τ).loc Cert.AttnOutRefIdeal.main_arg1) = m' ((c.tc : Thread Cert.AttnOutRefIdeal.nD Cert.AttnOutRefIdeal.τ).loc Cert.AttnOutRefIdeal.main_arg1)
          ∧ r.2.mem ((c.tc : Thread Cert.AttnOutRefIdeal.nD Cert.AttnOutRefIdeal.τ).loc Cert.AttnOutRefIdeal.main_arg2) = m' ((c.tc : Thread Cert.AttnOutRefIdeal.nD Cert.AttnOutRefIdeal.τ).loc Cert.AttnOutRefIdeal.main_arg2)
          ∧ r.2.mem ((c.tc : Thread Cert.AttnOutRefIdeal.nD Cert.AttnOutRefIdeal.τ).loc Cert.AttnOutRefIdeal.main_arg3) = m' ((c.tc : Thread Cert.AttnOutRefIdeal.nD Cert.AttnOutRefIdeal.τ).loc Cert.AttnOutRefIdeal.main_arg3)
          ∧ r.2.mem ((c.tc : Thread Cert.AttnOutRefIdeal.nD Cert.AttnOutRefIdeal.τ).loc Cert.AttnOutRefIdeal.main_arg4) = m' ((c.tc : Thread Cert.AttnOutRefIdeal.nD Cert.AttnOutRefIdeal.τ).loc Cert.AttnOutRefIdeal.main_arg4))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)) →
    ∃ (v0 : (c : Dev Cert.MixOutIdeal.nD) → Buf (Elt Ideal) ((c.tc : Thread Cert.MixOutIdeal.nD Cert.MixOutIdeal.τ).loc Cert.MixOutIdeal.main_v4)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v4) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v6) = v0 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3))

def preserves_Combine_CombineIdeal : Prop :=
  True

def algebraic_CombineIdeal_CombineRefIdeal [hCombineIdeal : Cert.CombineIdeal.Facts] [hCombineRefIdeal : Cert.CombineRefIdeal.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineRefIdeal.nD Cert.CombineRefIdeal.τ Cert.CombineRefIdeal.sig) → Buf (Elt Ideal) ℓ) (g' : Dev Cert.CombineRefIdeal.nD → PrngReg), Pre_CombineIdeal m →
    (∀ c : Dev Cert.CombineIdeal.nD,
      m' ((c.tc : Thread Cert.CombineRefIdeal.nD Cert.CombineRefIdeal.τ).loc Cert.CombineRefIdeal.main_arg0) = m ((c.tc : Thread Cert.CombineIdeal.nD Cert.CombineIdeal.τ).loc Cert.CombineIdeal.main_arg0)
      ∧ m' ((c.tc : Thread Cert.CombineRefIdeal.nD Cert.CombineRefIdeal.τ).loc Cert.CombineRefIdeal.main_arg1) = m ((c.tc : Thread Cert.CombineIdeal.nD Cert.CombineIdeal.τ).loc Cert.CombineIdeal.main_arg1)
      ∧ m' ((c.tc : Thread Cert.CombineRefIdeal.nD Cert.CombineRefIdeal.τ).loc Cert.CombineRefIdeal.main_arg2) = m ((c.tc : Thread Cert.CombineIdeal.nD Cert.CombineIdeal.τ).loc Cert.CombineIdeal.main_arg2)
      ∧ m' ((c.tc : Thread Cert.CombineRefIdeal.nD Cert.CombineRefIdeal.τ).loc Cert.CombineRefIdeal.main_arg3) = m ((c.tc : Thread Cert.CombineIdeal.nD Cert.CombineIdeal.τ).loc Cert.CombineIdeal.main_arg3)
      ∧ m' ((c.tc : Thread Cert.CombineRefIdeal.nD Cert.CombineRefIdeal.τ).loc Cert.CombineRefIdeal.main_arg4) = m ((c.tc : Thread Cert.CombineIdeal.nD Cert.CombineIdeal.τ).loc Cert.CombineIdeal.main_arg4)) →
    ∃ (v0 : (c : Dev Cert.CombineIdeal.nD) → Buf (Elt Ideal) ((c.tc : Thread Cert.CombineIdeal.nD Cert.CombineIdeal.τ).loc Cert.CombineIdeal.main_v2)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v2) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
          ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4))
      ∧ θ_run (Cert.CombineRefIdeal.defs (F := Ideal)) (onTc (τ := Cert.CombineRefIdeal.τ) (Cert.CombineRefIdeal.main (F := Ideal))) ⟨m', fun _ => 0, g'⟩ (fun r => ∀ c : Dev Cert.CombineRefIdeal.nD,
          r.2.mem ((c.tc : Thread Cert.CombineRefIdeal.nD Cert.CombineRefIdeal.τ).loc Cert.CombineRefIdeal.main_v13) = v0 c
          ∧ r.2.mem ((c.tc : Thread Cert.CombineRefIdeal.nD Cert.CombineRefIdeal.τ).loc Cert.CombineRefIdeal.main_arg0) = m' ((c.tc : Thread Cert.CombineRefIdeal.nD Cert.CombineRefIdeal.τ).loc Cert.CombineRefIdeal.main_arg0)
          ∧ r.2.mem ((c.tc : Thread Cert.CombineRefIdeal.nD Cert.CombineRefIdeal.τ).loc Cert.CombineRefIdeal.main_arg1) = m' ((c.tc : Thread Cert.CombineRefIdeal.nD Cert.CombineRefIdeal.τ).loc Cert.CombineRefIdeal.main_arg1)
          ∧ r.2.mem ((c.tc : Thread Cert.CombineRefIdeal.nD Cert.CombineRefIdeal.τ).loc Cert.CombineRefIdeal.main_arg2) = m' ((c.tc : Thread Cert.CombineRefIdeal.nD Cert.CombineRefIdeal.τ).loc Cert.CombineRefIdeal.main_arg2)
          ∧ r.2.mem ((c.tc : Thread Cert.CombineRefIdeal.nD Cert.CombineRefIdeal.τ).loc Cert.CombineRefIdeal.main_arg3) = m' ((c.tc : Thread Cert.CombineRefIdeal.nD Cert.CombineRefIdeal.τ).loc Cert.CombineRefIdeal.main_arg3)
          ∧ r.2.mem ((c.tc : Thread Cert.CombineRefIdeal.nD Cert.CombineRefIdeal.τ).loc Cert.CombineRefIdeal.main_arg4) = m' ((c.tc : Thread Cert.CombineRefIdeal.nD Cert.CombineRefIdeal.τ).loc Cert.CombineRefIdeal.main_arg4))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)
      ∧ m' ((c.tc : Thread Cert.QkvRefIdeal.nD Cert.QkvRefIdeal.τ).loc Cert.QkvRefIdeal.main_arg6) = m ((c.tc : Thread Cert.QkvIdeal.nD Cert.QkvIdeal.τ).loc Cert.QkvIdeal.main_arg6)
      ∧ m' ((c.tc : Thread Cert.QkvRefIdeal.nD Cert.QkvRefIdeal.τ).loc Cert.QkvRefIdeal.main_arg7) = m ((c.tc : Thread Cert.QkvIdeal.nD Cert.QkvIdeal.τ).loc Cert.QkvIdeal.main_arg7)
      ∧ m' ((c.tc : Thread Cert.QkvRefIdeal.nD Cert.QkvRefIdeal.τ).loc Cert.QkvRefIdeal.main_arg8) = m ((c.tc : Thread Cert.QkvIdeal.nD Cert.QkvIdeal.τ).loc Cert.QkvIdeal.main_arg8)) →
    ∃ (v0 : (c : Dev Cert.QkvIdeal.nD) → Buf (Elt Ideal) ((c.tc : Thread Cert.QkvIdeal.nD Cert.QkvIdeal.τ).loc Cert.QkvIdeal.main_v59)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v59) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
          ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
          ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v207) = v0 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5)
          ∧ r.2.mem ((c.tc : Thread Cert.QkvRefIdeal.nD Cert.QkvRefIdeal.τ).loc Cert.QkvRefIdeal.main_arg6) = m' ((c.tc : Thread Cert.QkvRefIdeal.nD Cert.QkvRefIdeal.τ).loc Cert.QkvRefIdeal.main_arg6)
          ∧ r.2.mem ((c.tc : Thread Cert.QkvRefIdeal.nD Cert.QkvRefIdeal.τ).loc Cert.QkvRefIdeal.main_arg7) = m' ((c.tc : Thread Cert.QkvRefIdeal.nD Cert.QkvRefIdeal.τ).loc Cert.QkvRefIdeal.main_arg7)
          ∧ r.2.mem ((c.tc : Thread Cert.QkvRefIdeal.nD Cert.QkvRefIdeal.τ).loc Cert.QkvRefIdeal.main_arg8) = m' ((c.tc : Thread Cert.QkvRefIdeal.nD Cert.QkvRefIdeal.τ).loc Cert.QkvRefIdeal.main_arg8))

def Claim : Prop :=
  ∃ (hKernel : Cert.Kernel.Facts) (hKernelIdeal : Cert.KernelIdeal.Facts) (hReferenceIdeal : Cert.ReferenceIdeal.Facts) (hProjections : Cert.Projections.Facts) (hProjectionsIdeal : Cert.ProjectionsIdeal.Facts) (hProjectionsRefIdeal : Cert.ProjectionsRefIdeal.Facts) (hAttnOut : Cert.AttnOut.Facts) (hAttnOutIdeal : Cert.AttnOutIdeal.Facts) (hAttnOutRefIdeal : Cert.AttnOutRefIdeal.Facts) (hMixOut : Cert.MixOut.Facts) (hMixOutIdeal : Cert.MixOutIdeal.Facts) (hMixOutRefIdeal : Cert.MixOutRefIdeal.Facts) (hCombine : Cert.Combine.Facts) (hCombineIdeal : Cert.CombineIdeal.Facts) (hCombineRefIdeal : Cert.CombineRefIdeal.Facts) (hQkv : Cert.Qkv.Facts) (hQkvIdeal : Cert.QkvIdeal.Facts) (hQkvRefIdeal : Cert.QkvRefIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Projections (hProjections := hProjections)
    ∧ quiescent_ProjectionsIdeal (hProjectionsIdeal := hProjectionsIdeal)
    ∧ quiescent_ProjectionsRefIdeal (hProjectionsRefIdeal := hProjectionsRefIdeal)
    ∧ quiescent_AttnOut (hAttnOut := hAttnOut)
    ∧ quiescent_AttnOutIdeal (hAttnOutIdeal := hAttnOutIdeal)
    ∧ quiescent_AttnOutRefIdeal (hAttnOutRefIdeal := hAttnOutRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_Combine (hCombine := hCombine)
    ∧ quiescent_CombineIdeal (hCombineIdeal := hCombineIdeal)
    ∧ quiescent_CombineRefIdeal (hCombineRefIdeal := hCombineRefIdeal)
    ∧ quiescent_Qkv (hQkv := hQkv)
    ∧ quiescent_QkvIdeal (hQkvIdeal := hQkvIdeal)
    ∧ quiescent_QkvRefIdeal (hQkvRefIdeal := hQkvRefIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Projections_ProjectionsIdeal
    ∧ algebraic_ProjectionsIdeal_ProjectionsRefIdeal (hProjectionsIdeal := hProjectionsIdeal) (hProjectionsRefIdeal := hProjectionsRefIdeal)
    ∧ preserves_AttnOut_AttnOutIdeal
    ∧ algebraic_AttnOutIdeal_AttnOutRefIdeal (hAttnOutIdeal := hAttnOutIdeal) (hAttnOutRefIdeal := hAttnOutRefIdeal)
    ∧ preserves_MixOut_MixOutIdeal
    ∧ algebraic_MixOutIdeal_MixOutRefIdeal (hMixOutIdeal := hMixOutIdeal) (hMixOutRefIdeal := hMixOutRefIdeal)
    ∧ preserves_Combine_CombineIdeal
    ∧ algebraic_CombineIdeal_CombineRefIdeal (hCombineIdeal := hCombineIdeal) (hCombineRefIdeal := hCombineRefIdeal)
    ∧ preserves_Qkv_QkvIdeal
    ∧ algebraic_QkvIdeal_QkvRefIdeal (hQkvIdeal := hQkvIdeal) (hQkvRefIdeal := hQkvRefIdeal)
-- ==== Pre_finite_scores.lean ====
abbrev S2x16384x4608 : Shape := ⟨3, ![2, 16384, 4608]⟩
abbrev S2x256x4608 : Shape := ⟨3, ![2, 256, 4608]⟩
abbrev S8 : Shape := ⟨1, ![8]⟩
abbrev S2x16384x1280 : Shape := ⟨3, ![2, 16384, 1280]⟩
abbrev S_ : Shape := ⟨0, ![]⟩
abbrev S2x256x256 : Shape := ⟨3, ![2, 256, 256]⟩

class Facts : Prop where
  slices_S2x16384x4608_S2x16384x1280_0_0_0 : S2x16384x4608.Slices ![0, 0, 0] S2x16384x1280
  bitsLt_bf16_f32 : FTy.bits .bf16 < FTy.bits .f32
  bcast_S_S2x16384x1280 : S_.BroadcastsInDim S2x16384x1280 (![] : Fin 0 → Fin S2x16384x1280.rank)
  reducesTo_S2x16384x1280_S_d0_1_2 : S2x16384x1280.ReducesTo [0, 1, 2] S_
  h_S_ : 0 < S_.numel
  slices_S2x256x4608_S2x256x256_0_0_1024 : S2x256x4608.Slices ![0, 0, 1024] S2x256x256
  bcast_S_S2x256x256 : S_.BroadcastsInDim S2x256x256 (![] : Fin 0 → Fin S2x256x256.rank)
  reducesTo_S2x256x256_S_d0_1_2 : S2x256x256.ReducesTo [0, 1, 2] S_
  bcast_S_S8 : S_.BroadcastsInDim S8 (![] : Fin 0 → Fin S8.rank)
  reducesTo_S8_S_d0 : S8.ReducesTo [0] S_

variable [Facts]

def fn {F : FTy → Type} [FloatOps F] (main_arg0 : FVec F S2x16384x4608 .bf16) (main_arg1 : FVec F S2x256x4608 .bf16) (main_arg2 : FVec F S8 .f32) : IVec S_ 1 :=
  let main_v0 : FVec F S2x16384x1280 .bf16 := (extractStridedSlice S2x16384x1280 ![0, 0, 0] · slices_S2x16384x4608_S2x16384x1280_0_0_0) main_arg0
  let main_v1 : FVec F S2x16384x1280 .f32 := (extf .f32 · bitsLt_bf16_f32) main_v0
  let main_v2 : FVec F S2x16384x1280 .f32 := Host.absf main_v1
  let main_cst : FVec F S_ .f32 := constant S_ .f32 0x7F800000#32
  let main_v3 : FVec F S2x16384x1280 .f32 := broadcastInDim S2x16384x1280 ![] bcast_S_S2x16384x1280 main_cst
  let main_v4 : IVec S2x16384x1280 1 := cmpf .olt main_v2 main_v3
  let main_c : IVec S_ 1 := constantI S_ 1 1#1
  let main_v5 : IVec S_ 1 := (fun x v => Host.reduce IntOp.andi x v reducesTo_S2x16384x1280_S_d0_1_2 h_S_) main_v4 main_c
  let main_v6 : FVec F S2x256x256 .bf16 := (extractStridedSlice S2x256x256 ![0, 0, 1024] · slices_S2x256x4608_S2x256x256_0_0_1024) main_arg1
  let main_v7 : FVec F S2x256x256 .f32 := (extf .f32 · bitsLt_bf16_f32) main_v6
  let main_v8 : FVec F S2x256x256 .f32 := Host.absf main_v7
  let main_cst_0 : FVec F S_ .f32 := constant S_ .f32 0x7F800000#32
  let main_v9 : FVec F S2x256x256 .f32 := broadcastInDim S2x256x256 ![] bcast_S_S2x256x256 main_cst_0
  let main_v10 : IVec S2x256x256 1 := cmpf .olt main_v8 main_v9
  let main_c_1 : IVec S_ 1 := constantI S_ 1 1#1
  let main_v11 : IVec S_ 1 := (fun x v => Host.reduce IntOp.andi x v reducesTo_S2x256x256_S_d0_1_2 h_S_) main_v10 main_c_1
  let main_v12 : IVec S_ 1 := andi main_v5 main_v11
  let main_v13 : FVec F S8 .f32 := Host.absf main_arg2
  let main_cst_2 : FVec F S_ .f32 := constant S_ .f32 0x7F800000#32
  let main_v14 : FVec F S8 .f32 := broadcastInDim S8 ![] bcast_S_S8 main_cst_2
  let main_v15 : IVec S8 1 := cmpf .olt main_v13 main_v14
  let main_c_3 : IVec S_ 1 := constantI S_ 1 1#1
  let main_v16 : IVec S_ 1 := (fun x v => Host.reduce IntOp.andi x v reducesTo_S8_S_d0 h_S_) main_v15 main_c_3
  let main_v17 : IVec S_ 1 := andi main_v12 main_v16
  main_v17
-- ==== Kernel.lean ====
abbrev S2x16384x4608 : Shape := ⟨3, ![2, 16384, 4608]⟩
abbrev S2x256x4608 : Shape := ⟨3, ![2, 256, 4608]⟩
abbrev S8 : Shape := ⟨1, ![8]⟩
abbrev S2x4 : Shape := ⟨2, ![2, 4]⟩
abbrev S2x4x128 : Shape := ⟨3, ![2, 4, 128]⟩
abbrev S2x512 : Shape := ⟨2, ![2, 512]⟩
abbrev S2x512x1 : Shape := ⟨3, ![2, 512, 1]⟩
abbrev S2x512x128 : Shape := ⟨3, ![2, 512, 128]⟩
abbrev S2x16384x1024 : Shape := ⟨3, ![2, 16384, 1024]⟩
abbrev S1x128x512 : Shape := ⟨3, ![1, 128, 512]⟩
abbrev S1x128x128 : Shape := ⟨3, ![1, 128, 128]⟩
abbrev S1x256x128 : Shape := ⟨3, ![1, 256, 128]⟩
abbrev S1x512x128 : Shape := ⟨3, ![1, 512, 128]⟩
abbrev S128x512 : Shape := ⟨2, ![128, 512]⟩
abbrev S128x128 : Shape := ⟨2, ![128, 128]⟩
abbrev S512x128 : Shape := ⟨2, ![512, 128]⟩
abbrev S256x128 : Shape := ⟨2, ![256, 128]⟩
abbrev S640x128 : Shape := ⟨2, ![640, 128]⟩
abbrev S512x640 : Shape := ⟨2, ![512, 640]⟩
abbrev S512x1 : Shape := ⟨2, ![512, 1]⟩
abbrev S512 : Shape := ⟨1, ![512]⟩

abbrev nBuf : Space → Nat
  | .hbm => 9
  | .vmem => 22
  | .smem => 0
  | _ => 0

abbrev bufTy : (tb : Table) → Fin (tcTables nBuf tb) → BufTy
  | .hbm, ⟨0, _⟩ => ⟨S2x16384x4608, .bf16⟩
  | .hbm, ⟨1, _⟩ => ⟨S2x256x4608, .bf16⟩
  | .hbm, ⟨2, _⟩ => ⟨S8, .f32⟩
  | .hbm, ⟨3, _⟩ => ⟨S2x4, .f32⟩
  | .hbm, ⟨4, _⟩ => ⟨S2x4x128, .f32⟩
  | .hbm, ⟨5, _⟩ => ⟨S2x512, .f32⟩
  | .hbm, ⟨6, _⟩ => ⟨S2x512x1, .f32⟩
  | .hbm, ⟨7, _⟩ => ⟨S2x512x128, .f32⟩
  | .hbm, ⟨8, _⟩ => ⟨S2x16384x1024, .bf16⟩
  | .local _ .vmem, ⟨0, _⟩ => ⟨S1x128x512, .bf16⟩
  | .local _ .vmem, ⟨1, _⟩ => ⟨S1x128x512, .bf16⟩
  | .local _ .vmem, ⟨2, _⟩ => ⟨S1x128x128, .bf16⟩
  | .local _ .vmem, ⟨3, _⟩ => ⟨S1x128x128, .bf16⟩
  | .local _ .vmem, ⟨4, _⟩ => ⟨S1x128x128, .bf16⟩
  | .local _ .vmem, ⟨5, _⟩ => ⟨S1x128x128, .bf16⟩
  | .local _ .vmem, ⟨6, _⟩ => ⟨S1x128x128, .bf16⟩
  | .local _ .vmem, ⟨7, _⟩ => ⟨S1x128x128, .bf16⟩
  | .local _ .vmem, ⟨8, _⟩ => ⟨S1x128x128, .bf16⟩
  | .local _ .vmem, ⟨9, _⟩ => ⟨S1x128x128, .bf16⟩
  | .local _ .vmem, ⟨10, _⟩ => ⟨S1x128x128, .bf16⟩
  | .local _ .vmem, ⟨11, _⟩ => ⟨S1x128x128, .bf16⟩
  | .local _ .vmem, ⟨12, _⟩ => ⟨S1x128x128, .bf16⟩
  | .local _ .vmem, ⟨13, _⟩ => ⟨S1x128x128, .bf16⟩
  | .local _ .vmem, ⟨14, _⟩ => ⟨S1x256x128, .bf16⟩
  | .local _ .vmem, ⟨15, _⟩ => ⟨S1x256x128, .bf16⟩
  | .local _ .vmem, ⟨16, _⟩ => ⟨S1x256x128, .bf16⟩
  | .local _ .vmem, ⟨17, _⟩ => ⟨S1x256x128, .bf16⟩
  | .local _ .vmem, ⟨18, _⟩ => ⟨S1x512x128, .f32⟩
  | .local _ .vmem, ⟨19, _⟩ => ⟨S1x512x128, .f32⟩
  | .local _ .vmem, ⟨20, _⟩ => ⟨S1x128x512, .bf16⟩
  | .local _ .vmem, ⟨21, _⟩ => ⟨S1x128x512, .bf16⟩
  | _, _ => ⟨S2x16384x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![2, 2, 128], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c8_i32 : BitVec 32 := 8#32
  let v2 : BitVec 32 := Scalar.addi c8_i32 arg1
  let c0_i32_0 : BitVec 32 := 0#32
  ![arg0.toNat, v1.toNat, v2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c127_i32 : BitVec 32 := 127#32
  let v1 : BitVec 32 := Scalar.minsi v0 c127_i32
  let c8_i32 : BitVec 32 := 8#32
  let v2 : BitVec 32 := Scalar.addi c8_i32 arg1
  let c0_i32 : BitVec 32 := 0#32
  ![arg0.toNat, v1.toNat, v2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c10_i32 : BitVec 32 := 10#32
  let v2 : BitVec 32 := Scalar.addi c10_i32 arg1
  let c0_i32_0 : BitVec 32 := 0#32
  ![arg0.toNat, v1.toNat, v2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.addi c10_i32 arg1
  let c0_i32 : BitVec 32 := 0#32
  ![arg0.toNat, arg2.toNat, v0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c127_i32 : BitVec 32 := 127#32
  let v1 : BitVec 32 := Scalar.minsi v0 c127_i32
  let c10_i32 : BitVec 32 := 10#32
  let v2 : BitVec 32 := Scalar.addi c10_i32 arg1
  let c0_i32 : BitVec 32 := 0#32
  ![arg0.toNat, v1.toNat, v2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.addi c10_i32 arg1
  let c0_i32 : BitVec 32 := 0#32
  let c0_i32_0 : BitVec 32 := 0#32
  ![arg0.toNat, c0_i32.toNat, v0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, false]

abbrev stage0_10 : Fin 2 → Memref sig .tc .vmem S1x128x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S2x16384x4608 : Shape := ⟨3, ![2, 16384, 4608]⟩
abbrev S2x256x4608 : Shape := ⟨3, ![2, 256, 4608]⟩
abbrev S8 : Shape := ⟨1, ![8]⟩
abbrev S2x16384x1024 : Shape := ⟨3, ![2, 16384, 1024]⟩
abbrev S2x16384x8x128 : Shape := ⟨4, ![2, 16384, 8, 128]⟩
abbrev S2x16384x256 : Shape := ⟨3, ![2, 16384, 256]⟩
abbrev S2x16384x2x128 : Shape := ⟨4, ![2, 16384, 2, 128]⟩
abbrev S2x256x256 : Shape := ⟨3, ![2, 256, 256]⟩
abbrev S2x256x2x128 : Shape := ⟨4, ![2, 256, 2, 128]⟩
abbrev S2x128x128x2x4x128 : Shape := ⟨6, ![2, 128, 128, 2, 4, 128]⟩
abbrev S_ : Shape := ⟨0, ![]⟩
abbrev S2x16640x2x128 : Shape := ⟨4, ![2, 16640, 2, 128]⟩
abbrev S2x130x128x2x128 : Shape := ⟨5, ![2, 130, 128, 2, 128]⟩
abbrev S2x128x128x2x128 : Shape := ⟨5, ![2, 128, 128, 2, 128]⟩
abbrev S2x128x384x2x128 : Shape := ⟨5, ![2, 128, 384, 2, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S384 : Shape := ⟨1, ![384]⟩
abbrev S1x384 : Shape := ⟨2, ![1, 384]⟩
abbrev S128x384 : Shape := ⟨2, ![128, 384]⟩
abbrev S128x128x1 : Shape := ⟨3, ![128, 128, 1]⟩
abbrev S128x1x384 : Shape := ⟨3, ![128, 1, 384]⟩
abbrev S128x128x384 : Shape := ⟨3, ![128, 128, 384]⟩
abbrev S2x128x2x384x128x4 : Shape := ⟨6, ![2, 128, 2, 384, 128, 4]⟩
abbrev S2x128x2x4x128x384 : Shape := ⟨6, ![2, 128, 2, 4, 128, 384]⟩
abbrev S1x128x1x1x128x384 : Shape := ⟨6, ![1, 128, 1, 1, 128, 384]⟩
abbrev S2x2x256x128x128x4 : Shape := ⟨6, ![2, 2, 256, 128, 128, 4]⟩
abbrev S2x128x2x4x128x256 : Shape := ⟨6, ![2, 128, 2, 4, 128, 256]⟩
abbrev S2x4 : Shape := ⟨2, ![2, 4]⟩
abbrev S1x1x2x4x1x1 : Shape := ⟨6, ![1, 1, 2, 4, 1, 1]⟩
abbrev S2x128x2x4x128x640 : Shape := ⟨6, ![2, 128, 2, 4, 128, 640]⟩
abbrev S2x128x2x4x128 : Shape := ⟨5, ![2, 128, 2, 4, 128]⟩
abbrev S2x128x2x4x128x1 : Shape := ⟨6, ![2, 128, 2, 4, 128, 1]⟩
abbrev S2x128x2x128x4x128 : Shape := ⟨6, ![2, 128, 2, 128, 4, 128]⟩
abbrev S2x2x128x128x4x128 : Shape := ⟨6, ![2, 2, 128, 128, 4, 128]⟩

abbrev nBuf : Space → Nat
  | .hbm => 119
  | .vmem => 0
  | .smem => 0
  | _ => 0

abbrev bufTy : (tb : Table) → Fin (tcTables nBuf tb) → BufTy
  | .hbm, ⟨0, _⟩ => ⟨S2x16384x4608, .bf16⟩
  | .hbm, ⟨1, _⟩ => ⟨S2x256x4608, .bf16⟩
  | .hbm, ⟨2, _⟩ => ⟨S8, .f32⟩
  | .hbm, ⟨3, _⟩ => ⟨S2x16384x4608, .f32⟩
  | .hbm, ⟨4, _⟩ => ⟨S2x256x4608, .f32⟩
  | .hbm, ⟨5, _⟩ => ⟨S2x16384x1024, .f32⟩
  | .hbm, ⟨6, _⟩ => ⟨S2x16384x8x128, .f32⟩
  | .hbm, ⟨7, _⟩ => ⟨S2x16384x256, .f32⟩
  | .hbm, ⟨8, _⟩ => ⟨S2x16384x2x128, .f32⟩
  | .hbm, ⟨9, _⟩ => ⟨S2x16384x256, .f32⟩
  | .hbm, ⟨10, _⟩ => ⟨S2x16384x2x128, .f32⟩
  | .hbm, ⟨11, _⟩ => ⟨S2x256x256, .f32⟩
  | .hbm, ⟨12, _⟩ => ⟨S2x256x2x128, .f32⟩
  | .hbm, ⟨13, _⟩ => ⟨S2x256x256, .f32⟩
  | .hbm, ⟨14, _⟩ => ⟨S2x256x2x128, .f32⟩
  | .hbm, ⟨15, _⟩ => ⟨S2x128x128x2x4x128, .f32⟩
  | .hbm, ⟨16, _⟩ => ⟨S_, .i32⟩
  | .hbm, ⟨17, _⟩ => ⟨S_, .f32⟩
  | .hbm, ⟨18, _⟩ => ⟨S2x16640x2x128, .f32⟩
  | .hbm, ⟨19, _⟩ => ⟨S2x130x128x2x128, .f32⟩
  | .hbm, ⟨20, _⟩ => ⟨S_, .i32⟩
  | .hbm, ⟨21, _⟩ => ⟨S_, .f32⟩
  | .hbm, ⟨22, _⟩ => ⟨S2x16640x2x128, .f32⟩
  | .hbm, ⟨23, _⟩ => ⟨S2x130x128x2x128, .f32⟩
  | .hbm, ⟨24, _⟩ => ⟨S2x128x128x2x128, .f32⟩
  | .hbm, ⟨25, _⟩ => ⟨S2x128x128x2x128, .f32⟩
  | .hbm, ⟨26, _⟩ => ⟨S2x128x128x2x128, .f32⟩
  | .hbm, ⟨27, _⟩ => ⟨S2x128x384x2x128, .f32⟩
  | .hbm, ⟨28, _⟩ => ⟨S2x128x128x2x128, .f32⟩
  | .hbm, ⟨29, _⟩ => ⟨S2x128x128x2x128, .f32⟩
  | .hbm, ⟨30, _⟩ => ⟨S2x128x128x2x128, .f32⟩
  | .hbm, ⟨31, _⟩ => ⟨S2x128x384x2x128, .f32⟩
  | .hbm, ⟨32, _⟩ => ⟨S128, .i32⟩
  | .hbm, ⟨33, _⟩ => ⟨S128x1, .i32⟩
  | .hbm, ⟨34, _⟩ => ⟨S_, .i32⟩
  | .hbm, ⟨35, _⟩ => ⟨S128x1, .i32⟩
  | .hbm, ⟨36, _⟩ => ⟨S128x1, .i32⟩
  | .hbm, ⟨37, _⟩ => ⟨S128, .i32⟩
  | .hbm, ⟨38, _⟩ => ⟨S1x128, .i32⟩
  | .hbm, ⟨39, _⟩ => ⟨S128x128, .i32⟩
  | .hbm, ⟨40, _⟩ => ⟨S128x128, .i32⟩
  | .hbm, ⟨41, _⟩ => ⟨S128x128, .i32⟩
  | .hbm, ⟨42, _⟩ => ⟨S_, .i32⟩
  | .hbm, ⟨43, _⟩ => ⟨S128x1, .i32⟩
  | .hbm, ⟨44, _⟩ => ⟨S128x1, .i32⟩
  | .hbm, ⟨45, _⟩ => ⟨S_, .i32⟩
  | .hbm, ⟨46, _⟩ => ⟨S128x1, .i32⟩
  | .hbm, ⟨47, _⟩ => ⟨S128x1, .i32⟩
  | .hbm, ⟨48, _⟩ => ⟨S384, .i32⟩
  | .hbm, ⟨49, _⟩ => ⟨S1x384, .i32⟩
  | .hbm, ⟨50, _⟩ => ⟨S128x384, .i32⟩
  | .hbm, ⟨51, _⟩ => ⟨S128x384, .i32⟩
  | .hbm, ⟨52, _⟩ => ⟨S128x384, .i32⟩
  | .hbm, ⟨53, _⟩ => ⟨S128x128x1, .i32⟩
  | .hbm, ⟨54, _⟩ => ⟨S128x1x384, .i32⟩
  | .hbm, ⟨55, _⟩ => ⟨S128x128x384, .i32⟩
  | .hbm, ⟨56, _⟩ => ⟨S128x128x384, .i32⟩
  | .hbm, ⟨57, _⟩ => ⟨S128x128x384, .i32⟩
  | .hbm, ⟨58, _⟩ => ⟨S128x128x384, .i32⟩
  | .hbm, ⟨59, _⟩ => ⟨S_, .i32⟩
  | .hbm, ⟨60, _⟩ => ⟨S128x128x384, .i32⟩
  | .hbm, ⟨61, _⟩ => ⟨S128x128x384, .i1⟩
  | .hbm, ⟨62, _⟩ => ⟨S128x1x384, .i32⟩
  | .hbm, ⟨63, _⟩ => ⟨S_, .i32⟩
  | .hbm, ⟨64, _⟩ => ⟨S128x1x384, .i32⟩
  | .hbm, ⟨65, _⟩ => ⟨S128x1x384, .i1⟩
  | .hbm, ⟨66, _⟩ => ⟨S128x128x384, .i1⟩
  | .hbm, ⟨67, _⟩ => ⟨S128x128x384, .i1⟩
  | .hbm, ⟨68, _⟩ => ⟨S128x1x384, .i32⟩
  | .hbm, ⟨69, _⟩ => ⟨S_, .i32⟩
  | .hbm, ⟨70, _⟩ => ⟨S128x1x384, .i32⟩
  | .hbm, ⟨71, _⟩ => ⟨S128x1x384, .i1⟩
  | .hbm, ⟨72, _⟩ => ⟨S128x128x384, .i1⟩
  | .hbm, ⟨73, _⟩ => ⟨S128x128x384, .i1⟩
  | .hbm, ⟨74, _⟩ => ⟨S2x128x2x384x128x4, .f32⟩
  | .hbm, ⟨75, _⟩ => ⟨S2x128x2x4x128x384, .f32⟩
  | .hbm, ⟨76, _⟩ => ⟨S_, .f32⟩
  | .hbm, ⟨77, _⟩ => ⟨S2x128x2x4x128x384, .f32⟩
  | .hbm, ⟨78, _⟩ => ⟨S2x128x2x4x128x384, .f32⟩
  | .hbm, ⟨79, _⟩ => ⟨S1x128x1x1x128x384, .i1⟩
  | .hbm, ⟨80, _⟩ => ⟨S_, .f32⟩
  | .hbm, ⟨81, _⟩ => ⟨S_, .f32⟩
  | .hbm, ⟨82, _⟩ => ⟨S2x128x2x4x128x384, .i1⟩
  | .hbm, ⟨83, _⟩ => ⟨S2x128x2x4x128x384, .f32⟩
  | .hbm, ⟨84, _⟩ => ⟨S2x128x2x4x128x384, .f32⟩
  | .hbm, ⟨85, _⟩ => ⟨S2x2x256x128x128x4, .f32⟩
  | .hbm, ⟨86, _⟩ => ⟨S2x128x2x4x128x256, .f32⟩
  | .hbm, ⟨87, _⟩ => ⟨S_, .f32⟩
  | .hbm, ⟨88, _⟩ => ⟨S2x128x2x4x128x256, .f32⟩
  | .hbm, ⟨89, _⟩ => ⟨S2x128x2x4x128x256, .f32⟩
  | .hbm, ⟨90, _⟩ => ⟨S2x4, .f32⟩
  | .hbm, ⟨91, _⟩ => ⟨S1x1x2x4x1x1, .f32⟩
  | .hbm, ⟨92, _⟩ => ⟨S2x128x2x4x128x640, .f32⟩
  | .hbm, ⟨93, _⟩ => ⟨S_, .f32⟩
  | .hbm, ⟨94, _⟩ => ⟨S2x128x2x4x128, .f32⟩
  | .hbm, ⟨95, _⟩ => ⟨S2x128x2x4x128x1, .f32⟩
  | .hbm, ⟨96, _⟩ => ⟨S2x128x2x4x128x1, .f32⟩
  | .hbm, ⟨97, _⟩ => ⟨S2x128x2x4x128x1, .f32⟩
  | .hbm, ⟨98, _⟩ => ⟨S2x128x2x4x128x640, .f32⟩
  | .hbm, ⟨99, _⟩ => ⟨S2x128x2x4x128x640, .f32⟩
  | .hbm, ⟨100, _⟩ => ⟨S2x128x2x4x128x640, .f32⟩
  | .hbm, ⟨101, _⟩ => ⟨S_, .f32⟩
  | .hbm, ⟨102, _⟩ => ⟨S2x128x2x4x128, .f32⟩
  | .hbm, ⟨103, _⟩ => ⟨S2x128x2x4x128x1, .f32⟩
  | .hbm, ⟨104, _⟩ => ⟨S2x128x2x4x128x1, .f32⟩
  | .hbm, ⟨105, _⟩ => ⟨S2x128x2x4x128x1, .f32⟩
  | .hbm, ⟨106, _⟩ => ⟨S2x128x2x4x128x1, .f32⟩
  | .hbm, ⟨107, _⟩ => ⟨S2x128x2x4x128x1, .f32⟩
  | .hbm, ⟨108, _⟩ => ⟨S2x128x2x4x128x640, .f32⟩
  | .hbm, ⟨109, _⟩ => ⟨S2x128x2x4x128x640, .f32⟩
  | .hbm, ⟨110, _⟩ => ⟨S2x128x2x4x128x384, .f32⟩
  | .hbm, ⟨111, _⟩ => ⟨S2x128x2x128x4x128, .f32⟩
  | .hbm, ⟨112, _⟩ => ⟨S2x128x128x2x4x128, .f32⟩
  | .hbm, ⟨113, _⟩ => ⟨S2x128x2x4x128x256, .f32⟩
  | .hbm, ⟨114, _⟩ => ⟨S2x2x128x128x4x128, .f32⟩
  | .hbm, ⟨115, _⟩ => ⟨S2x128x128x2x4x128, .f32⟩
  | .hbm, ⟨116, _⟩ => ⟨S2x128x128x2x4x128, .f32⟩
  | .hbm, ⟨117, _⟩ => ⟨S2x16384x1024, .f32⟩
  | .hbm, ⟨118, _⟩ => ⟨S2x16384x1024, .bf16⟩
  | _, _ => ⟨S2x16384x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_c : Ref sig .tc := ⟨.hbm, 16, rfl⟩
abbrev main_call0_v0 : Ref sig .tc := ⟨.hbm, 17, rfl⟩
abbrev main_v13 : Ref sig .tc := ⟨.hbm, 18, rfl⟩
abbrev main_v14 : Ref sig .tc := ⟨.hbm, 19, rfl⟩
abbrev main_c_0 : Ref sig .tc := ⟨.hbm, 20, rfl⟩
abbrev main_call1_v0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_c_1 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_c_2 : Ref sig .tc := ⟨.hbm, 42, rfl⟩
abbrev main_v34 : Ref sig .tc := ⟨.hbm, 43, rfl⟩
abbrev main_v35 : Ref sig .tc := ⟨.hbm, 44, rfl⟩
abbrev main_c_3 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_c_4 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_c_5 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_c_6 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_cst : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_cst_7 : Ref sig .tc := ⟨.hbm, 80, rfl⟩
abbrev main_call2_v0 : Ref sig .tc := ⟨.hbm, 81, rfl⟩
abbrev main_call2_v1 : Ref sig .tc := ⟨.hbm, 82, rfl⟩
abbrev main_call2_v2 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_cst_8 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_cst_9 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_cst_10 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩

abbrev nD : Nat := 1
abbrev τ : Topo := Topo.v7x

variable {F : FTy → Type} [FloatOps F]
-- ==== Projections.lean ====
abbrev S2x16384x2048 : Shape := ⟨3, ![2, 16384, 2048]⟩
abbrev S2x256x2048 : Shape := ⟨3, ![2, 256, 2048]⟩
abbrev S2048 : Shape := ⟨1, ![2048]⟩
abbrev S2x2048 : Shape := ⟨2, ![2, 2048]⟩
abbrev S1x2048 : Shape := ⟨2, ![1, 2048]⟩
abbrev S6x2048 : Shape := ⟨2, ![6, 2048]⟩
abbrev S2048x2048 : Shape := ⟨2, ![2048, 2048]⟩
abbrev S2x2048x96 : Shape := ⟨3, ![2, 2048, 96]⟩
abbrev S2048x256 : Shape := ⟨2, ![2048, 256]⟩
abbrev S6 : Shape := ⟨1, ![6]⟩
abbrev S2x16896x2048 : Shape := ⟨3, ![2, 16896, 2048]⟩
abbrev S33792x2048 : Shape := ⟨2, ![33792, 2048]⟩
abbrev S1x2048x96 : Shape := ⟨3, ![1, 2048, 96]⟩
abbrev S2048x96 : Shape := ⟨2, ![2048, 96]⟩
abbrev S2048x192 : Shape := ⟨2, ![2048, 192]⟩
abbrev S_ : Shape := ⟨0, ![]⟩
abbrev S2048x512 : Shape := ⟨2, ![2048, 512]⟩
abbrev S2048x7680 : Shape := ⟨2, ![2048, 7680]⟩
abbrev S6x1 : Shape := ⟨2, ![6, 1]⟩
abbrev S8x2048 : Shape := ⟨2, ![8, 2048]⟩
abbrev S2x1x2048 : Shape := ⟨3, ![2, 1, 2048]⟩
abbrev S33792x7680 : Shape := ⟨2, ![33792, 7680]⟩
abbrev S768x2048 : Shape := ⟨2, ![768, 2048]⟩
abbrev S1x1x2048 : Shape := ⟨3, ![1, 1, 2048]⟩
abbrev S768x512 : Shape := ⟨2, ![768, 512]⟩
abbrev S768x1 : Shape := ⟨2, ![768, 1]⟩
abbrev S8x1 : Shape := ⟨2, ![8, 1]⟩
abbrev S768 : Shape := ⟨1, ![768]⟩
abbrev S8 : Shape := ⟨1, ![8]⟩

abbrev nBuf : Space → Nat
  | .hbm => 54
  | .vmem => 21
  | .smem => 0
  | _ => 0

abbrev bufTy : (tb : Table) → Fin (tcTables nBuf tb) → BufTy
  | .hbm, ⟨0, _⟩ => ⟨S2x16384x2048, .f32⟩
  | .hbm, ⟨1, _⟩ => ⟨S2x256x2048, .f32⟩
  | .hbm, ⟨2, _⟩ => ⟨S2048, .f32⟩
  | .hbm, ⟨3, _⟩ => ⟨S2x2048, .f32⟩
  | .hbm, ⟨4, _⟩ => ⟨S2x2048, .f32⟩
  | .hbm, ⟨5, _⟩ => ⟨S1x2048, .f32⟩
  | .hbm, ⟨6, _⟩ => ⟨S1x2048, .f32⟩
  | .hbm, ⟨7, _⟩ => ⟨S6x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2x2048x96, .f32⟩
  | .hbm, ⟨12, _⟩ => ⟨S2x2048x96, .f32⟩
  | .hbm, ⟨13, _⟩ => ⟨S2048x256, .f32⟩
  | .hbm, ⟨14, _⟩ => ⟨S6, .i32⟩
  | .hbm, ⟨15, _⟩ => ⟨S2x16896x2048, .f32⟩
  | .hbm, ⟨16, _⟩ => ⟨S33792x2048, .f32⟩
  | .hbm, ⟨17, _⟩ => ⟨S1x2048x96, .f32⟩
  | .hbm, ⟨18, _⟩ => ⟨S2048x96, .f32⟩
  | .hbm, ⟨19, _⟩ => ⟨S1x2048x96, .f32⟩
  | .hbm, ⟨20, _⟩ => ⟨S2048x96, .f32⟩
  | .hbm, ⟨21, _⟩ => ⟨S2048x192, .f32⟩
  | .hbm, ⟨22, _⟩ => ⟨S1x2048x96, .f32⟩
  | .hbm, ⟨23, _⟩ => ⟨S2048x96, .f32⟩
  | .hbm, ⟨24, _⟩ => ⟨S1x2048x96, .f32⟩
  | .hbm, ⟨25, _⟩ => ⟨S2048x96, .f32⟩
  | .hbm, ⟨26, _⟩ => ⟨S2048x192, .f32⟩
  | .hbm, ⟨27, _⟩ => ⟨S_, .i32⟩
  | .hbm, ⟨28, _⟩ => ⟨S_, .f32⟩
  | .hbm, ⟨29, _⟩ => ⟨S2048x512, .f32⟩
  | .hbm, ⟨30, _⟩ => ⟨S_, .i32⟩
  | .hbm, ⟨31, _⟩ => ⟨S_, .f32⟩
  | .hbm, ⟨32, _⟩ => ⟨S2048x512, .f32⟩
  | .hbm, ⟨33, _⟩ => ⟨S_, .i32⟩
  | .hbm, ⟨34, _⟩ => ⟨S_, .f32⟩
  | .hbm, ⟨35, _⟩ => ⟨S2048x512, .f32⟩
  | .hbm, ⟨36, _⟩ => ⟨S2048x7680, .f32⟩
  | .hbm, ⟨37, _⟩ => ⟨S2048x7680, .bf16⟩
  | .hbm, ⟨38, _⟩ => ⟨S_, .i32⟩
  | .hbm, ⟨39, _⟩ => ⟨S6, .i32⟩
  | .hbm, ⟨40, _⟩ => ⟨S6, .i1⟩
  | .hbm, ⟨41, _⟩ => ⟨S_, .i32⟩
  | .hbm, ⟨42, _⟩ => ⟨S6, .i32⟩
  | .hbm, ⟨43, _⟩ => ⟨S6, .i32⟩
  | .hbm, ⟨44, _⟩ => ⟨S6, .i32⟩
  | .hbm, ⟨45, _⟩ => ⟨S6x1, .i32⟩
  | .hbm, ⟨46, _⟩ => ⟨S6x2048, .f32⟩
  | .hbm, ⟨47, _⟩ => ⟨S_, .i32⟩
  | .hbm, ⟨48, _⟩ => ⟨S_, .f32⟩
  | .hbm, ⟨49, _⟩ => ⟨S8x2048, .f32⟩
  | .hbm, ⟨50, _⟩ => ⟨S1x2048, .f32⟩
  | .hbm, ⟨51, _⟩ => ⟨S2x1x2048, .f32⟩
  | .hbm, ⟨52, _⟩ => ⟨S2x1x2048, .f32⟩
  | .hbm, ⟨53, _⟩ => ⟨S33792x7680, .f32⟩
  | .local _ .vmem, ⟨0, _⟩ => ⟨S768x2048, .f32⟩
  | .local _ .vmem, ⟨1, _⟩ => ⟨S768x2048, .f32⟩
  | .local _ .vmem, ⟨2, _⟩ => ⟨S8x2048, .f32⟩
  | .local _ .vmem, ⟨3, _⟩ => ⟨S8x2048, .f32⟩
  | .local _ .vmem, ⟨4, _⟩ => ⟨S8x2048, .f32⟩
  | .local _ .vmem, ⟨5, _⟩ => ⟨S8x2048, .f32⟩
  | .local _ .vmem, ⟨6, _⟩ => ⟨S1x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x2048, .f32⟩
  | .local _ .vmem, ⟨12, _⟩ => ⟨S1x2048, .f32⟩
  | .local _ .vmem, ⟨13, _⟩ => ⟨S8x2048, .f32⟩
  | .local _ .vmem, ⟨14, _⟩ => ⟨S2048x512, .bf16⟩
  | .local _ .vmem, ⟨15, _⟩ => ⟨S2048x512, .bf16⟩
  | .local _ .vmem, ⟨16, _⟩ => ⟨S768x512, .f32⟩
  | .local _ .vmem, ⟨17, _⟩ => ⟨S768x512, .f32⟩
  | .local _ .vmem, ⟨18, _⟩ => ⟨S768x2048, .f32⟩
  | .local _ .vmem, ⟨19, _⟩ => ⟨S768x2048, .f32⟩
  | .local _ .vmem, ⟨20, _⟩ => ⟨S768x2048, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c_0 : Ref sig .tc := ⟨.hbm, 27, rfl⟩
abbrev main_call0_v0 : Ref sig .tc := ⟨.hbm, 28, rfl⟩
abbrev main_v12 : Ref sig .tc := ⟨.hbm, 29, rfl⟩
abbrev main_c_1 : Ref sig .tc := ⟨.hbm, 30, rfl⟩
abbrev main_call1_v0 : Ref sig .tc := ⟨.hbm, 31, rfl⟩
abbrev main_v13 : Ref sig .tc := ⟨.hbm, 32, rfl⟩
abbrev main_c_2 : Ref sig .tc := ⟨.hbm, 33, rfl⟩
abbrev main_call2_v0 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_c_3 : Ref sig .tc := ⟨.hbm, 38, rfl⟩
abbrev main_v17 : Ref sig .tc := ⟨.hbm, 39, rfl⟩
abbrev main_v18 : Ref sig .tc := ⟨.hbm, 40, rfl⟩
abbrev main_c_4 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_c_5 : Ref sig .tc := ⟨.hbm, 47, rfl⟩
abbrev main_call3_v0 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![44, 15], ![false, false]⟩

def k0_cond2 (i : grid0.Coords) : BitVec 1 :=
  let arg1 : BitVec 32 := BitVec.ofNat 32 (i 1).val
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi arg1 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c0_i32_13 : BitVec 32 := 0#32
  let v34 : BitVec 1 := Scalar.cmpi .eq v33 c0_i32_13
  let c12_i32_14 : BitVec 32 := 12#32
  let v35 : BitVec 1 := Scalar.cmpi .sge arg1 c12_i32_14
  let v36 : BitVec 1 := Scalar.ori v34 v35
  let v37 : BitVec 32 := Scalar.extui v36
  let c0_i32_15 : BitVec 32 := 0#32
  let v38 : BitVec 1 := Scalar.cmpi .ne v37 c0_i32_15
  v38

def k0_off1 (i : grid0.Coords) : Fin 2 → Nat :=
  let arg1 : BitVec 32 := BitVec.ofNat 32 (i 1).val
  let c12_i32 : BitVec 32 := 12#32
  let v3 : BitVec 1 := Scalar.cmpi .slt arg1 c12_i32
  let c0_i32_1 : BitVec 32 := 0#32
  let v5 : BitVec 1 := Scalar.cmpi .sgt arg1 c0_i32_1
  let v6 : BitVec 32 := Scalar.extui v5
  let c0_i32_2 : BitVec 32 := 0#32
  let v7 : BitVec 1 := Scalar.cmpi .slt arg1 c0_i32_2
  let v8 : BitVec 32 := Scalar.extui v7
  let v9 : BitVec 32 := Scalar.subi v6 v8
  let c4_i32 : BitVec 32 := 4#32
  let c0_i32_3 : BitVec 32 := 0#32
  let v10 : BitVec 1 := Scalar.cmpi .sgt c4_i32 c0_i32_3
  let v11 : BitVec 32 := Scalar.extui v10
  let c0_i32_4 : BitVec 32 := 0#32
  let v12 : BitVec 1 := Scalar.cmpi .slt c4_i32 c0_i32_4
  let v13 : BitVec 32 := Scalar.extui v12
  let v14 : BitVec 32 := Scalar.subi v11 v13
  let v15 : BitVec 1 := Scalar.cmpi .ne v9 v14
  let v16 : BitVec 32 := Scalar.remsi arg1 c4_i32
  let c0_i32_5 : BitVec 32 := 0#32
  let v17 : BitVec 1 := Scalar.cmpi .ne v16 c0_i32_5
  let v18 : BitVec 1 := Scalar.andi v15 v17
  let v4 : BitVec 32 := Scalar.divsi arg1 c4_i32
  let c1_i32 : BitVec 32 := 1#32
  let v19 : BitVec 32 := Scalar.subi v4 c1_i32
  let v20 : BitVec 32 := Scalar.select v18 v19 v4
  let c12_i32_6 : BitVec 32 := 12#32
  let v21 : BitVec 32 := Scalar.subi arg1 c12_i32_6
  let c3_i32 : BitVec 32 := 3#32
  let v22 : BitVec 32 := Scalar.addi v21 c3_i32
  let v23 : BitVec 32 := Scalar.select v3 v20 v22
  let v46 : Index := Scalar.indexCast v23
  let c0_25 : Index := 0#32
  ![v46.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c96_i32 : BitVec 32 := 96#32
  let v0 : BitVec 32 := Scalar.muli arg0 c96_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c96_i32 : BitVec 32 := 96#32
  let v1 : BitVec 32 := Scalar.muli v0 c96_i32
  let c4223_i32 : BitVec 32 := 4223#32
  let v2 : BitVec 32 := Scalar.minsi v1 c4223_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c768_i32 : BitVec 32 := 768#32
  let v0 : BitVec 32 := Scalar.muli arg0 c768_i32
  let c16896_i32 : BitVec 32 := 16896#32
  let v1 : BitVec 32 := Scalar.divsi v0 c16896_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16896_i32 c0_i32_1
  let v8 : BitVec 32 := Scalar.extui v7
  let c0_i32_2 : BitVec 32 := 0#32
  let v9 : BitVec 1 := Scalar.cmpi .slt c16896_i32 c0_i32_2
  let v10 : BitVec 32 := Scalar.extui v9
  let v11 : BitVec 32 := Scalar.subi v8 v10
  let v12 : BitVec 1 := Scalar.cmpi .ne v6 v11
  let v13 : BitVec 32 := Scalar.remsi v0 c16896_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_5 (i : grid0.Coords) : Fin 3 → Nat :=
  let arg0 : BitVec 32 := BitVec.ofNat 32 (i 0).val
  let arg1 : BitVec 32 := BitVec.ofNat 32 (i 1).val
  let c768_i32 : BitVec 32 := 768#32
  let v0 : BitVec 32 := Scalar.muli arg0 c768_i32
  let c16896_i32 : BitVec 32 := 16896#32
  let v1 : BitVec 32 := Scalar.divsi v0 c16896_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16896_i32 c0_i32_1
  let v8 : BitVec 32 := Scalar.extui v7
  let c0_i32_2 : BitVec 32 := 0#32
  let v9 : BitVec 1 := Scalar.cmpi .slt c16896_i32 c0_i32_2
  let v10 : BitVec 32 := Scalar.extui v9
  let v11 : BitVec 32 := Scalar.subi v8 v10
  let v12 : BitVec 1 := Scalar.cmpi .ne v6 v11
  let v13 : BitVec 32 := Scalar.remsi v0 c16896_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S2048x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S768x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ProjectionsRefIdeal.lean ====
abbrev S2x16384x2048 : Shape := ⟨3, ![2, 16384, 2048]⟩
abbrev S2x256x2048 : Shape := ⟨3, ![2, 256, 2048]⟩
abbrev S2048 : Shape := ⟨1, ![2048]⟩
abbrev S2x2048 : Shape := ⟨2, ![2, 2048]⟩
abbrev S1x2048 : Shape := ⟨2, ![1, 2048]⟩
abbrev S6x2048 : Shape := ⟨2, ![6, 2048]⟩
abbrev S2048x2048 : Shape := ⟨2, ![2048, 2048]⟩
abbrev S2x2048x96 : Shape := ⟨3, ![2, 2048, 96]⟩
abbrev S2048x256 : Shape := ⟨2, ![2048, 256]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S2x1x2048 : Shape := ⟨3, ![2, 1, 2048]⟩
abbrev S2x256 : Shape := ⟨2, ![2, 256]⟩
abbrev S2x256x1 : Shape := ⟨3, ![2, 256, 1]⟩
abbrev S2x16386x2048 : Shape := ⟨3, ![2, 16386, 2048]⟩
abbrev S2x258x2048 : Shape := ⟨3, ![2, 258, 2048]⟩
abbrev S2x16896x2048 : Shape := ⟨3, ![2, 16896, 2048]⟩
abbrev S2x16896x1x2048 : Shape := ⟨4, ![2, 16896, 1, 2048]⟩
abbrev S1x1x6x2048 : Shape := ⟨4, ![1, 1, 6, 2048]⟩
abbrev S2x16896x6x2048 : Shape := ⟨4, ![2, 16896, 6, 2048]⟩
abbrev S2x16896x256 : Shape := ⟨3, ![2, 16896, 256]⟩
abbrev S2x16896x512 : Shape := ⟨3, ![2, 16896, 512]⟩
abbrev S2x16896x2x96 : Shape := ⟨4, ![2, 16896, 2, 96]⟩
abbrev S2x16896x192 : Shape := ⟨3, ![2, 16896, 192]⟩
abbrev S2x16896x7680 : Shape := ⟨3, ![2, 16896, 7680]⟩
abbrev S33792x7680 : Shape := ⟨2, ![33792, 7680]⟩

abbrev nBuf : Space → Nat
  | .hbm => 125
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2x256x2048, .f32⟩
  | .hbm, ⟨2, _⟩ => ⟨S2048, .f32⟩
  | .hbm, ⟨3, _⟩ => ⟨S2x2048, .f32⟩
  | .hbm, ⟨4, _⟩ => ⟨S2x2048, .f32⟩
  | .hbm, ⟨5, _⟩ => ⟨S1x2048, .f32⟩
  | .hbm, ⟨6, _⟩ => ⟨S1x2048, .f32⟩
  | .hbm, ⟨7, _⟩ => ⟨S6x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2x2048x96, .f32⟩
  | .hbm, ⟨12, _⟩ => ⟨S2x2048x96, .f32⟩
  | .hbm, ⟨13, _⟩ => ⟨S2048x256, .f32⟩
  | .hbm, ⟨14, _⟩ => ⟨S2x16384x2048, .f32⟩
  | .hbm, ⟨15, _⟩ => ⟨S_, .f32⟩
  | .hbm, ⟨16, _⟩ => ⟨S2x16384, .f32⟩
  | .hbm, ⟨17, _⟩ => ⟨S2x16384x1, .f32⟩
  | .hbm, ⟨18, _⟩ => ⟨S_, .f32⟩
  | .hbm, ⟨19, _⟩ => ⟨S2x16384x1, .f32⟩
  | .hbm, ⟨20, _⟩ => ⟨S2x16384x1, .f32⟩
  | .hbm, ⟨21, _⟩ => ⟨S_, .f32⟩
  | .hbm, ⟨22, _⟩ => ⟨S2x16384x1, .f32⟩
  | .hbm, ⟨23, _⟩ => ⟨S2x16384x1, .f32⟩
  | .hbm, ⟨24, _⟩ => ⟨S2x16384x1, .f32⟩
  | .hbm, ⟨25, _⟩ => ⟨S2x16384x2048, .f32⟩
  | .hbm, ⟨26, _⟩ => ⟨S2x16384x2048, .f32⟩
  | .hbm, ⟨27, _⟩ => ⟨S1x1x2048, .f32⟩
  | .hbm, ⟨28, _⟩ => ⟨S2x16384x2048, .f32⟩
  | .hbm, ⟨29, _⟩ => ⟨S2x16384x2048, .f32⟩
  | .hbm, ⟨30, _⟩ => ⟨S2x1x2048, .f32⟩
  | .hbm, ⟨31, _⟩ => ⟨S_, .f32⟩
  | .hbm, ⟨32, _⟩ => ⟨S2x1x2048, .f32⟩
  | .hbm, ⟨33, _⟩ => ⟨S2x1x2048, .f32⟩
  | .hbm, ⟨34, _⟩ => ⟨S2x16384x2048, .f32⟩
  | .hbm, ⟨35, _⟩ => ⟨S2x16384x2048, .f32⟩
  | .hbm, ⟨36, _⟩ => ⟨S2x1x2048, .f32⟩
  | .hbm, ⟨37, _⟩ => ⟨S2x16384x2048, .f32⟩
  | .hbm, ⟨38, _⟩ => ⟨S2x16384x2048, .f32⟩
  | .hbm, ⟨39, _⟩ => ⟨S2x256x2048, .f32⟩
  | .hbm, ⟨40, _⟩ => ⟨S_, .f32⟩
  | .hbm, ⟨41, _⟩ => ⟨S2x256, .f32⟩
  | .hbm, ⟨42, _⟩ => ⟨S2x256x1, .f32⟩
  | .hbm, ⟨43, _⟩ => ⟨S_, .f32⟩
  | .hbm, ⟨44, _⟩ => ⟨S2x256x1, .f32⟩
  | .hbm, ⟨45, _⟩ => ⟨S2x256x1, .f32⟩
  | .hbm, ⟨46, _⟩ => ⟨S_, .f32⟩
  | .hbm, ⟨47, _⟩ => ⟨S2x256x1, .f32⟩
  | .hbm, ⟨48, _⟩ => ⟨S2x256x1, .f32⟩
  | .hbm, ⟨49, _⟩ => ⟨S2x256x1, .f32⟩
  | .hbm, ⟨50, _⟩ => ⟨S2x256x2048, .f32⟩
  | .hbm, ⟨51, _⟩ => ⟨S2x256x2048, .f32⟩
  | .hbm, ⟨52, _⟩ => ⟨S1x1x2048, .f32⟩
  | .hbm, ⟨53, _⟩ => ⟨S2x256x2048, .f32⟩
  | .hbm, ⟨54, _⟩ => ⟨S2x256x2048, .f32⟩
  | .hbm, ⟨55, _⟩ => ⟨S_, .f32⟩
  | .hbm, ⟨56, _⟩ => ⟨S1x2048, .f32⟩
  | .hbm, ⟨57, _⟩ => ⟨S1x2048, .f32⟩
  | .hbm, ⟨58, _⟩ => ⟨S1x1x2048, .f32⟩
  | .hbm, ⟨59, _⟩ => ⟨S2x256x2048, .f32⟩
  | .hbm, ⟨60, _⟩ => ⟨S2x256x2048, .f32⟩
  | .hbm, ⟨61, _⟩ => ⟨S1x1x2048, .f32⟩
  | .hbm, ⟨62, _⟩ => ⟨S2x256x2048, .f32⟩
  | .hbm, ⟨63, _⟩ => ⟨S2x256x2048, .f32⟩
  | .hbm, ⟨64, _⟩ => ⟨S_, .i32⟩
  | .hbm, ⟨65, _⟩ => ⟨S_, .f32⟩
  | .hbm, ⟨66, _⟩ => ⟨S2x16386x2048, .f32⟩
  | .hbm, ⟨67, _⟩ => ⟨S2x16384x2048, .f32⟩
  | .hbm, ⟨68, _⟩ => ⟨S2x16384x2048, .f32⟩
  | .hbm, ⟨69, _⟩ => ⟨S2x16384x2048, .f32⟩
  | .hbm, ⟨70, _⟩ => ⟨S_, .f32⟩
  | .hbm, ⟨71, _⟩ => ⟨S2x16384x2048, .f32⟩
  | .hbm, ⟨72, _⟩ => ⟨S2x16384x2048, .f32⟩
  | .hbm, ⟨73, _⟩ => ⟨S2x16384x2048, .f32⟩
  | .hbm, ⟨74, _⟩ => ⟨S_, .i32⟩
  | .hbm, ⟨75, _⟩ => ⟨S_, .f32⟩
  | .hbm, ⟨76, _⟩ => ⟨S2x258x2048, .f32⟩
  | .hbm, ⟨77, _⟩ => ⟨S2x256x2048, .f32⟩
  | .hbm, ⟨78, _⟩ => ⟨S2x256x2048, .f32⟩
  | .hbm, ⟨79, _⟩ => ⟨S2x256x2048, .f32⟩
  | .hbm, ⟨80, _⟩ => ⟨S_, .f32⟩
  | .hbm, ⟨81, _⟩ => ⟨S2x256x2048, .f32⟩
  | .hbm, ⟨82, _⟩ => ⟨S2x256x2048, .f32⟩
  | .hbm, ⟨83, _⟩ => ⟨S2x256x2048, .f32⟩
  | .hbm, ⟨84, _⟩ => ⟨S2x16896x2048, .f32⟩
  | .hbm, ⟨85, _⟩ => ⟨S2x16896x2048, .f32⟩
  | .hbm, ⟨86, _⟩ => ⟨S2x16896x1x2048, .f32⟩
  | .hbm, ⟨87, _⟩ => ⟨S2x16896x1x2048, .f32⟩
  | .hbm, ⟨88, _⟩ => ⟨S1x1x6x2048, .f32⟩
  | .hbm, ⟨89, _⟩ => ⟨S2x16896x6x2048, .f32⟩
  | .hbm, ⟨90, _⟩ => ⟨S2x16896x6x2048, .f32⟩
  | .hbm, ⟨91, _⟩ => ⟨S2x16896x6x2048, .f32⟩
  | .hbm, ⟨92, _⟩ => ⟨S2x16896x6x2048, .f32⟩
  | .hbm, ⟨93, _⟩ => ⟨S2x16896x6x2048, .f32⟩
  | .hbm, ⟨94, _⟩ => ⟨S2x16896x1x2048, .f32⟩
  | .hbm, ⟨95, _⟩ => ⟨S2x16896x2048, .f32⟩
  | .hbm, ⟨96, _⟩ => ⟨S2x16896x1x2048, .f32⟩
  | .hbm, ⟨97, _⟩ => ⟨S2x16896x2048, .f32⟩
  | .hbm, ⟨98, _⟩ => ⟨S2x16896x1x2048, .f32⟩
  | .hbm, ⟨99, _⟩ => ⟨S2x16896x2048, .f32⟩
  | .hbm, ⟨100, _⟩ => ⟨S2x16896x1x2048, .f32⟩
  | .hbm, ⟨101, _⟩ => ⟨S2x16896x2048, .f32⟩
  | .hbm, ⟨102, _⟩ => ⟨S2x16896x1x2048, .f32⟩
  | .hbm, ⟨103, _⟩ => ⟨S2x16896x2048, .f32⟩
  | .hbm, ⟨104, _⟩ => ⟨S2x16896x1x2048, .f32⟩
  | .hbm, ⟨105, _⟩ => ⟨S2x16896x2048, .f32⟩
  | .hbm, ⟨106, _⟩ => ⟨S2x16896x2048, .f32⟩
  | .hbm, ⟨107, _⟩ => ⟨S2x16896x2048, .f32⟩
  | .hbm, ⟨108, _⟩ => ⟨S2x16896x2048, .f32⟩
  | .hbm, ⟨109, _⟩ => ⟨S2x16896x256, .f32⟩
  | .hbm, ⟨110, _⟩ => ⟨S_, .i32⟩
  | .hbm, ⟨111, _⟩ => ⟨S_, .f32⟩
  | .hbm, ⟨112, _⟩ => ⟨S2x16896x512, .f32⟩
  | .hbm, ⟨113, _⟩ => ⟨S2x16896x2x96, .f32⟩
  | .hbm, ⟨114, _⟩ => ⟨S2x16896x192, .f32⟩
  | .hbm, ⟨115, _⟩ => ⟨S_, .i32⟩
  | .hbm, ⟨116, _⟩ => ⟨S_, .f32⟩
  | .hbm, ⟨117, _⟩ => ⟨S2x16896x512, .f32⟩
  | .hbm, ⟨118, _⟩ => ⟨S2x16896x2x96, .f32⟩
  | .hbm, ⟨119, _⟩ => ⟨S2x16896x192, .f32⟩
  | .hbm, ⟨120, _⟩ => ⟨S_, .i32⟩
  | .hbm, ⟨121, _⟩ => ⟨S_, .f32⟩
  | .hbm, ⟨122, _⟩ => ⟨S2x16896x512, .f32⟩
  | .hbm, ⟨123, _⟩ => ⟨S2x16896x7680, .f32⟩
  | .hbm, ⟨124, _⟩ => ⟨S33792x7680, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_cst_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_6 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_c : Ref sig .tc := ⟨.hbm, 64, rfl⟩
abbrev main_call0_v0 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_7 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_c_8 : Ref sig .tc := ⟨.hbm, 74, rfl⟩
abbrev main_call1_v0 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_9 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_c_10 : Ref sig .tc := ⟨.hbm, 110, rfl⟩
abbrev main_call2_v0 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_c_11 : Ref sig .tc := ⟨.hbm, 115, rfl⟩
abbrev main_call3_v0 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_c_12 : Ref sig .tc := ⟨.hbm, 120, rfl⟩
abbrev main_call4_v0 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩

abbrev nD : Nat := 1
abbrev τ : Topo := Topo.v7x

variable {F : FTy → Type} [FloatOps F]
-- ==== AttnOut.lean ====
abbrev S32768x1024 : Shape := ⟨2, ![32768, 1024]⟩
abbrev S2048x2048 : Shape := ⟨2, ![2048, 2048]⟩
abbrev S2x16384x2048 : Shape := ⟨3, ![2, 16384, 2048]⟩
abbrev S2x2048 : Shape := ⟨2, ![2, 2048]⟩
abbrev S32768x2048 : Shape := ⟨2, ![32768, 2048]⟩
abbrev S2x1x2048 : Shape := ⟨3, ![2, 1, 2048]⟩
abbrev S1024x1024 : Shape := ⟨2, ![1024, 1024]⟩
abbrev S2048x512 : Shape := ⟨2, ![2048, 512]⟩
abbrev S1024x512 : Shape := ⟨2, ![1024, 512]⟩
abbrev S1x1x512 : Shape := ⟨3, ![1, 1, 512]⟩
abbrev S1024x2048 : Shape := ⟨2, ![1024, 2048]⟩
abbrev S1x512 : Shape := ⟨2, ![1, 512]⟩

abbrev nBuf : Space → Nat
  | .hbm => 9
  | .vmem => 13
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S2048x2048, .f32⟩
  | .hbm, ⟨3, _⟩ => ⟨S2x16384x2048, .f32⟩
  | .hbm, ⟨4, _⟩ => ⟨S2x2048, .f32⟩
  | .hbm, ⟨5, _⟩ => ⟨S32768x2048, .f32⟩
  | .hbm, ⟨6, _⟩ => ⟨S2048x2048, .bf16⟩
  | .hbm, ⟨7, _⟩ => ⟨S2x1x2048, .f32⟩
  | .hbm, ⟨8, _⟩ => ⟨S32768x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x512, .bf16⟩
  | .local _ .vmem, ⟨5, _⟩ => ⟨S2048x512, .bf16⟩
  | .local _ .vmem, ⟨6, _⟩ => ⟨S1024x512, .f32⟩
  | .local _ .vmem, ⟨7, _⟩ => ⟨S1024x512, .f32⟩
  | .local _ .vmem, ⟨8, _⟩ => ⟨S1x1x512, .f32⟩
  | .local _ .vmem, ⟨9, _⟩ => ⟨S1x1x512, .f32⟩
  | .local _ .vmem, ⟨10, _⟩ => ⟨S1024x512, .f32⟩
  | .local _ .vmem, ⟨11, _⟩ => ⟨S1024x512, .f32⟩
  | .local _ .vmem, ⟨12, _⟩ => ⟨S1024x2048, .bf16⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c16384_i32 : BitVec 32 := 16384#32
  let v1 : BitVec 32 := Scalar.divsi v0 c16384_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16384_i32 c0_i32_1
  let v8 : BitVec 32 := Scalar.extui v7
  let c0_i32_2 : BitVec 32 := 0#32
  let v9 : BitVec 1 := Scalar.cmpi .slt c16384_i32 c0_i32_2
  let v10 : BitVec 32 := Scalar.extui v9
  let v11 : BitVec 32 := Scalar.subi v8 v10
  let v12 : BitVec 1 := Scalar.cmpi .ne v6 v11
  let v13 : BitVec 32 := Scalar.remsi v0 c16384_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== AttnOutRefIdeal.lean ====
abbrev S32768x1024 : Shape := ⟨2, ![32768, 1024]⟩
abbrev S2048x2048 : Shape := ⟨2, ![2048, 2048]⟩
abbrev S2x16384x2048 : Shape := ⟨3, ![2, 16384, 2048]⟩
abbrev S2x2048 : Shape := ⟨2, ![2, 2048]⟩
abbrev S32768x2048 : Shape := ⟨2, ![32768, 2048]⟩
abbrev S2x1x2048 : Shape := ⟨3, ![2, 1, 2048]⟩

abbrev nBuf : Space → Nat
  | .hbm => 14
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S2048x2048, .f32⟩
  | .hbm, ⟨3, _⟩ => ⟨S2x16384x2048, .f32⟩
  | .hbm, ⟨4, _⟩ => ⟨S2x2048, .f32⟩
  | .hbm, ⟨5, _⟩ => ⟨S32768x2048, .bf16⟩
  | .hbm, ⟨6, _⟩ => ⟨S32768x2048, .f32⟩
  | .hbm, ⟨7, _⟩ => ⟨S2x16384x2048, .f32⟩
  | .hbm, ⟨8, _⟩ => ⟨S2x16384x2048, .f32⟩
  | .hbm, ⟨9, _⟩ => ⟨S2x1x2048, .f32⟩
  | .hbm, ⟨10, _⟩ => ⟨S2x16384x2048, .f32⟩
  | .hbm, ⟨11, _⟩ => ⟨S2x16384x2048, .f32⟩
  | .hbm, ⟨12, _⟩ => ⟨S2x16384x2048, .f32⟩
  | .hbm, ⟨13, _⟩ => ⟨S32768x2048, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== MixOut.lean ====
abbrev S2x16384x2048 : Shape := ⟨3, ![2, 16384, 2048]⟩
abbrev S2048x2048 : Shape := ⟨2, ![2048, 2048]⟩
abbrev S2x2048 : Shape := ⟨2, ![2, 2048]⟩
abbrev S32768x2048 : Shape := ⟨2, ![32768, 2048]⟩
abbrev S2x1x2048 : Shape := ⟨3, ![2, 1, 2048]⟩
abbrev S1024x2048 : Shape := ⟨2, ![1024, 2048]⟩
abbrev S2048x512 : Shape := ⟨2, ![2048, 512]⟩
abbrev S1024x512 : Shape := ⟨2, ![1024, 512]⟩
abbrev S1x1x512 : Shape := ⟨3, ![1, 1, 512]⟩
abbrev S1x512 : Shape := ⟨2, ![1, 512]⟩

abbrev nBuf : Space → Nat
  | .hbm => 9
  | .vmem => 11
  | .smem => 0
  | _ => 0

abbrev bufTy : (tb : Table) → Fin (tcTables nBuf tb) → BufTy
  | .hbm, ⟨0, _⟩ => ⟨S2x16384x2048, .bf16⟩
  | .hbm, ⟨1, _⟩ => ⟨S2048x2048, .f32⟩
  | .hbm, ⟨2, _⟩ => ⟨S2x16384x2048, .f32⟩
  | .hbm, ⟨3, _⟩ => ⟨S2x2048, .f32⟩
  | .hbm, ⟨4, _⟩ => ⟨S32768x2048, .bf16⟩
  | .hbm, ⟨5, _⟩ => ⟨S32768x2048, .f32⟩
  | .hbm, ⟨6, _⟩ => ⟨S2048x2048, .bf16⟩
  | .hbm, ⟨7, _⟩ => ⟨S2x1x2048, .f32⟩
  | .hbm, ⟨8, _⟩ => ⟨S32768x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1x1x512, .f32⟩
  | .local _ .vmem, ⟨7, _⟩ => ⟨S1x1x512, .f32⟩
  | .local _ .vmem, ⟨8, _⟩ => ⟨S1024x512, .f32⟩
  | .local _ .vmem, ⟨9, _⟩ => ⟨S1024x512, .f32⟩
  | .local _ .vmem, ⟨10, _⟩ => ⟨S1024x2048, .bf16⟩
  | _, _ => ⟨S2x16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c16384_i32 : BitVec 32 := 16384#32
  let v1 : BitVec 32 := Scalar.divsi v0 c16384_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16384_i32 c0_i32_1
  let v8 : BitVec 32 := Scalar.extui v7
  let c0_i32_2 : BitVec 32 := 0#32
  let v9 : BitVec 1 := Scalar.cmpi .slt c16384_i32 c0_i32_2
  let v10 : BitVec 32 := Scalar.extui v9
  let v11 : BitVec 32 := Scalar.subi v8 v10
  let v12 : BitVec 1 := Scalar.cmpi .ne v6 v11
  let v13 : BitVec 32 := Scalar.remsi v0 c16384_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MixOutRefIdeal.lean ====
abbrev S2x16384x2048 : Shape := ⟨3, ![2, 16384, 2048]⟩
abbrev S2048x2048 : Shape := ⟨2, ![2048, 2048]⟩
abbrev S2x2048 : Shape := ⟨2, ![2, 2048]⟩
abbrev S2x1x2048 : Shape := ⟨3, ![2, 1, 2048]⟩
abbrev S32768x2048 : Shape := ⟨2, ![32768, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2x16384x2048, .bf16⟩
  | .hbm, ⟨1, _⟩ => ⟨S2048x2048, .f32⟩
  | .hbm, ⟨2, _⟩ => ⟨S2x16384x2048, .f32⟩
  | .hbm, ⟨3, _⟩ => ⟨S2x2048, .f32⟩
  | .hbm, ⟨4, _⟩ => ⟨S2x1x2048, .f32⟩
  | .hbm, ⟨5, _⟩ => ⟨S2x16384x2048, .f32⟩
  | .hbm, ⟨6, _⟩ => ⟨S2x16384x2048, .f32⟩
  | .hbm, ⟨7, _⟩ => ⟨S2x16384x2048, .f32⟩
  | .hbm, ⟨8, _⟩ => ⟨S2x16384x2048, .f32⟩
  | .hbm, ⟨9, _⟩ => ⟨S2x16384x2048, .f32⟩
  | .hbm, ⟨10, _⟩ => ⟨S32768x2048, .f32⟩
  | _, _ => ⟨S2x16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Combine.lean ====
abbrev S32768x2048 : Shape := ⟨2, ![32768, 2048]⟩
abbrev S32768x2 : Shape := ⟨2, ![32768, 2]⟩
abbrev S2x16384x2048 : Shape := ⟨3, ![2, 16384, 2048]⟩
abbrev S2x2048 : Shape := ⟨2, ![2, 2048]⟩
abbrev S2x1x2048 : Shape := ⟨3, ![2, 1, 2048]⟩
abbrev S512x2048 : Shape := ⟨2, ![512, 2048]⟩
abbrev S512x2 : Shape := ⟨2, ![512, 2]⟩
abbrev S1x1x2048 : Shape := ⟨3, ![1, 1, 2048]⟩
abbrev S512x1 : Shape := ⟨2, ![512, 1]⟩
abbrev S1x2048 : Shape := ⟨2, ![1, 2048]⟩

abbrev nBuf : Space → Nat
  | .hbm => 8
  | .vmem => 12
  | .smem => 0
  | _ => 0

abbrev bufTy : (tb : Table) → Fin (tcTables nBuf tb) → BufTy
  | .hbm, ⟨0, _⟩ => ⟨S32768x2048, .bf16⟩
  | .hbm, ⟨1, _⟩ => ⟨S32768x2048, .bf16⟩
  | .hbm, ⟨2, _⟩ => ⟨S32768x2, .f32⟩
  | .hbm, ⟨3, _⟩ => ⟨S2x16384x2048, .f32⟩
  | .hbm, ⟨4, _⟩ => ⟨S2x2048, .f32⟩
  | .hbm, ⟨5, _⟩ => ⟨S32768x2048, .f32⟩
  | .hbm, ⟨6, _⟩ => ⟨S2x1x2048, .f32⟩
  | .hbm, ⟨7, _⟩ => ⟨S32768x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2, .f32⟩
  | .local _ .vmem, ⟨5, _⟩ => ⟨S512x2, .f32⟩
  | .local _ .vmem, ⟨6, _⟩ => ⟨S512x2048, .f32⟩
  | .local _ .vmem, ⟨7, _⟩ => ⟨S512x2048, .f32⟩
  | .local _ .vmem, ⟨8, _⟩ => ⟨S1x1x2048, .f32⟩
  | .local _ .vmem, ⟨9, _⟩ => ⟨S1x1x2048, .f32⟩
  | .local _ .vmem, ⟨10, _⟩ => ⟨S512x2048, .f32⟩
  | .local _ .vmem, ⟨11, _⟩ => ⟨S512x2048, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c512_i32 : BitVec 32 := 512#32
  let v0 : BitVec 32 := Scalar.muli arg0 c512_i32
  let c16384_i32 : BitVec 32 := 16384#32
  let v1 : BitVec 32 := Scalar.divsi v0 c16384_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16384_i32 c0_i32_1
  let v8 : BitVec 32 := Scalar.extui v7
  let c0_i32_2 : BitVec 32 := 0#32
  let v9 : BitVec 1 := Scalar.cmpi .slt c16384_i32 c0_i32_2
  let v10 : BitVec 32 := Scalar.extui v9
  let v11 : BitVec 32 := Scalar.subi v8 v10
  let v12 : BitVec 1 := Scalar.cmpi .ne v6 v11
  let v13 : BitVec 32 := Scalar.remsi v0 c16384_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== CombineRefIdeal.lean ====
abbrev S32768x2048 : Shape := ⟨2, ![32768, 2048]⟩
abbrev S32768x2 : Shape := ⟨2, ![32768, 2]⟩
abbrev S2x16384x2048 : Shape := ⟨3, ![2, 16384, 2048]⟩
abbrev S2x2048 : Shape := ⟨2, ![2, 2048]⟩
abbrev S32768x1x2048 : Shape := ⟨3, ![32768, 1, 2048]⟩
abbrev S32768x2x2048 : Shape := ⟨3, ![32768, 2, 2048]⟩
abbrev S32768x2x1 : Shape := ⟨3, ![32768, 2, 1]⟩
abbrev S2x1x2048 : Shape := ⟨3, ![2, 1, 2048]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S32768x2048, .bf16⟩
  | .hbm, ⟨2, _⟩ => ⟨S32768x2, .f32⟩
  | .hbm, ⟨3, _⟩ => ⟨S2x16384x2048, .f32⟩
  | .hbm, ⟨4, _⟩ => ⟨S2x2048, .f32⟩
  | .hbm, ⟨5, _⟩ => ⟨S32768x1x2048, .bf16⟩
  | .hbm, ⟨6, _⟩ => ⟨S32768x1x2048, .bf16⟩
  | .hbm, ⟨7, _⟩ => ⟨S32768x2x2048, .bf16⟩
  | .hbm, ⟨8, _⟩ => ⟨S32768x2x2048, .f32⟩
  | .hbm, ⟨9, _⟩ => ⟨S32768x2x1, .f32⟩
  | .hbm, ⟨10, _⟩ => ⟨S32768x2x2048, .f32⟩
  | .hbm, ⟨11, _⟩ => ⟨S32768x2x2048, .f32⟩
  | .hbm, ⟨12, _⟩ => ⟨S2x1x2048, .f32⟩
  | .hbm, ⟨13, _⟩ => ⟨S_, .f32⟩
  | .hbm, ⟨14, _⟩ => ⟨S32768x2048, .f32⟩
  | .hbm, ⟨15, _⟩ => ⟨S2x16384x2048, .f32⟩
  | .hbm, ⟨16, _⟩ => ⟨S2x16384x2048, .f32⟩
  | .hbm, ⟨17, _⟩ => ⟨S2x16384x2048, .f32⟩
  | .hbm, ⟨18, _⟩ => ⟨S2x16384x2048, .f32⟩
  | .hbm, ⟨19, _⟩ => ⟨S32768x2048, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Qkv.lean ====
abbrev S2x16384x2048 : Shape := ⟨3, ![2, 16384, 2048]⟩
abbrev S2048x4608 : Shape := ⟨2, ![2048, 4608]⟩
abbrev S2048 : Shape := ⟨1, ![2048]⟩
abbrev S2x2048 : Shape := ⟨2, ![2, 2048]⟩
abbrev S128 : Shape := ⟨1, ![128]⟩
abbrev S32768x2048 : Shape := ⟨2, ![32768, 2048]⟩
abbrev S_ : Shape := ⟨0, ![]⟩
abbrev S1x128 : Shape := ⟨2, ![1, 128]⟩
abbrev S8x128 : Shape := ⟨2, ![8, 128]⟩
abbrev S1024 : Shape := ⟨1, ![1024]⟩
abbrev S2x128 : Shape := ⟨2, ![2, 128]⟩
abbrev S256 : Shape := ⟨1, ![256]⟩
abbrev S4608 : Shape := ⟨1, ![4608]⟩
abbrev S1x4608 : Shape := ⟨2, ![1, 4608]⟩
abbrev S16384 : Shape := ⟨1, ![16384]⟩
abbrev S32 : Shape := ⟨1, ![32]⟩
abbrev S16384x1 : Shape := ⟨2, ![16384, 1]⟩
abbrev S1x32 : Shape := ⟨2, ![1, 32]⟩
abbrev S16384x32 : Shape := ⟨2, ![16384, 32]⟩
abbrev S16384x128 : Shape := ⟨2, ![16384, 128]⟩
abbrev S1x2048 : Shape := ⟨2, ![1, 2048]⟩
abbrev S2x1x2048 : Shape := ⟨3, ![2, 1, 2048]⟩
abbrev S32768x4608 : Shape := ⟨2, ![32768, 4608]⟩
abbrev S1024x2048 : Shape := ⟨2, ![1024, 2048]⟩
abbrev S1x1x2048 : Shape := ⟨3, ![1, 1, 2048]⟩
abbrev S2048x512 : Shape := ⟨2, ![2048, 512]⟩
abbrev S1x512 : Shape := ⟨2, ![1, 512]⟩
abbrev S1024x128 : Shape := ⟨2, ![1024, 128]⟩
abbrev S1024x512 : Shape := ⟨2, ![1024, 512]⟩
abbrev S1024x1 : Shape := ⟨2, ![1024, 1]⟩

abbrev nBuf : Space → Nat
  | .hbm => 110
  | .vmem => 18
  | .smem => 0
  | _ => 0

abbrev bufTy : (tb : Table) → Fin (tcTables nBuf tb) → BufTy
  | .hbm, ⟨0, _⟩ => ⟨S2x16384x2048, .f32⟩
  | .hbm, ⟨1, _⟩ => ⟨S2048x4608, .f32⟩
  | .hbm, ⟨2, _⟩ => ⟨S2048, .f32⟩
  | .hbm, ⟨3, _⟩ => ⟨S2x2048, .f32⟩
  | .hbm, ⟨4, _⟩ => ⟨S2x2048, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S32768x2048, .f32⟩
  | .hbm, ⟨10, _⟩ => ⟨S_, .f32⟩
  | .hbm, ⟨11, _⟩ => ⟨S128, .f32⟩
  | .hbm, ⟨12, _⟩ => ⟨S1x128, .f32⟩
  | .hbm, ⟨13, _⟩ => ⟨S8x128, .f32⟩
  | .hbm, ⟨14, _⟩ => ⟨S1024, .f32⟩
  | .hbm, ⟨15, _⟩ => ⟨S1x128, .f32⟩
  | .hbm, ⟨16, _⟩ => ⟨S2x128, .f32⟩
  | .hbm, ⟨17, _⟩ => ⟨S256, .f32⟩
  | .hbm, ⟨18, _⟩ => ⟨S1x128, .f32⟩
  | .hbm, ⟨19, _⟩ => ⟨S2x128, .f32⟩
  | .hbm, ⟨20, _⟩ => ⟨S256, .f32⟩
  | .hbm, ⟨21, _⟩ => ⟨S1x128, .f32⟩
  | .hbm, ⟨22, _⟩ => ⟨S8x128, .f32⟩
  | .hbm, ⟨23, _⟩ => ⟨S1024, .f32⟩
  | .hbm, ⟨24, _⟩ => ⟨S1x128, .f32⟩
  | .hbm, ⟨25, _⟩ => ⟨S8x128, .f32⟩
  | .hbm, ⟨26, _⟩ => ⟨S1024, .f32⟩
  | .hbm, ⟨27, _⟩ => ⟨S1x128, .f32⟩
  | .hbm, ⟨28, _⟩ => ⟨S8x128, .f32⟩
  | .hbm, ⟨29, _⟩ => ⟨S1024, .f32⟩
  | .hbm, ⟨30, _⟩ => ⟨S4608, .f32⟩
  | .hbm, ⟨31, _⟩ => ⟨S1x4608, .f32⟩
  | .hbm, ⟨32, _⟩ => ⟨S16384, .i32⟩
  | .hbm, ⟨33, _⟩ => ⟨S32, .f32⟩
  | .hbm, ⟨34, _⟩ => ⟨S32, .f32⟩
  | .hbm, ⟨35, _⟩ => ⟨S_, .f32⟩
  | .hbm, ⟨36, _⟩ => ⟨S32, .f32⟩
  | .hbm, ⟨37, _⟩ => ⟨S32, .f32⟩
  | .hbm, ⟨38, _⟩ => ⟨S_, .f32⟩
  | .hbm, ⟨39, _⟩ => ⟨S32, .f32⟩
  | .hbm, ⟨40, _⟩ => ⟨S32, .f32⟩
  | .hbm, ⟨41, _⟩ => ⟨S_, .i32⟩
  | .hbm, ⟨42, _⟩ => ⟨S_, .i32⟩
  | .hbm, ⟨43, _⟩ => ⟨S16384, .i32⟩
  | .hbm, ⟨44, _⟩ => ⟨S16384, .i32⟩
  | .hbm, ⟨45, _⟩ => ⟨S16384, .i32⟩
  | .hbm, ⟨46, _⟩ => ⟨S_, .i32⟩
  | .hbm, ⟨47, _⟩ => ⟨S16384, .i32⟩
  | .hbm, ⟨48, _⟩ => ⟨S16384, .i1⟩
  | .hbm, ⟨49, _⟩ => ⟨S16384, .i32⟩
  | .hbm, ⟨50, _⟩ => ⟨S16384, .i32⟩
  | .hbm, ⟨51, _⟩ => ⟨S_, .i32⟩
  | .hbm, ⟨52, _⟩ => ⟨S16384, .i32⟩
  | .hbm, ⟨53, _⟩ => ⟨S16384, .i1⟩
  | .hbm, ⟨54, _⟩ => ⟨S16384, .i1⟩
  | .hbm, ⟨55, _⟩ => ⟨S_, .i32⟩
  | .hbm, ⟨56, _⟩ => ⟨S16384, .i32⟩
  | .hbm, ⟨57, _⟩ => ⟨S16384, .i32⟩
  | .hbm, ⟨58, _⟩ => ⟨S16384, .i32⟩
  | .hbm, ⟨59, _⟩ => ⟨S16384, .f32⟩
  | .hbm, ⟨60, _⟩ => ⟨S16384x1, .f32⟩
  | .hbm, ⟨61, _⟩ => ⟨S1x32, .f32⟩
  | .hbm, ⟨62, _⟩ => ⟨S16384x32, .f32⟩
  | .hbm, ⟨63, _⟩ => ⟨S16384x32, .f32⟩
  | .hbm, ⟨64, _⟩ => ⟨S16384x32, .f32⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S_, .i1⟩
  | .hbm, ⟨69, _⟩ => ⟨S_, .i32⟩
  | .hbm, ⟨70, _⟩ => ⟨S_, .i32⟩
  | .hbm, ⟨71, _⟩ => ⟨S16384, .i32⟩
  | .hbm, ⟨72, _⟩ => ⟨S16384, .i32⟩
  | .hbm, ⟨73, _⟩ => ⟨S_, .i32⟩
  | .hbm, ⟨74, _⟩ => ⟨S16384, .i32⟩
  | .hbm, ⟨75, _⟩ => ⟨S16384, .i1⟩
  | .hbm, ⟨76, _⟩ => ⟨S_, .i32⟩
  | .hbm, ⟨77, _⟩ => ⟨S16384, .i32⟩
  | .hbm, ⟨78, _⟩ => ⟨S16384, .i1⟩
  | .hbm, ⟨79, _⟩ => ⟨S_, .i32⟩
  | .hbm, ⟨80, _⟩ => ⟨S_, .i1⟩
  | .hbm, ⟨81, _⟩ => ⟨S16384, .i1⟩
  | .hbm, ⟨82, _⟩ => ⟨S16384, .i1⟩
  | .hbm, ⟨83, _⟩ => ⟨S16384, .i1⟩
  | .hbm, ⟨84, _⟩ => ⟨S16384, .i32⟩
  | .hbm, ⟨85, _⟩ => ⟨S16384, .i32⟩
  | .hbm, ⟨86, _⟩ => ⟨S16384, .i32⟩
  | .hbm, ⟨87, _⟩ => ⟨S16384, .f32⟩
  | .hbm, ⟨88, _⟩ => ⟨S16384x1, .f32⟩
  | .hbm, ⟨89, _⟩ => ⟨S1x32, .f32⟩
  | .hbm, ⟨90, _⟩ => ⟨S16384x32, .f32⟩
  | .hbm, ⟨91, _⟩ => ⟨S16384x32, .f32⟩
  | .hbm, ⟨92, _⟩ => ⟨S16384x32, .f32⟩
  | .hbm, ⟨93, _⟩ => ⟨S16384x32, .f32⟩
  | .hbm, ⟨94, _⟩ => ⟨S16384x32, .f32⟩
  | .hbm, ⟨95, _⟩ => ⟨S16384x32, .f32⟩
  | .hbm, ⟨96, _⟩ => ⟨S16384x32, .f32⟩
  | .hbm, ⟨97, _⟩ => ⟨S16384x128, .f32⟩
  | .hbm, ⟨98, _⟩ => ⟨S16384x32, .f32⟩
  | .hbm, ⟨99, _⟩ => ⟨S16384x32, .f32⟩
  | .hbm, ⟨100, _⟩ => ⟨S16384x32, .f32⟩
  | .hbm, ⟨101, _⟩ => ⟨S16384x32, .f32⟩
  | .hbm, ⟨102, _⟩ => ⟨S16384x32, .f32⟩
  | .hbm, ⟨103, _⟩ => ⟨S16384x32, .f32⟩
  | .hbm, ⟨104, _⟩ => ⟨S16384x128, .f32⟩
  | .hbm, ⟨105, _⟩ => ⟨S1x2048, .f32⟩
  | .hbm, ⟨106, _⟩ => ⟨S2x1x2048, .f32⟩
  | .hbm, ⟨107, _⟩ => ⟨S2x1x2048, .f32⟩
  | .hbm, ⟨108, _⟩ => ⟨S2048x4608, .bf16⟩
  | .hbm, ⟨109, _⟩ => ⟨S32768x4608, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x512, .bf16⟩
  | .local _ .vmem, ⟨8, _⟩ => ⟨S2048x512, .bf16⟩
  | .local _ .vmem, ⟨9, _⟩ => ⟨S1x512, .f32⟩
  | .local _ .vmem, ⟨10, _⟩ => ⟨S1x512, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x512, .bf16⟩
  | .local _ .vmem, ⟨16, _⟩ => ⟨S1024x512, .bf16⟩
  | .local _ .vmem, ⟨17, _⟩ => ⟨S1024x2048, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_0 : Ref sig .tc := ⟨.hbm, 35, rfl⟩
abbrev main_v25 : Ref sig .tc := ⟨.hbm, 36, rfl⟩
abbrev main_v26 : Ref sig .tc := ⟨.hbm, 37, rfl⟩
abbrev main_cst_1 : Ref sig .tc := ⟨.hbm, 38, rfl⟩
abbrev main_v27 : Ref sig .tc := ⟨.hbm, 39, rfl⟩
abbrev main_v28 : Ref sig .tc := ⟨.hbm, 40, rfl⟩
abbrev main_c : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_call0_v5 : Ref sig .tc := ⟨.hbm, 47, rfl⟩
abbrev main_call0_v6 : Ref sig .tc := ⟨.hbm, 48, rfl⟩
abbrev main_call0_v7 : Ref sig .tc := ⟨.hbm, 49, rfl⟩
abbrev main_call0_v8 : Ref sig .tc := ⟨.hbm, 50, rfl⟩
abbrev main_call0_c : Ref sig .tc := ⟨.hbm, 51, rfl⟩
abbrev main_call0_v9 : Ref sig .tc := ⟨.hbm, 52, rfl⟩
abbrev main_call0_v10 : Ref sig .tc := ⟨.hbm, 53, rfl⟩
abbrev main_call0_v11 : Ref sig .tc := ⟨.hbm, 54, rfl⟩
abbrev main_call0_c_0 : Ref sig .tc := ⟨.hbm, 55, rfl⟩
abbrev main_call0_v12 : Ref sig .tc := ⟨.hbm, 56, rfl⟩
abbrev main_call0_v13 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_c_2 : Ref sig .tc := ⟨.hbm, 65, rfl⟩
abbrev main_call1_v0 : Ref sig .tc := ⟨.hbm, 66, rfl⟩
abbrev main_call1_c : Ref sig .tc := ⟨.hbm, 67, rfl⟩
abbrev main_call1_v1 : Ref sig .tc := ⟨.hbm, 68, rfl⟩
abbrev main_call1_c_0 : Ref sig .tc := ⟨.hbm, 69, rfl⟩
abbrev main_call1_v2 : Ref sig .tc := ⟨.hbm, 70, rfl⟩
abbrev main_call1_v3 : Ref sig .tc := ⟨.hbm, 71, rfl⟩
abbrev main_call1_v4 : Ref sig .tc := ⟨.hbm, 72, rfl⟩
abbrev main_call1_c_1 : Ref sig .tc := ⟨.hbm, 73, rfl⟩
abbrev main_call1_v5 : Ref sig .tc := ⟨.hbm, 74, rfl⟩
abbrev main_call1_v6 : Ref sig .tc := ⟨.hbm, 75, rfl⟩
abbrev main_call1_c_2 : Ref sig .tc := ⟨.hbm, 76, rfl⟩
abbrev main_call1_v7 : Ref sig .tc := ⟨.hbm, 77, rfl⟩
abbrev main_call1_v8 : Ref sig .tc := ⟨.hbm, 78, rfl⟩
abbrev main_call1_c_3 : Ref sig .tc := ⟨.hbm, 79, rfl⟩
abbrev main_call1_v9 : Ref sig .tc := ⟨.hbm, 80, rfl⟩
abbrev main_call1_v10 : Ref sig .tc := ⟨.hbm, 81, rfl⟩
abbrev main_call1_v11 : Ref sig .tc := ⟨.hbm, 82, rfl⟩
abbrev main_call1_v12 : Ref sig .tc := ⟨.hbm, 83, rfl⟩
abbrev main_call1_v13 : Ref sig .tc := ⟨.hbm, 84, rfl⟩
abbrev main_call1_v14 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![32, 9], ![false, false]⟩

def k0_cond2 (i : grid0.Coords) : BitVec 1 :=
  let arg1 : BitVec 32 := BitVec.ofNat 32 (i 1).val
  let c3_i32 : BitVec 32 := 3#32
  let v7 : BitVec 1 := Scalar.cmpi .eq arg1 c3_i32
  let c4_i32 : BitVec 32 := 4#32
  let v8 : BitVec 1 := Scalar.cmpi .eq arg1 c4_i32
  let v9 : BitVec 1 := Scalar.ori v7 v8
  let c5_i32 : BitVec 32 := 5#32
  let v10 : BitVec 1 := Scalar.cmpi .eq arg1 c5_i32
  let v11 : BitVec 1 := Scalar.ori v9 v10
  let c6_i32 : BitVec 32 := 6#32
  let v12 : BitVec 1 := Scalar.cmpi .eq arg1 c6_i32
  let v13 : BitVec 1 := Scalar.ori v11 v12
  let v14 : BitVec 32 := Scalar.extui v13
  let c0_i32_4 : BitVec 32 := 0#32
  let v15 : BitVec 1 := Scalar.cmpi .ne v14 c0_i32_4
  v15

def k0_cond3 (i : grid0.Coords) : BitVec 1 :=
  let arg1 : BitVec 32 := BitVec.ofNat 32 (i 1).val
  let c7_i32 : BitVec 32 := 7#32
  let v16 : BitVec 1 := Scalar.cmpi .eq arg1 c7_i32
  let c8_i32 : BitVec 32 := 8#32
  let v17 : BitVec 1 := Scalar.cmpi .eq arg1 c8_i32
  let v18 : BitVec 1 := Scalar.ori v16 v17
  let v19 : BitVec 32 := Scalar.extui v18
  let c0_i32_5 : BitVec 32 := 0#32
  let v20 : BitVec 1 := Scalar.cmpi .ne v19 c0_i32_5
  v20

def k0_cond4 (i : grid0.Coords) : BitVec 1 :=
  let arg1 : BitVec 32 := BitVec.ofNat 32 (i 1).val
  let c2_i32 : BitVec 32 := 2#32
  let v21 : BitVec 1 := Scalar.cmpi .eq arg1 c2_i32
  let v22 : BitVec 32 := Scalar.extui v21
  let c0_i32_6 : BitVec 32 := 0#32
  let v23 : BitVec 1 := Scalar.cmpi .ne v22 c0_i32_6
  v23

def k0_cond5 (i : grid0.Coords) : BitVec 1 :=
  let arg1 : BitVec 32 := BitVec.ofNat 32 (i 1).val
  let c0_i32_7 : BitVec 32 := 0#32
  let v24 : BitVec 1 := Scalar.cmpi .eq arg1 c0_i32_7
  let c1_i32 : BitVec 32 := 1#32
  let v25 : BitVec 1 := Scalar.cmpi .eq arg1 c1_i32
  let v26 : BitVec 1 := Scalar.ori v24 v25
  let v27 : BitVec 32 := Scalar.extui v26
  let c0_i32_8 : BitVec 32 := 0#32
  let v28 : BitVec 1 := Scalar.cmpi .ne v27 c0_i32_8
  v28

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c16384_i32 : BitVec 32 := 16384#32
  let v1 : BitVec 32 := Scalar.divsi v0 c16384_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16384_i32 c0_i32_1
  let v8 : BitVec 32 := Scalar.extui v7
  let c0_i32_2 : BitVec 32 := 0#32
  let v9 : BitVec 1 := Scalar.cmpi .slt c16384_i32 c0_i32_2
  let v10 : BitVec 32 := Scalar.extui v9
  let v11 : BitVec 32 := Scalar.subi v8 v10
  let v12 : BitVec 1 := Scalar.cmpi .ne v6 v11
  let v13 : BitVec 32 := Scalar.remsi v0 c16384_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c16384_i32 : BitVec 32 := 16384#32
  let v1 : BitVec 32 := Scalar.divsi v0 c16384_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16384_i32 c0_i32_1
  let v8 : BitVec 32 := Scalar.extui v7
  let c0_i32_2 : BitVec 32 := 0#32
  let v9 : BitVec 1 := Scalar.cmpi .slt c16384_i32 c0_i32_2
  let v10 : BitVec 32 := Scalar.extui v9
  let v11 : BitVec 32 := Scalar.subi v8 v10
  let v12 : BitVec 1 := Scalar.cmpi .ne v6 v11
  let v13 : BitVec 32 := Scalar.remsi v0 c16384_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== QkvRefIdeal.lean ====
abbrev S2x16384x2048 : Shape := ⟨3, ![2, 16384, 2048]⟩
abbrev S2048x4608 : Shape := ⟨2, ![2048, 4608]⟩
abbrev S2048 : Shape := ⟨1, ![2048]⟩
abbrev S2x2048 : Shape := ⟨2, ![2, 2048]⟩
abbrev S128 : Shape := ⟨1, ![128]⟩
abbrev S16384 : Shape := ⟨1, ![16384]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S2x1x2048 : Shape := ⟨3, ![2, 1, 2048]⟩
abbrev S2x16384x4608 : Shape := ⟨3, ![2, 16384, 4608]⟩
abbrev S2x16384x1024 : Shape := ⟨3, ![2, 16384, 1024]⟩
abbrev S2x16384x256 : Shape := ⟨3, ![2, 16384, 256]⟩
abbrev S2x16384x8x128 : Shape := ⟨4, ![2, 16384, 8, 128]⟩
abbrev S2x16384x2x128 : Shape := ⟨4, ![2, 16384, 2, 128]⟩
abbrev S2x16384x8 : Shape := ⟨3, ![2, 16384, 8]⟩
abbrev S2x16384x8x1 : Shape := ⟨4, ![2, 16384, 8, 1]⟩
abbrev S1x1x1x128 : Shape := ⟨4, ![1, 1, 1, 128]⟩
abbrev S32 : Shape := ⟨1, ![32]⟩
abbrev S2x16384x8x64 : Shape := ⟨4, ![2, 16384, 8, 64]⟩
abbrev S16384x1 : Shape := ⟨2, ![16384, 1]⟩
abbrev S1x32 : Shape := ⟨2, ![1, 32]⟩
abbrev S16384x32 : Shape := ⟨2, ![16384, 32]⟩
abbrev S1x16384x1x32 : Shape := ⟨4, ![1, 16384, 1, 32]⟩
abbrev S2x16384x8x32 : Shape := ⟨4, ![2, 16384, 8, 32]⟩
abbrev S2x16384x2 : Shape := ⟨3, ![2, 16384, 2]⟩
abbrev S2x16384x2x1 : Shape := ⟨4, ![2, 16384, 2, 1]⟩
abbrev S2x16384x2x64 : Shape := ⟨4, ![2, 16384, 2, 64]⟩
abbrev S2x16384x2x32 : Shape := ⟨4, ![2, 16384, 2, 32]⟩
abbrev S32768x4608 : Shape := ⟨2, ![32768, 4608]⟩

abbrev nBuf : Space → Nat
  | .hbm => 275
  | .vmem => 0
  | .smem => 0
  | _ => 0

abbrev hbmTy0_0 (i : Nat) : BufTy := match i % 128 with
  | 0 => ⟨S2x16384x2048, .f32⟩
  | 1 => ⟨S2048x4608, .f32⟩
  | 2 => ⟨S2048, .f32⟩
  | 3 => ⟨S2x2048, .f32⟩
  | 4 => ⟨S2x2048, .f32⟩
  | 5 => ⟨S128, .f32⟩
  | 6 => ⟨S128, .f32⟩
  | 7 => ⟨S128, .f32⟩
  | 8 => ⟨S128, .f32⟩
  | 9 => ⟨S16384, .i32⟩
  | 10 => ⟨S_, .i32⟩
  | 11 => ⟨S_, .i32⟩
  | 12 => ⟨S16384, .i32⟩
  | 13 => ⟨S16384, .i32⟩
  | 14 => ⟨S16384, .i32⟩
  | 15 => ⟨S_, .i32⟩
  | 16 => ⟨S16384, .i32⟩
  | 17 => ⟨S16384, .i1⟩
  | 18 => ⟨S16384, .i32⟩
  | 19 => ⟨S16384, .i32⟩
  | 20 => ⟨S_, .i32⟩
  | 21 => ⟨S16384, .i32⟩
  | 22 => ⟨S16384, .i1⟩
  | 23 => ⟨S16384, .i1⟩
  | 24 => ⟨S_, .i32⟩
  | 25 => ⟨S16384, .i32⟩
  | 26 => ⟨S16384, .i32⟩
  | 27 => ⟨S16384, .i32⟩
  | 28 => ⟨S_, .i32⟩
  | 29 => ⟨S_, .i32⟩
  | 30 => ⟨S_, .i32⟩
  | 31 => ⟨S_, .i1⟩
  | 32 => ⟨S_, .i32⟩
  | 33 => ⟨S_, .i32⟩
  | 34 => ⟨S16384, .i32⟩
  | 35 => ⟨S16384, .i32⟩
  | 36 => ⟨S_, .i32⟩
  | 37 => ⟨S16384, .i32⟩
  | 38 => ⟨S16384, .i1⟩
  | 39 => ⟨S_, .i32⟩
  | 40 => ⟨S16384, .i32⟩
  | 41 => ⟨S16384, .i1⟩
  | 42 => ⟨S_, .i32⟩
  | 43 => ⟨S_, .i1⟩
  | 44 => ⟨S16384, .i1⟩
  | 45 => ⟨S16384, .i1⟩
  | 46 => ⟨S16384, .i1⟩
  | 47 => ⟨S16384, .i32⟩
  | 48 => ⟨S16384, .i32⟩
  | 49 => ⟨S16384, .i32⟩
  | 50 => ⟨S2x16384x2048, .f32⟩
  | 51 => ⟨S_, .f32⟩
  | 52 => ⟨S2x16384, .f32⟩
  | 53 => ⟨S2x16384x1, .f32⟩
  | 54 => ⟨S_, .f32⟩
  | 55 => ⟨S2x16384x1, .f32⟩
  | 56 => ⟨S2x16384x1, .f32⟩
  | 57 => ⟨S_, .f32⟩
  | 58 => ⟨S2x16384x1, .f32⟩
  | 59 => ⟨S2x16384x1, .f32⟩
  | 60 => ⟨S2x16384x1, .f32⟩
  | 61 => ⟨S2x16384x2048, .f32⟩
  | 62 => ⟨S2x16384x2048, .f32⟩
  | 63 => ⟨S1x1x2048, .f32⟩
  | 64 => ⟨S2x16384x2048, .f32⟩
  | 65 => ⟨S2x16384x2048, .f32⟩
  | 66 => ⟨S2x1x2048, .f32⟩
  | 67 => ⟨S_, .f32⟩
  | 68 => ⟨S2x1x2048, .f32⟩
  | 69 => ⟨S2x1x2048, .f32⟩
  | 70 => ⟨S2x16384x2048, .f32⟩
  | 71 => ⟨S2x16384x2048, .f32⟩
  | 72 => ⟨S2x1x2048, .f32⟩
  | 73 => ⟨S2x16384x2048, .f32⟩
  | 74 => ⟨S2x16384x2048, .f32⟩
  | 75 => ⟨S2x16384x4608, .f32⟩
  | 76 => ⟨S2x16384x1024, .f32⟩
  | 77 => ⟨S2x16384x256, .f32⟩
  | 78 => ⟨S2x16384x256, .f32⟩
  | 79 => ⟨S2x16384x1024, .f32⟩
  | 80 => ⟨S2x16384x1024, .f32⟩
  | 81 => ⟨S2x16384x1024, .f32⟩
  | 82 => ⟨S2x16384x8x128, .f32⟩
  | 83 => ⟨S2x16384x2x128, .f32⟩
  | 84 => ⟨S2x16384x2x128, .f32⟩
  | 85 => ⟨S2x16384x8x128, .f32⟩
  | 86 => ⟨S2x16384x8x128, .f32⟩
  | 87 => ⟨S2x16384x8x128, .f32⟩
  | 88 => ⟨S2x16384x8x128, .f32⟩
  | 89 => ⟨S_, .f32⟩
  | 90 => ⟨S2x16384x8, .f32⟩
  | 91 => ⟨S2x16384x8x1, .f32⟩
  | 92 => ⟨S_, .f32⟩
  | 93 => ⟨S2x16384x8x1, .f32⟩
  | 94 => ⟨S2x16384x8x1, .f32⟩
  | 95 => ⟨S_, .f32⟩
  | 96 => ⟨S2x16384x8x1, .f32⟩
  | 97 => ⟨S2x16384x8x1, .f32⟩
  | 98 => ⟨S2x16384x8x1, .f32⟩
  | 99 => ⟨S2x16384x8x128, .f32⟩
  | 100 => ⟨S2x16384x8x128, .f32⟩
  | 101 => ⟨S1x1x1x128, .f32⟩
  | 102 => ⟨S2x16384x8x128, .f32⟩
  | 103 => ⟨S2x16384x8x128, .f32⟩
  | 104 => ⟨S32, .f32⟩
  | 105 => ⟨S32, .f32⟩
  | 106 => ⟨S_, .f32⟩
  | 107 => ⟨S32, .f32⟩
  | 108 => ⟨S32, .f32⟩
  | 109 => ⟨S_, .f32⟩
  | 110 => ⟨S32, .f32⟩
  | 111 => ⟨S32, .f32⟩
  | 112 => ⟨S2x16384x8x64, .f32⟩
  | 113 => ⟨S16384, .f32⟩
  | 114 => ⟨S16384x1, .f32⟩
  | 115 => ⟨S1x32, .f32⟩
  | 116 => ⟨S16384x32, .f32⟩
  | 117 => ⟨S16384x32, .f32⟩
  | 118 => ⟨S16384x32, .f32⟩
  | 119 => ⟨S16384x32, .f32⟩
  | 120 => ⟨S1x16384x1x32, .f32⟩
  | 121 => ⟨S16384x32, .f32⟩
  | 122 => ⟨S1x16384x1x32, .f32⟩
  | 123 => ⟨S2x16384x8x32, .f32⟩
  | 124 => ⟨S2x16384x8x32, .f32⟩
  | 125 => ⟨S2x16384x8x32, .f32⟩
  | 126 => ⟨S2x16384x8x32, .f32⟩
  | 127 => ⟨S2x16384x8x32, .f32⟩
  | _ => ⟨S2x16384x2048, .f32⟩

abbrev hbmTy0_1 (i : Nat) : BufTy := match i % 128 with
  | 0 => ⟨S2x16384x8x32, .f32⟩
  | 1 => ⟨S2x16384x8x32, .f32⟩
  | 2 => ⟨S2x16384x8x32, .f32⟩
  | 3 => ⟨S2x16384x8x32, .f32⟩
  | 4 => ⟨S2x16384x8x32, .f32⟩
  | 5 => ⟨S2x16384x8x32, .f32⟩
  | 6 => ⟨S2x16384x8x32, .f32⟩
  | 7 => ⟨S2x16384x8x64, .f32⟩
  | 8 => ⟨S2x16384x8x64, .f32⟩
  | 9 => ⟨S16384, .f32⟩
  | 10 => ⟨S16384x1, .f32⟩
  | 11 => ⟨S1x32, .f32⟩
  | 12 => ⟨S16384x32, .f32⟩
  | 13 => ⟨S16384x32, .f32⟩
  | 14 => ⟨S16384x32, .f32⟩
  | 15 => ⟨S16384x32, .f32⟩
  | 16 => ⟨S1x16384x1x32, .f32⟩
  | 17 => ⟨S16384x32, .f32⟩
  | 18 => ⟨S1x16384x1x32, .f32⟩
  | 19 => ⟨S2x16384x8x32, .f32⟩
  | 20 => ⟨S2x16384x8x32, .f32⟩
  | 21 => ⟨S2x16384x8x32, .f32⟩
  | 22 => ⟨S2x16384x8x32, .f32⟩
  | 23 => ⟨S2x16384x8x32, .f32⟩
  | 24 => ⟨S2x16384x8x32, .f32⟩
  | 25 => ⟨S2x16384x8x32, .f32⟩
  | 26 => ⟨S2x16384x8x32, .f32⟩
  | 27 => ⟨S2x16384x8x32, .f32⟩
  | 28 => ⟨S2x16384x8x32, .f32⟩
  | 29 => ⟨S2x16384x8x32, .f32⟩
  | 30 => ⟨S2x16384x8x32, .f32⟩
  | 31 => ⟨S2x16384x8x64, .f32⟩
  | 32 => ⟨S2x16384x8x128, .f32⟩
  | 33 => ⟨S2x16384x2x128, .f32⟩
  | 34 => ⟨S_, .f32⟩
  | 35 => ⟨S2x16384x2, .f32⟩
  | 36 => ⟨S2x16384x2x1, .f32⟩
  | 37 => ⟨S_, .f32⟩
  | 38 => ⟨S2x16384x2x1, .f32⟩
  | 39 => ⟨S2x16384x2x1, .f32⟩
  | 40 => ⟨S_, .f32⟩
  | 41 => ⟨S2x16384x2x1, .f32⟩
  | 42 => ⟨S2x16384x2x1, .f32⟩
  | 43 => ⟨S2x16384x2x1, .f32⟩
  | 44 => ⟨S2x16384x2x128, .f32⟩
  | 45 => ⟨S2x16384x2x128, .f32⟩
  | 46 => ⟨S1x1x1x128, .f32⟩
  | 47 => ⟨S2x16384x2x128, .f32⟩
  | 48 => ⟨S2x16384x2x128, .f32⟩
  | 49 => ⟨S32, .f32⟩
  | 50 => ⟨S32, .f32⟩
  | 51 => ⟨S_, .f32⟩
  | 52 => ⟨S32, .f32⟩
  | 53 => ⟨S32, .f32⟩
  | 54 => ⟨S_, .f32⟩
  | 55 => ⟨S32, .f32⟩
  | 56 => ⟨S32, .f32⟩
  | 57 => ⟨S2x16384x2x64, .f32⟩
  | 58 => ⟨S16384, .f32⟩
  | 59 => ⟨S16384x1, .f32⟩
  | 60 => ⟨S1x32, .f32⟩
  | 61 => ⟨S16384x32, .f32⟩
  | 62 => ⟨S16384x32, .f32⟩
  | 63 => ⟨S16384x32, .f32⟩
  | 64 => ⟨S16384x32, .f32⟩
  | 65 => ⟨S1x16384x1x32, .f32⟩
  | 66 => ⟨S16384x32, .f32⟩
  | 67 => ⟨S1x16384x1x32, .f32⟩
  | 68 => ⟨S2x16384x2x32, .f32⟩
  | 69 => ⟨S2x16384x2x32, .f32⟩
  | 70 => ⟨S2x16384x2x32, .f32⟩
  | 71 => ⟨S2x16384x2x32, .f32⟩
  | 72 => ⟨S2x16384x2x32, .f32⟩
  | 73 => ⟨S2x16384x2x32, .f32⟩
  | 74 => ⟨S2x16384x2x32, .f32⟩
  | 75 => ⟨S2x16384x2x32, .f32⟩
  | 76 => ⟨S2x16384x2x32, .f32⟩
  | 77 => ⟨S2x16384x2x32, .f32⟩
  | 78 => ⟨S2x16384x2x32, .f32⟩
  | 79 => ⟨S2x16384x2x32, .f32⟩
  | 80 => ⟨S2x16384x2x64, .f32⟩
  | 81 => ⟨S2x16384x2x64, .f32⟩
  | 82 => ⟨S16384, .f32⟩
  | 83 => ⟨S16384x1, .f32⟩
  | 84 => ⟨S1x32, .f32⟩
  | 85 => ⟨S16384x32, .f32⟩
  | 86 => ⟨S16384x32, .f32⟩
  | 87 => ⟨S16384x32, .f32⟩
  | 88 => ⟨S16384x32, .f32⟩
  | 89 => ⟨S1x16384x1x32, .f32⟩
  | 90 => ⟨S16384x32, .f32⟩
  | 91 => ⟨S1x16384x1x32, .f32⟩
  | 92 => ⟨S2x16384x2x32, .f32⟩
  | 93 => ⟨S2x16384x2x32, .f32⟩
  | 94 => ⟨S2x16384x2x32, .f32⟩
  | 95 => ⟨S2x16384x2x32, .f32⟩
  | 96 => ⟨S2x16384x2x32, .f32⟩
  | 97 => ⟨S2x16384x2x32, .f32⟩
  | 98 => ⟨S2x16384x2x32, .f32⟩
  | 99 => ⟨S2x16384x2x32, .f32⟩
  | 100 => ⟨S2x16384x2x32, .f32⟩
  | 101 => ⟨S2x16384x2x32, .f32⟩
  | 102 => ⟨S2x16384x2x32, .f32⟩
  | 103 => ⟨S2x16384x2x32, .f32⟩
  | 104 => ⟨S2x16384x2x64, .f32⟩
  | 105 => ⟨S2x16384x2x128, .f32⟩
  | 106 => ⟨S2x16384x8x128, .f32⟩
  | 107 => ⟨S_, .f32⟩
  | 108 => ⟨S2x16384x8, .f32⟩
  | 109 => ⟨S2x16384x8x1, .f32⟩
  | 110 => ⟨S_, .f32⟩
  | 111 => ⟨S2x16384x8x1, .f32⟩
  | 112 => ⟨S2x16384x8x1, .f32⟩
  | 113 => ⟨S_, .f32⟩
  | 114 => ⟨S2x16384x8x1, .f32⟩
  | 115 => ⟨S2x16384x8x1, .f32⟩
  | 116 => ⟨S2x16384x8x1, .f32⟩
  | 117 => ⟨S2x16384x8x128, .f32⟩
  | 118 => ⟨S2x16384x8x128, .f32⟩
  | 119 => ⟨S1x1x1x128, .f32⟩
  | 120 => ⟨S2x16384x8x128, .f32⟩
  | 121 => ⟨S2x16384x8x128, .f32⟩
  | 122 => ⟨S2x16384x8x128, .f32⟩
  | 123 => ⟨S_, .f32⟩
  | 124 => ⟨S2x16384x8, .f32⟩
  | 125 => ⟨S2x16384x8x1, .f32⟩
  | 126 => ⟨S_, .f32⟩
  | 127 => ⟨S2x16384x8x1, .f32⟩
  | _ => ⟨S2x16384x2048, .f32⟩

abbrev hbmTy0_2 (i : Nat) : BufTy := match i % 128 with
  | 0 => ⟨S2x16384x8x1, .f32⟩
  | 1 => ⟨S_, .f32⟩
  | 2 => ⟨S2x16384x8x1, .f32⟩
  | 3 => ⟨S2x16384x8x1, .f32⟩
  | 4 => ⟨S2x16384x8x1, .f32⟩
  | 5 => ⟨S2x16384x8x128, .f32⟩
  | 6 => ⟨S2x16384x8x128, .f32⟩
  | 7 => ⟨S1x1x1x128, .f32⟩
  | 8 => ⟨S2x16384x8x128, .f32⟩
  | 9 => ⟨S2x16384x8x128, .f32⟩
  | 10 => ⟨S2x16384x1024, .f32⟩
  | 11 => ⟨S2x16384x256, .f32⟩
  | 12 => ⟨S2x16384x256, .f32⟩
  | 13 => ⟨S2x16384x1024, .f32⟩
  | 14 => ⟨S2x16384x1024, .f32⟩
  | 15 => ⟨S2x16384x1024, .f32⟩
  | 16 => ⟨S2x16384x4608, .f32⟩
  | 17 => ⟨S32768x4608, .f32⟩
  | 18 => ⟨S32768x4608, .bf16⟩
  | _ => ⟨S2x16384x2048, .f32⟩

abbrev hbmTy (i : Nat) : BufTy := match i / 128 with
  | 0 => hbmTy0_0 i
  | 1 => hbmTy0_1 i
  | 2 => hbmTy0_2 i
  | _ => ⟨S2x16384x2048, .f32⟩

abbrev bufTy : (tb : Table) → Fin (tcTables nBuf tb) → BufTy
  | .hbm, ⟨i, _⟩ => hbmTy i
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v1 : Ref sig .tc := ⟨.hbm, 27, rfl⟩
abbrev main_c_0 : Ref sig .tc := ⟨.hbm, 28, rfl⟩
abbrev main_call1_v0 : Ref sig .tc := ⟨.hbm, 29, rfl⟩
abbrev main_call1_c : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_c_1 : Ref sig .tc := ⟨.hbm, 36, rfl⟩
abbrev main_call1_v5 : Ref sig .tc := ⟨.hbm, 37, rfl⟩
abbrev main_call1_v6 : Ref sig .tc := ⟨.hbm, 38, rfl⟩
abbrev main_call1_c_2 : Ref sig .tc := ⟨.hbm, 39, rfl⟩
abbrev main_call1_v7 : Ref sig .tc := ⟨.hbm, 40, rfl⟩
abbrev main_call1_v8 : Ref sig .tc := ⟨.hbm, 41, rfl⟩
abbrev main_call1_c_3 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_v2 : Ref sig .tc := ⟨.hbm, 49, rfl⟩
abbrev main_v3 : Ref sig .tc := ⟨.hbm, 50, rfl⟩
abbrev main_cst : Ref sig .tc := ⟨.hbm, 51, rfl⟩
abbrev main_v4 : Ref sig .tc := ⟨.hbm, 52, rfl⟩
abbrev main_v5 : Ref sig .tc := ⟨.hbm, 53, rfl⟩
abbrev main_cst_1 : Ref sig .tc := ⟨.hbm, 54, rfl⟩
abbrev main_v6 : Ref sig .tc := ⟨.hbm, 55, rfl⟩
abbrev main_v7 : Ref sig .tc := ⟨.hbm, 56, rfl⟩
abbrev main_cst_2 : Ref sig .tc := ⟨.hbm, 57, rfl⟩
abbrev main_v8 : Ref sig .tc := ⟨.hbm, 58, rfl⟩
abbrev main_v9 : Ref sig .tc := ⟨.hbm, 59, rfl⟩
abbrev main_v10 : Ref sig .tc := ⟨.hbm, 60, rfl⟩
abbrev main_v11 : Ref sig .tc := ⟨.hbm, 61, rfl⟩
abbrev main_v12 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_v16 : Ref sig .tc := ⟨.hbm, 66, rfl⟩
abbrev main_cst_3 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_cst_4 : Ref sig .tc := ⟨.hbm, 89, rfl⟩
abbrev main_v38 : Ref sig .tc := ⟨.hbm, 90, rfl⟩
abbrev main_v39 : Ref sig .tc := ⟨.hbm, 91, rfl⟩
abbrev main_cst_5 : Ref sig .tc := ⟨.hbm, 92, rfl⟩
abbrev main_v40 : Ref sig .tc := ⟨.hbm, 93, rfl⟩
abbrev main_v41 : Ref sig .tc := ⟨.hbm, 94, rfl⟩
abbrev main_cst_6 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_cst_7 : Ref sig .tc := ⟨.hbm, 106, rfl⟩
abbrev main_v52 : Ref sig .tc := ⟨.hbm, 107, rfl⟩
abbrev main_v53 : Ref sig .tc := ⟨.hbm, 108, rfl⟩
abbrev main_cst_8 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_cst_9 : Ref sig .tc := ⟨.hbm, 162, rfl⟩
abbrev main_v106 : Ref sig .tc := ⟨.hbm, 163, rfl⟩
abbrev main_v107 : Ref sig .tc := ⟨.hbm, 164, rfl⟩
abbrev main_cst_10 : Ref sig .tc := ⟨.hbm, 165, rfl⟩
abbrev main_v108 : Ref sig .tc := ⟨.hbm, 166, rfl⟩
abbrev main_v109 : Ref sig .tc := ⟨.hbm, 167, rfl⟩
abbrev main_cst_11 : Ref sig .tc := ⟨.hbm, 168, rfl⟩
abbrev main_v110 : Ref sig .tc := ⟨.hbm, 169, rfl⟩
abbrev main_v111 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_v115 : Ref sig .tc := ⟨.hbm, 174, rfl⟩
abbrev main_v116 : Ref sig .tc := ⟨.hbm, 175, rfl⟩
abbrev main_v117 : Ref sig .tc := ⟨.hbm, 176, rfl⟩
abbrev main_v118 : Ref sig .tc := ⟨.hbm, 177, rfl⟩
abbrev main_v119 : Ref sig .tc := ⟨.hbm, 178, rfl⟩
abbrev main_cst_12 : Ref sig .tc := ⟨.hbm, 179, rfl⟩
abbrev main_v120 : Ref sig .tc := ⟨.hbm, 180, rfl⟩
abbrev main_v121 : Ref sig .tc := ⟨.hbm, 181, rfl⟩
abbrev main_cst_13 : Ref sig .tc := ⟨.hbm, 182, rfl⟩
abbrev main_v122 : Ref sig .tc := ⟨.hbm, 183, rfl⟩
abbrev main_v123 : Ref sig .tc := ⟨.hbm, 184, rfl⟩
abbrev main_v124 : Ref sig .tc := ⟨.hbm, 185, rfl⟩
abbrev main_v125 : Ref sig .tc := ⟨.hbm, 186, rfl⟩
abbrev main_v126 : Ref sig .tc := ⟨.hbm, 187, rfl⟩
abbrev main_v127 : Ref sig .tc := ⟨.hbm, 188, rfl⟩
abbrev main_v128 : Ref sig .tc := ⟨.hbm, 189, rfl⟩
abbrev main_v129 : Ref sig .tc := ⟨.hbm, 190, rfl⟩
abbrev main_v130 : Ref sig .tc := ⟨.hbm, 191, rfl⟩
abbrev main_v131 : Ref sig .tc := ⟨.hbm, 192, rfl⟩
abbrev main_v132 : Ref sig .tc := ⟨.hbm, 193, rfl⟩
abbrev main_v133 : Ref sig .tc := ⟨.hbm, 194, rfl⟩
abbrev main_v134 : Ref sig .tc := ⟨.hbm, 195, rfl⟩
abbrev main_v135 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_v141 : Ref sig .tc := ⟨.hbm, 202, rfl⟩
abbrev main_v142 : Ref sig .tc := ⟨.hbm, 203, rfl⟩
abbrev main_v143 : Ref sig .tc := ⟨.hbm, 204, rfl⟩
abbrev main_v144 : Ref sig .tc := ⟨.hbm, 205, rfl⟩
abbrev main_v145 : Ref sig .tc := ⟨.hbm, 206, rfl⟩
abbrev main_v146 : Ref sig .tc := ⟨.hbm, 207, rfl⟩
abbrev main_v147 : Ref sig .tc := ⟨.hbm, 208, rfl⟩
abbrev main_v148 : Ref sig .tc := ⟨.hbm, 209, rfl⟩
abbrev main_v149 : Ref sig .tc := ⟨.hbm, 210, rfl⟩
abbrev main_v150 : Ref sig .tc := ⟨.hbm, 211, rfl⟩
abbrev main_v151 : Ref sig .tc := ⟨.hbm, 212, rfl⟩
abbrev main_v152 : Ref sig .tc := ⟨.hbm, 213, rfl⟩
abbrev main_v153 : Ref sig .tc := ⟨.hbm, 214, rfl⟩
abbrev main_v154 : Ref sig .tc := ⟨.hbm, 215, rfl⟩
abbrev main_v155 : Ref sig .tc := ⟨.hbm, 216, rfl⟩
abbrev main_v156 : Ref sig .tc := ⟨.hbm, 217, rfl⟩
abbrev main_v157 : Ref sig .tc := ⟨.hbm, 218, rfl⟩
abbrev main_v158 : Ref sig .tc := ⟨.hbm, 219, rfl⟩
abbrev main_v159 : Ref sig .tc := ⟨.hbm, 220, rfl⟩
abbrev main_v160 : Ref sig .tc := ⟨.hbm, 221, rfl⟩
abbrev main_v161 : Ref sig .tc := ⟨.hbm, 222, rfl⟩
abbrev main_v162 : Ref sig .tc := ⟨.hbm, 223, rfl⟩
abbrev main_v163 : Ref sig .tc := ⟨.hbm, 224, rfl⟩
abbrev main_v164 : Ref sig .tc := ⟨.hbm, 225, rfl⟩
abbrev main_v165 : Ref sig .tc := ⟨.hbm, 226, rfl⟩
abbrev main_v166 : Ref sig .tc := ⟨.hbm, 227, rfl⟩
abbrev main_v167 : Ref sig .tc := ⟨.hbm, 228, rfl⟩
abbrev main_v168 : Ref sig .tc := ⟨.hbm, 229, rfl⟩
abbrev main_v169 : Ref sig .tc := ⟨.hbm, 230, rfl⟩
abbrev main_v170 : Ref sig .tc := ⟨.hbm, 231, rfl⟩
abbrev main_v171 : Ref sig .tc := ⟨.hbm, 232, rfl⟩
abbrev main_v172 : Ref sig .tc := ⟨.hbm, 233, rfl⟩
abbrev main_v173 : Ref sig .tc := ⟨.hbm, 234, rfl⟩
abbrev main_cst_14 : Ref sig .tc := ⟨.hbm, 235, rfl⟩
abbrev main_v174 : Ref sig .tc := ⟨.hbm, 236, rfl⟩
abbrev main_v175 : Ref sig .tc := ⟨.hbm, 237, rfl⟩
abbrev main_cst_15 : Ref sig .tc := ⟨.hbm, 238, rfl⟩
abbrev main_v176 : Ref sig .tc := ⟨.hbm, 239, rfl⟩
abbrev main_v177 : Ref sig .tc := ⟨.hbm, 240, rfl⟩
abbrev main_cst_16 : Ref sig .tc := ⟨.hbm, 241, rfl⟩
abbrev main_v178 : Ref sig .tc := ⟨.hbm, 242, rfl⟩
abbrev main_v179 : Ref sig .tc := ⟨.hbm, 243, rfl⟩
abbrev main_v180 : Ref sig .tc := ⟨.hbm, 244, rfl⟩
abbrev main_v181 : Ref sig .tc := ⟨.hbm, 245, rfl⟩
abbrev main_v182 : Ref sig .tc := ⟨.hbm, 246, rfl⟩
abbrev main_v183 : Ref sig .tc := ⟨.hbm, 247, rfl⟩
abbrev main_v184 : Ref sig .tc := ⟨.hbm, 248, rfl⟩
abbrev main_v185 : Ref sig .tc := ⟨.hbm, 249, rfl⟩
abbrev main_v186 : Ref sig .tc := ⟨.hbm, 250, rfl⟩
abbrev main_cst_17 : Ref sig .tc := ⟨.hbm, 251, rfl⟩
abbrev main_v187 : Ref sig .tc := ⟨.hbm, 252, rfl⟩
abbrev main_v188 : Ref sig .tc := ⟨.hbm, 253, rfl⟩
abbrev main_cst_18 : Ref sig .tc := ⟨.hbm, 254, rfl⟩
abbrev main_v189 : Ref sig .tc := ⟨.hbm, 255, rfl⟩
abbrev main_v190 : Ref sig .tc := ⟨.hbm, 256, rfl⟩
abbrev main_cst_19 : Ref sig .tc := ⟨.hbm, 257, rfl⟩
abbrev main_v191 : Ref sig .tc := ⟨.hbm, 258, rfl⟩
abbrev main_v192 : Ref sig .tc := ⟨.hbm, 259, rfl⟩
abbrev main_v193 : Ref sig .tc := ⟨.hbm, 260, rfl⟩
abbrev main_v194 : Ref sig .tc := ⟨.hbm, 261, rfl⟩
abbrev main_v195 : Ref sig .tc := ⟨.hbm, 262, rfl⟩
abbrev main_v196 : Ref sig .tc := ⟨.hbm, 263, rfl⟩
abbrev main_v197 : Ref sig .tc := ⟨.hbm, 264, rfl⟩
abbrev main_v198 : Ref sig .tc := ⟨.hbm, 265, rfl⟩
abbrev main_v199 : Ref sig .tc := ⟨.hbm, 266, rfl⟩
abbrev main_v200 : Ref sig .tc := ⟨.hbm, 267, rfl⟩
abbrev main_v201 : Ref sig .tc := ⟨.hbm, 268, rfl⟩
abbrev main_v202 : Ref sig .tc := ⟨.hbm, 269, rfl⟩
abbrev main_v203 : Ref sig .tc := ⟨.hbm, 270, rfl⟩
abbrev main_v204 : Ref sig .tc := ⟨.hbm, 271, rfl⟩
abbrev main_v205 : Ref sig .tc := ⟨.hbm, 272, rfl⟩
abbrev main_v206 : Ref sig .tc := ⟨.hbm, 273, rfl⟩
abbrev main_v207 : Ref sig .tc := ⟨.hbm, 274, rfl⟩

abbrev nD : Nat := 1
abbrev τ : Topo := Topo.v7x

variable {F : FTy → Type} [FloatOps F]
-- ==== Proof.Win.Math.lean ====
module

public import Idealize.ShloMosaic.PureOps.Ideal
public import Mathlib.Data.EReal.Operations

@[expose] public section

/-! The softmax identity of the window attention over the extended reals: dividing the weighted sum once, and weighting by the
    quotients, agree when the scores are below ⊤ and the sink logit is a real number; keys with score ⊥ have weight zero. -/

noncomputable section
open Idealize.ShloMosaic
namespace Cert.WinMath

/-- A finite extended real: neither infinity. -/
def Fin' (x : EReal) : Prop := x ≠ ⊥ ∧ x ≠ ⊤

theorem Fin'.lift {x : EReal} (h : Fin' x) : ∃ r : ℝ, x = (r : EReal) := ⟨x.toReal, (EReal.coe_toReal h.2 h.1).symm⟩

theorem fin'_coe (r : ℝ) : Fin' (r : EReal) := ⟨EReal.coe_ne_bot r, EReal.coe_ne_top r⟩

theorem fin'_mul {x y : EReal} (hx : Fin' x) (hy : Fin' y) : Fin' (x * y) := by
  obtain ⟨a, rfl⟩ := hx.lift; obtain ⟨b, rfl⟩ := hy.lift
  rw [← EReal.coe_mul]; exact fin'_coe _

theorem fin'_add {x y : EReal} (hx : Fin' x) (hy : Fin' y) : Fin' (x + y) := by
  obtain ⟨a, rfl⟩ := hx.lift; obtain ⟨b, rfl⟩ := hy.lift
  rw [← EReal.coe_add]; exact fin'_coe _

theorem fin'_sum {ι : Type} (S : Finset ι) (f : ι → EReal) (h : ∀ k, Fin' (f k)) : Fin' (∑ k ∈ S, f k) := by
  classical
  induction S using Finset.induction with
  | empty => rw [Finset.sum_empty]; exact ⟨EReal.zero_ne_bot, EReal.zero_ne_top⟩
  | insert a S ha ih => rw [Finset.sum_insert ha]; exact fin'_add (h a) ih

/-- The bits of −∞. -/
theorem negInf : Ideal.ofBits .f32 4286578688#32 = ⊥ := by
  simp [Ideal.ofBits, Ideal.ieee]

/-- The bits of +∞. -/
theorem posInf : Ideal.ofBits .f32 2139095040#32 = ⊤ := by
  simp [Ideal.ofBits, Ideal.ieee]

/-- The scale of the scores, a real number. -/
abbrev scale : EReal := Ideal.ofBits .f32 1035273459#32

theorem fin'_scale : Fin' scale := by
  constructor <;> simp [Ideal.ofBits, Ideal.ieee, -EReal.coe_mul]

/-- A nonnegative real factor distributes over a finite sum of extended reals. -/
theorem sum_mul_real {ι : Type} (S : Finset ι) (f : ι → EReal) (c : ℝ) (hc : 0 ≤ c) :
    (∑ k ∈ S, f k) * (c : EReal) = ∑ k ∈ S, f k * (c : EReal) := by
  classical
  induction S using Finset.induction with
  | empty => rw [Finset.sum_empty, Finset.sum_empty, zero_mul]
  | insert a S ha ih =>
    rw [Finset.sum_insert ha, Finset.sum_insert ha, ← ih]
    exact EReal.right_distrib_of_nonneg_of_ne_top (EReal.coe_nonneg.2 hc) (EReal.coe_ne_top c) _ _

/-- The maximum of finitely many values below ⊤, from ⊥, is below ⊤. -/
theorem fold_max_ne_top {ι : Type} (S : Finset ι) (s : ι → EReal) (h : ∀ k, s k ≠ ⊤) : S.fold max ⊥ s ≠ ⊤ :=
  ne_of_lt ((Finset.fold_max_lt _).2 ⟨bot_lt_top, fun k _ => lt_top_iff_ne_top.2 (h k)⟩)

/-- `exp (x - m)` of a value below ⊤ and a real `m` is a nonnegative real. -/
theorem exp_sub_real {x : EReal} (hx : x ≠ ⊤) (m : ℝ) : ∃ r : ℝ, 0 ≤ r ∧ Ideal.exp (x - (m : EReal)) = (r : EReal) := by
  induction x with
  | bot => exact ⟨0, le_refl _, by rw [EReal.bot_sub, Ideal.exp_bot]; rfl⟩
  | top => exact absurd rfl hx
  | coe a => exact ⟨Real.exp (a - m), (Real.exp_pos _).le, by rw [← EReal.coe_sub, Ideal.exp_coe]⟩

/-- THE IDENTITY: the weighted sum divided once by the normalizer (with the sink's term) is the sum of the values weighted by
    the quotients, whatever the two sides read at keys whose score is ⊥. -/
theorem softmax_sink {ι : Type} [Fintype ι] (s v v' : ι → EReal) (sk : EReal) (hs : ∀ k, s k ≠ ⊤) (hk : Fin' sk)
    (hv : ∀ k, s k ≠ ⊥ → v k = v' k) :
    Ideal.div (∑ k, Ideal.exp (s k - max (Finset.univ.fold max ⊥ s) sk) * v k)
        ((∑ k, Ideal.exp (s k - max (Finset.univ.fold max ⊥ s) sk)) + Ideal.exp (sk - max (Finset.univ.fold max ⊥ s) sk))
      = ∑ k, v' k * Ideal.div (Ideal.exp (s k - max (Finset.univ.fold max ⊥ s) sk))
        ((∑ k, Ideal.exp (s k - max (Finset.univ.fold max ⊥ s) sk)) + Ideal.exp (sk - max (Finset.univ.fold max ⊥ s) sk)) := by
  have hM : Fin' (max (Finset.univ.fold max ⊥ s) sk) := by
    refine ⟨fun h => hk.1 ?_, ?_⟩
    · exact le_bot_iff.1 (h ▸ le_max_right _ _)
    · rcases max_choice (Finset.univ.fold max ⊥ s) sk with h | h <;> rw [h]
      · exact fold_max_ne_top _ s hs
      · exact hk.2
  obtain ⟨m, hm⟩ := hM.lift
  rw [hm]
  choose p hp0 hp using fun k => exp_sub_real (hs k) m
  obtain ⟨z, rfl⟩ := hk.lift
  have hden : (∑ k, Ideal.exp (s k - (m : EReal))) + Ideal.exp ((z : EReal) - (m : EReal))
      = (((∑ k, p k) + Real.exp (z - m) : ℝ) : EReal) := by
    rw [EReal.coe_add, ← EReal.coe_sub, Ideal.exp_coe, Finset.sum_congr rfl fun k _ => hp k]
    congr 1
    exact (map_sum (⟨⟨(fun x : ℝ => (x : EReal)), rfl⟩, EReal.coe_add⟩ : ℝ →+ EReal) p Finset.univ).symm
  have hpos : 0 < (∑ k, p k) + Real.exp (z - m) :=
    add_pos_of_nonneg_of_pos (Finset.sum_nonneg fun k _ => hp0 k) (Real.exp_pos _)
  rw [hden, Ideal.div_coe hpos.ne', sum_mul_real _ _ _ (one_div_nonneg.2 hpos.le)]
  refine Finset.sum_congr rfl fun k _ => ?_
  rw [Ideal.div_coe hpos.ne']
  by_cases hb : s k = ⊥
  · rw [hb, EReal.bot_sub, Ideal.exp_bot, zero_mul, zero_mul, mul_zero]
  · rw [hv k hb, mul_comm (Ideal.exp _) (v' k), mul_assoc]

end Cert.WinMath
end

end
-- ==== Proof.Win.Mask.lean ====
module

public import Idealize.ShloMosaic.Lib.WordCmp
public import Idealize.ShloMosaic.Lib.Pointwise

@[expose] public section

/-! The two masks of the window attention as facts about natural numbers: the kernel's, from the row and key indices of a block,
    and the reference's, from the positions in the sequence. -/

open Idealize.ShloMosaic
namespace Cert.WinMask

/-- A row's index modulo 128, as the kernel computes it. -/
theorem row_mod : ∀ r : Fin 512, Scalar.select
    (IntOp.andi
      (IntOp.xori
        (IntOp.cmpi CmpIPredicate.slt
          (IntOp.remsi ArithUnit.vector (BitVec.ofNat 32 ↑r)
            (Scalar.select (Scalar.cmpi CmpIPredicate.eq 128#32 0#32) 1#32 128#32))
          0#32)
        (Scalar.cmpi CmpIPredicate.slt
          (Scalar.select (Scalar.cmpi CmpIPredicate.eq 128#32 0#32) 1#32 128#32) 0#32))
      (IntOp.cmpi CmpIPredicate.ne
        (IntOp.remsi ArithUnit.vector (BitVec.ofNat 32 ↑r)
          (Scalar.select (Scalar.cmpi CmpIPredicate.eq 128#32 0#32) 1#32 128#32))
        0#32))
    (IntOp.addi
      (IntOp.remsi ArithUnit.vector (BitVec.ofNat 32 ↑r)
        (Scalar.select (Scalar.cmpi CmpIPredicate.eq 128#32 0#32) 1#32 128#32))
      (Scalar.select (Scalar.cmpi CmpIPredicate.eq 128#32 0#32) 1#32 128#32))
    (IntOp.remsi ArithUnit.vector (BitVec.ofNat 32 ↑r)
      (Scalar.select (Scalar.cmpi CmpIPredicate.eq 128#32 0#32) 1#32 128#32))
    = BitVec.ofNat 32 (r.val % 128) := by decide +kernel

/-- A small integer as a word reads back, signed, as itself. -/
theorem toInt_small {z : Int} (h1 : -(2 ^ 31) ≤ z) (h2 : z < 2 ^ 31) : (BitVec.ofInt 32 z).toInt = z := by
  rw [BitVec.toInt_ofInt, Int.bmod_eq_of_le] <;> omega

theorem ofNat_eq_ofInt (n : Nat) : BitVec.ofNat 32 n = BitVec.ofInt 32 (n : Int) := by
  rw [BitVec.ofInt_natCast]

theorem subi_ofInt (a b : Int) : IntOp.subi (BitVec.ofInt 32 a) (BitVec.ofInt 32 b) = BitVec.ofInt 32 (a - b) := by
  show BitVec.ofInt 32 a - BitVec.ofInt 32 b = _
  rw [Int.sub_eq_add_neg, BitVec.ofInt_add, BitVec.ofInt_neg, BitVec.sub_eq_add_neg]

theorem addi_ofInt (a b : Int) : IntOp.addi (BitVec.ofInt 32 a) (BitVec.ofInt 32 b) = BitVec.ofInt 32 (a + b) := by
  show BitVec.ofInt 32 a + BitVec.ofInt 32 b = _
  rw [BitVec.ofInt_add]

theorem muli_ofInt (a b : Int) : IntOp.muli (BitVec.ofInt 32 a) (BitVec.ofInt 32 b) = BitVec.ofInt 32 (a * b) := by
  show BitVec.ofInt 32 a * BitVec.ofInt 32 b = _
  rw [BitVec.ofInt_mul]

theorem absi_ofInt {z : Int} (h1 : -(2 ^ 31) < z) (h2 : z < 2 ^ 31) :
    IntOp.absi (BitVec.ofInt 32 z) = BitVec.ofInt 32 |z| := by
  unfold IntOp.absi
  rw [BitVec.msb_eq_toInt, toInt_small (by omega) h2]
  by_cases h : z < 0
  · rw [if_pos (by simpa using h), abs_of_neg h, BitVec.ofInt_neg]
  · rw [if_neg (by simpa using h), abs_of_nonneg (by omega)]

/-- The kernel's mask: keys of the previous block from the row on (unless the block is the first), of the own block, of the next
    block up to the row (unless the block is the last), and of the context. -/
def Ok (n i k : Nat) : Prop := (128 ≤ k ∨ (i ≤ k ∧ 0 < n)) ∧ ((k < 256 ∨ 384 ≤ k) ∨ (k ≤ i + 256 ∧ n < 127))

instance (n i k : Nat) : Decidable (Ok n i k) := by unfold Ok; infer_instance

theorem kernel_mask (n i k : Nat) (hn : n < 128) (hi : i < 128) (hk : k < 640) :
    IntOp.andi
      (IntOp.ori (IntOp.cmpi .sge (BitVec.ofNat 32 k) 128#32)
        (IntOp.andi (IntOp.cmpi .sge (BitVec.ofNat 32 k) (BitVec.ofNat 32 i)) (Scalar.cmpi .sgt (BitVec.ofNat 32 n) 0#32)))
      (IntOp.ori
        (IntOp.ori (IntOp.cmpi .slt (BitVec.ofNat 32 k) 256#32) (IntOp.cmpi .sge (BitVec.ofNat 32 k) 384#32))
        (IntOp.andi (IntOp.cmpi .sle (IntOp.subi (BitVec.ofNat 32 k) 256#32) (BitVec.ofNat 32 i))
          (Scalar.cmpi .slt (BitVec.ofNat 32 n) 127#32)))
      = BitVec.ofBool (decide (Ok n i k)) := by
  simp only [WordCmp.scalar_cmpi_eq, WordCmp.cmpi_sge_eq, WordCmp.cmpi_slt_eq, WordCmp.cmpi_sle_eq, WordCmp.cmpi_sgt_eq, ofNat_eq_ofInt,
    subi_ofInt]
  rw [toInt_small (z := (k : Int)) (by omega) (by omega), toInt_small (z := (i : Int)) (by omega) (by omega),
    toInt_small (z := (n : Int)) (by omega) (by omega), toInt_small (z := (k : Int) - ((256 : Nat) : Int)) (by omega) (by omega),
    toInt_small (z := ((128 : Nat) : Int)) (by omega) (by omega), toInt_small (z := ((256 : Nat) : Int)) (by omega) (by omega),
    toInt_small (z := ((384 : Nat) : Int)) (by omega) (by omega), toInt_small (z := ((127 : Nat) : Int)) (by omega) (by omega),
    toInt_small (z := ((0 : Nat) : Int)) (by omega) (by omega)]
  simp only [WordCmp.andi_ofBool, WordCmp.ori_ofBool]
  congr 1
  rw [Bool.eq_iff_iff]
  simp only [Bool.and_eq_true, Bool.or_eq_true, decide_eq_true_eq]
  unfold Ok
  omega

/-- The reference's window condition: the two positions are at most 128 apart and the key's lies in the sequence. -/
def Valid (n i k : Nat) : Prop := (i ≤ k ∧ k ≤ i + 256) ∧ 128 ≤ n * 128 + k ∧ n * 128 + k < 16512

instance (n i k : Nat) : Decidable (Valid n i k) := by unfold Valid; infer_instance

theorem ref_mask (n i k : Nat) (hn : n < 128) (hi : i < 128) (hk : k < 384) :
    IntOp.andi
      (IntOp.andi
        (IntOp.cmpi .sle
          (IntOp.absi
            (IntOp.subi (IntOp.addi (IntOp.muli (BitVec.ofNat 32 n) 128#32) (BitVec.ofNat 32 i))
              (IntOp.addi (IntOp.muli (IntOp.subi (BitVec.ofNat 32 n) 1#32) 128#32) (BitVec.ofNat 32 k))))
          128#32)
        (IntOp.cmpi .sge (IntOp.addi (IntOp.muli (IntOp.subi (BitVec.ofNat 32 n) 1#32) 128#32) (BitVec.ofNat 32 k)) 0#32))
      (IntOp.cmpi .slt (IntOp.addi (IntOp.muli (IntOp.subi (BitVec.ofNat 32 n) 1#32) 128#32) (BitVec.ofNat 32 k)) 16384#32)
      = BitVec.ofBool (decide (Valid n i k)) := by
  simp only [WordCmp.cmpi_sge_eq, WordCmp.cmpi_slt_eq, WordCmp.cmpi_sle_eq, ofNat_eq_ofInt, subi_ofInt, addi_ofInt, muli_ofInt]
  push_cast
  have ha : |(n : Int) * 128 + i - (((n : Int) - 1) * 128 + k)| ≤ 128 ↔ i ≤ k ∧ k ≤ i + 256 := by
    rw [abs_le]; omega
  rw [absi_ofInt (by omega) (by omega)]
  have hb : |(n : Int) * 128 + i - (((n : Int) - 1) * 128 + k)| < 1000 := by rw [abs_lt]; omega
  have hc : 0 ≤ |(n : Int) * 128 + i - (((n : Int) - 1) * 128 + k)| := abs_nonneg _
  rw [toInt_small (by omega) (by omega),
    toInt_small (z := ((n : Int) - 1) * 128 + k) (by omega) (by omega)]
  simp only [WordCmp.andi_ofBool]
  congr 1
  rw [Bool.eq_iff_iff]
  simp only [Bool.and_eq_true, decide_eq_true_eq, ha]
  unfold Valid
  omega

/-- In the window the two conditions agree; -/
theorem ok_iff_valid (n i k : Nat) (hn : n < 128) (hi : i < 128) (hk : k < 384) : Ok n i k ↔ Valid n i k := by
  unfold Ok Valid; omega

/-- a context key is never masked. -/
theorem ok_context (n i k : Nat) (hk : 384 ≤ k) : Ok n i k := by unfold Ok; omega

end Cert.WinMask

end
-- ==== Proof.Win.Body.lean ====
module

public import proofs.«01_k».proof.Proof.Gen.KernelIdeal.Frame
public import Idealize.ShloMosaic.Lib.Pipeline.ValueKit
public import Idealize.ShloMosaic.Lib.Pointwise
public import proofs.«01_k».proof.Proof.Win.Math
public import proofs.«01_k».proof.Proof.Win.Mask

@[expose] public section

set_option maxRecDepth 16384
noncomputable section
open Idealize.ShloMosaic Idealize.ShloMosaic.TcCoe Idealize.SL.Sem
open Idealize.ShloMosaic.Pipeline (Dat)
namespace Cert.KernelIdeal.Win
open Cert.KernelIdeal Cert.KernelIdeal.Gen

open Cert.WinMath (scale negInf)

/-- The mask's value is −∞. -/
theorem mask_val : (Named.named (F := Ideal) (φ := .f32) κ "mask" 4048155338#32 : EReal) = ⊥ :=
  IdealRules.named_const.ideal_named_scalar _ _ _ _ rfl

/-- One row of the attention from its scores, its sink logit and the values. -/
theorem pay1_at (v : FVec Ideal S640x128 .bf16) (s : FVec Ideal S512x640 .f32) (k : FVec Ideal S512x1 .f32) (r : Fin 512) (d : Fin 128) :
    k0_pay1 (F := Ideal) v s k (ix2 r d)
      = Ideal.div (∑ x : Fin 640, Ideal.exp (s (ix2 r x) - max (Finset.univ.fold max ⊥ fun x : Fin 640 => s (ix2 r x)) (k (ix2 r 0))) * v (ix2 x d))
        ((∑ x : Fin 640, Ideal.exp (s (ix2 r x) - max (Finset.univ.fold max ⊥ fun x : Fin 640 => s (ix2 r x)) (k (ix2 r 0))))
          + Ideal.exp (k (ix2 r 0) - max (Finset.univ.fold max ⊥ fun x : Fin 640 => s (ix2 r x)) (k (ix2 r 0)))) := by
  rw [← negInf]
  pointwise [k0_pay1]

/-- The scores: a row's query against a key, scaled. -/
theorem pay7_at (q : FVec Ideal S1x128x512 .bf16) (a b c : FVec Ideal S1x128x128 .bf16) (e : FVec Ideal S1x256x128 .bf16) (r : Fin 512) (k : Fin 640) :
    k0_pay7 (F := Ideal) q a b c e (ix2 r k)
      = (∑ x : Fin 128, q (ix3 0 ⟨r.val % 128, by omega⟩ ⟨r.val / 128 * 128 + x.val, by omega⟩) * k0_pay6 (F := Ideal) a b c e (ix2 k x)) * scale := by
  pointwise [k0_pay7, k0_pay6]
  blk_point []

/-- The masked scores. -/
theorem pay8_at (n : Nat) (hn : n < 128) (s : FVec Ideal S512x640 .f32) (r : Fin 512) (k : Fin 640) :
    k0_pay8 (F := Ideal) (BitVec.ofNat 32 n) s (ix2 r k) = if WinMask.Ok n (r.val % 128) k.val then s (ix2 r k) else (⊥ : EReal) := by
  pointwise [k0_pay8]
  rw [WinMask.row_mod r, WinMask.kernel_mask n (r.val % 128) k.val hn (by omega) k.isLt, WordCmp.select_decide, mask_val]

theorem pay9_at (x : FVec Ideal S1x512x128 .f32) (r : Fin 512) (j : Fin 1) :
    k0_pay9 (F := Ideal) x (ix2 r j) = x (ix3 0 r 0) := by
  pointwise [k0_pay9]

end Cert.KernelIdeal.Win

end

end
-- ==== Proof.Win.Spec.lean ====
module

public import proofs.«01_k».proof.Proof.Win.Math
public import proofs.«01_k».proof.Proof.Win.Mask

@[expose] public section

/-! The window attention, index by index, over the packed projection of the sequence and of the context: the scores, the values
    and one output entry, and the equality of the two ways to normalize. -/

noncomputable section
open Idealize.ShloMosaic
namespace Cert.WinSpec
open Cert.WinMath Cert.WinMask

/-- The packed projection of the sequence, of the context, and the sink logits. -/
abbrev Seq := FVec Ideal ⟨3, ![2, 16384, 4608]⟩ .bf16
abbrev Ctx := FVec Ideal ⟨3, ![2, 256, 4608]⟩ .bf16
abbrev Snk := FVec Ideal ⟨1, ![8]⟩ .f32

/-- Column `col + h*128 + d` of the `k`-th key slot of block `n`: the 384 slots of the window (zero outside the sequence), then
    the context's rows. `col` is 1024 for the keys and 1280 for the values. -/
def slot (x : Seq) (c : Ctx) (col : Nat) (hcol : col ≤ 1280) (b : Fin 2) (n : Fin 128) (h : Fin 2) (k : Fin 640) (d : Fin 128) : EReal :=
  if hk : k.val < 384 then
    if hv : 128 ≤ n.val * 128 + k.val ∧ n.val * 128 + k.val < 16512 then
      x (ix3 b ⟨n.val * 128 + k.val - 128, by omega⟩ ⟨col + (h.val * 128 + d.val), by omega⟩)
    else 0
  else c (ix3 b ⟨k.val - 384, by omega⟩ ⟨col + (h.val * 128 + d.val), by omega⟩)

/-- The query of position `n*128 + i`, head `h*4 + g`. -/
def query (x : Seq) (b : Fin 2) (n : Fin 128) (i : Fin 128) (h : Fin 2) (g : Fin 4) (d : Fin 128) : EReal :=
  x (ix3 b ⟨n.val * 128 + i.val, by omega⟩ ⟨(h.val * 4 + g.val) * 128 + d.val, by omega⟩)

/-- The score of a key slot, −∞ where masked. -/
def score (x : Seq) (c : Ctx) (b : Fin 2) (n : Fin 128) (i : Fin 128) (h : Fin 2) (g : Fin 4) (k : Fin 640) : EReal :=
  if Ok n i k then (∑ d : Fin 128, query x b n i h g d * slot x c 1024 (by omega) b n h k d) * scale else ⊥

/-- The sink logit of head `h*4 + g`. -/
def sink (s : Snk) (h : Fin 2) (g : Fin 4) : EReal := s (ix1 ⟨h.val * 4 + g.val, by omega⟩)

/-- The largest score of a row, the sink's included. -/
def top (x : Seq) (c : Ctx) (s : Snk) (b : Fin 2) (n : Fin 128) (i : Fin 128) (h : Fin 2) (g : Fin 4) : EReal :=
  max (Finset.univ.fold max ⊥ fun k => score x c b n i h g k) (sink s h g)

/-- A row's normalizer. -/
def den (x : Seq) (c : Ctx) (s : Snk) (b : Fin 2) (n : Fin 128) (i : Fin 128) (h : Fin 2) (g : Fin 4) : EReal :=
  (∑ k : Fin 640, Ideal.exp (score x c b n i h g k - top x c s b n i h g)) + Ideal.exp (sink s h g - top x c s b n i h g)

/-- The attention's weight of a key slot. -/
def weight (x : Seq) (c : Ctx) (s : Snk) (b : Fin 2) (n : Fin 128) (i : Fin 128) (h : Fin 2) (g : Fin 4) (k : Fin 640) : EReal :=
  Ideal.div (Ideal.exp (score x c b n i h g k - top x c s b n i h g)) (den x c s b n i h g)

/-- Entry `(b, t, e)` of the attention: position `t`, lane `e`. -/
def outAt (x : Seq) (c : Ctx) (s : Snk) (b : Fin 2) (t : Fin 16384) (e : Fin 1024) : EReal :=
  ∑ k : Fin 640, slot x c 1280 (by omega) b ⟨t.val / 128, by omega⟩ ⟨e.val / 512, by omega⟩ k ⟨e.val % 128, by omega⟩
    * weight x c s b ⟨t.val / 128, by omega⟩ ⟨t.val % 128, by omega⟩ ⟨e.val / 512, by omega⟩ ⟨e.val / 128 % 4, by omega⟩ k

/-- The attention's result. -/
def out (x : Seq) (c : Ctx) (s : Snk) : FVec Ideal ⟨3, ![2, 16384, 1024]⟩ .bf16 := fun j => outAt x c s (j 0) (j 1) (j 2)

/-- The scores' ingredients are finite. -/
structure Finite (x : Seq) (c : Ctx) (s : Snk) : Prop where
  seq : ∀ (b : Fin 2) (t : Fin 16384) (e : Fin 4608), e.val < 1280 → Fin' (x (ix3 b t e))
  ctx : ∀ (b : Fin 2) (t : Fin 256) (e : Fin 4608), 1024 ≤ e.val → e.val < 1280 → Fin' (c (ix3 b t e))
  snk : ∀ a : Fin 8, Fin' (s (ix1 a))

variable {x : Seq} {c : Ctx} {s : Snk}

theorem score_ne_top (hf : Finite x c s) (b : Fin 2) (n : Fin 128) (i : Fin 128) (h : Fin 2) (g : Fin 4) (k : Fin 640) :
    score x c b n i h g k ≠ ⊤ := by
  unfold score
  split
  · refine (fin'_mul (fin'_sum _ _ fun d => fin'_mul ?_ ?_) fin'_scale).2
    · exact hf.seq _ _ _ (by show (h.val * 4 + g.val) * 128 + d.val < 1280; omega)
    · unfold slot
      split
      · split
        · exact hf.seq _ _ _ (by show 1024 + (h.val * 128 + d.val) < 1280; omega)
        · exact ⟨EReal.zero_ne_bot, EReal.zero_ne_top⟩
      · exact hf.ctx _ _ _ (by show 1024 ≤ 1024 + (h.val * 128 + d.val); omega) (by show 1024 + (h.val * 128 + d.val) < 1280; omega)
  · exact bot_ne_top

/-- One output entry: the weighted values divided once are the values weighted by the quotients; the values `v` only matter
    where the slot is not masked. -/
theorem entry (hf : Finite x c s) (b : Fin 2) (n : Fin 128) (i : Fin 128) (h : Fin 2) (g : Fin 4) (d : Fin 128) (v : Fin 640 → EReal)
    (hv : ∀ k : Fin 640, Ok n i k → v k = slot x c 1280 (by omega) b n h k d) :
    Ideal.div (∑ k : Fin 640, Ideal.exp (score x c b n i h g k - top x c s b n i h g) * v k) (den x c s b n i h g)
      = ∑ k : Fin 640, slot x c 1280 (by omega) b n h k d * weight x c s b n i h g k := by
  unfold weight den top
  refine softmax_sink (fun k => score x c b n i h g k) v (fun k => slot x c 1280 (by omega) b n h k d) (sink s h g)
    (fun k => score_ne_top hf b n i h g k) (hf.snk _) fun k hk => hv k ?_
  by_contra hn
  exact hk (by unfold score; rw [if_neg hn])

end Cert.WinSpec
end

end
-- ==== Proof.Win.Array.lean ====
module

public import proofs.«01_k».proof.Proof.Win.Body
public import proofs.«01_k».proof.Proof.Win.Spec
public import Idealize.ShloMosaic.Lib.Claim

@[expose] public section

set_option maxRecDepth 16384

/-! The kernel's result array: every entry is the attention's formula of `Win.Spec`. -/

noncomputable section
open Idealize.ShloMosaic Idealize.ShloMosaic.TcCoe Idealize.SL.Sem
open Idealize.ShloMosaic.Pipeline (Dat)
namespace Cert.KernelIdeal.Win
open Cert.KernelIdeal Cert.KernelIdeal.Gen
open Cert.WinMath (scale negInf)
open Cert.WinSpec
variable (m : (ℓ : Loc nD τ sig) → Buf (Elt Ideal) ℓ)

/-- The blocks each grid point reads and writes. -/
theorem idx : ∀ t : Fin cfg0.N,
    win0_0.index t = ![t.val / 256, t.val % 128, t.val / 128 % 2] ∧
    win0_1.index t = ![t.val / 256, t.val % 128 - 1, 8 + t.val / 128 % 2] ∧
    win0_2.index t = ![t.val / 256, t.val % 128, 8 + t.val / 128 % 2] ∧
    win0_3.index t = ![t.val / 256, min (t.val % 128 + 1) 127, 8 + t.val / 128 % 2] ∧
    win0_4.index t = ![t.val / 256, t.val % 128 - 1, 10 + t.val / 128 % 2] ∧
    win0_5.index t = ![t.val / 256, t.val % 128, 10 + t.val / 128 % 2] ∧
    win0_6.index t = ![t.val / 256, min (t.val % 128 + 1) 127, 10 + t.val / 128 % 2] ∧
    win0_7.index t = ![t.val / 256, 0, 8 + t.val / 128 % 2] ∧
    win0_8.index t = ![t.val / 256, 0, 10 + t.val / 128 % 2] ∧
    win0_9.index t = ![t.val / 128 % 2, 0, 0] ∧
    win0_10.index t = ![t.val / 256, t.val % 128, t.val / 128 % 2] ∧
    ((grid0.coords t) 2).val = t.val % 128 := (by decide +kernel : ∀ t : Fin grid0.N, _)

abbrev X (c : Dev nD) : Seq := m ((c : Thread nD τ).loc main_arg0)
abbrev C (c : Dev nD) : Ctx := m ((c : Thread nD τ).loc main_arg1)
abbrev S (c : Dev nD) : Snk := m ((c : Thread nD τ).loc main_arg2)

variable (c : Dev nD) (t : Fin cfg0.N)

theorem tlt : t.val < 512 := lt_of_lt_of_eq t.isLt N_0

abbrev tb : Fin 2 := ⟨t.val / 256, by have := tlt t; omega⟩
abbrev th : Fin 2 := ⟨t.val / 128 % 2, by omega⟩
abbrev tn : Fin 128 := ⟨t.val % 128, by omega⟩

/-- A row's query in the point's block. -/
theorem query_blk (r : Fin 512) (x : Fin 128) :
    (show FVec Ideal S1x128x512 .bf16 from iblk m c 0 t) (ix3 0 ⟨r.val % 128, by omega⟩ ⟨r.val / 128 * 128 + x.val, by omega⟩)
      = query (X m c) (tb t) (tn t) ⟨r.val % 128, by omega⟩ (th t) ⟨r.val / 128, by omega⟩ x := by
  have := tlt t
  unfold query
  blk_point [iblk, V, idx t]

/-- A key slot in the point's blocks, where not masked. -/
theorem key_blk (i : Fin 128) (k : Fin 640) (d : Fin 128) (hok : WinMask.Ok (tn t) i k) :
    k0_pay6 (F := Ideal) (iblk m c 1 t) (iblk m c 2 t) (iblk m c 3 t) (iblk m c 7 t) (ix2 k d)
      = slot (X m c) (C m c) 1024 (by omega) (tb t) (tn t) (th t) k d := by
  have := tlt t
  have hk := k.isLt
  have hi := i.isLt
  unfold WinMask.Ok at hok
  dsimp only at hok
  pointwise [k0_pay6]
  unfold slot
  by_cases h1 : k.val < 384
  · have hv : 128 ≤ (tn t).val * 128 + k.val ∧ (tn t).val * 128 + k.val < 16512 := by
      show 128 ≤ t.val % 128 * 128 + k.val ∧ t.val % 128 * 128 + k.val < 16512; omega
    rw [dif_pos h1, dif_pos hv]
    by_cases h2 : k.val < 128
    · rw [dif_pos h2]; blk_point [iblk, V, idx t]
    · rw [dif_neg h2]
      by_cases h3 : k.val - 128 < 128
      · rw [dif_pos h3]; blk_point [iblk, V, idx t]
      · rw [dif_neg h3, dif_pos (show k.val - 128 - 128 < 128 by omega)]; blk_point [iblk, V, idx t]
  · rw [dif_neg h1, dif_neg (show ¬ k.val < 128 by omega), dif_neg (show ¬ k.val - 128 < 128 by omega),
      dif_neg (show ¬ k.val - 128 - 128 < 128 by omega)]
    blk_point [iblk, V, idx t]

/-- A value slot in the point's blocks, where not masked. -/
theorem val_blk (i : Fin 128) (k : Fin 640) (d : Fin 128) (hok : WinMask.Ok (tn t) i k) :
    k0_pay6 (F := Ideal) (iblk m c 4 t) (iblk m c 5 t) (iblk m c 6 t) (iblk m c 8 t) (ix2 k d)
      = slot (X m c) (C m c) 1280 (by omega) (tb t) (tn t) (th t) k d := by
  have := tlt t
  have hk := k.isLt
  have hi := i.isLt
  unfold WinMask.Ok at hok
  dsimp only at hok
  pointwise [k0_pay6]
  unfold slot
  by_cases h1 : k.val < 384
  · have hv : 128 ≤ (tn t).val * 128 + k.val ∧ (tn t).val * 128 + k.val < 16512 := by
      show 128 ≤ t.val % 128 * 128 + k.val ∧ t.val % 128 * 128 + k.val < 16512; omega
    rw [dif_pos h1, dif_pos hv]
    by_cases h2 : k.val < 128
    · rw [dif_pos h2]; blk_point [iblk, V, idx t]
    · rw [dif_neg h2]
      by_cases h3 : k.val - 128 < 128
      · rw [dif_pos h3]; blk_point [iblk, V, idx t]
      · rw [dif_neg h3, dif_pos (show k.val - 128 - 128 < 128 by omega)]; blk_point [iblk, V, idx t]
  · rw [dif_neg h1, dif_neg (show ¬ k.val < 128 by omega), dif_neg (show ¬ k.val - 128 < 128 by omega),
      dif_neg (show ¬ k.val - 128 - 128 < 128 by omega)]
    blk_point [iblk, V, idx t]

/-- The sink's logit in the point's table. -/
theorem sink_blk (r : Fin 512) :
    (show FVec Ideal S1x512x128 .f32 from iblk m c 9 t) (ix3 0 r 0) = sink (S m c) (th t) ⟨r.val / 128, by omega⟩ := by
  have := tlt t
  unfold sink
  have e : (show FVec Ideal S1x512x128 .f32 from iblk m c 9 t) (ix3 0 r 0) = (show FVec Ideal S2x512x128 .f32 from V m c main_v4) (ix3 (th t) r 0) := by
    blk_point [iblk, idx t]
  rw [e]
  entry_read
  pointwise []

/-- The masked scores of the point's blocks. -/
theorem score_blk (r : Fin 512) (k : Fin 640) :
    k0_pay8 (F := Ideal) (BitVec.ofNat 32 ((grid0.coords t) 2).val) (k0_pay7 (F := Ideal) (iblk m c 0 t) (iblk m c 1 t) (iblk m c 2 t) (iblk m c 3 t) (iblk m c 7 t)) (ix2 r k)
      = score (X m c) (C m c) (tb t) (tn t) ⟨r.val % 128, by omega⟩ (th t) ⟨r.val / 128, by omega⟩ k := by
  have h2 : ((grid0.coords t) 2).val = t.val % 128 := (idx t).2.2.2.2.2.2.2.2.2.2.2
  rw [h2, pay8_at _ (by omega), pay7_at]
  unfold score
  by_cases hok : WinMask.Ok (t.val % 128) (r.val % 128) k.val
  · rw [if_pos hok, if_pos hok]
    congr 1
    refine Finset.sum_congr rfl fun x _ => ?_
    rw [key_blk m c t ⟨r.val % 128, by omega⟩ k x hok]
    exact congrArg (· * _) (query_blk m c t r x)
  · rw [if_neg hok, if_neg hok]

/-- One entry of the computed block. -/
theorem core (hf : Finite (X m c) (C m c) (S m c)) (r : Fin 512) (d : Fin 128) :
    k0_pay1 (F := Ideal)
        (k0_pay6 (iblk m c 4 t) (iblk m c 5 t) (iblk m c 6 t) (iblk m c 8 t))
        (k0_pay8 (BitVec.ofNat 32 ((grid0.coords t) 2).val) (k0_pay7 (iblk m c 0 t) (iblk m c 1 t) (iblk m c 2 t) (iblk m c 3 t) (iblk m c 7 t)))
        (k0_pay9 (iblk m c 9 t)) (ix2 r d)
      = ∑ k : Fin 640, slot (X m c) (C m c) 1280 (by omega) (tb t) (tn t) (th t) k d
          * weight (X m c) (C m c) (S m c) (tb t) (tn t) ⟨r.val % 128, by omega⟩ (th t) ⟨r.val / 128, by omega⟩ k := by
  have hk : k0_pay9 (F := Ideal) (iblk m c 9 t) (ix2 r 0) = sink (S m c) (th t) ⟨r.val / 128, by omega⟩ :=
    (pay9_at _ r 0).trans (sink_blk m c t r)
  rw [pay1_at, hk]
  simp only [score_blk m c t r]
  exact entry hf (tb t) (tn t) ⟨r.val % 128, by omega⟩ (th t) ⟨r.val / 128, by omega⟩ d _
    fun k hok => val_blk m c t ⟨r.val % 128, by omega⟩ k d hok

/-- The computed block's entry, at an index of the array. -/
theorem core_at (hf : Finite (X m c) (C m c) (S m c)) (y : S1x128x512.Idx) (i : S512x128.Idx) (j : S2x16384x1024.Idx)
    (hi0 : (i 0 : ℕ) = y 2 / 128 * 128 + y 1) (hi1 : (i 1 : ℕ) = y 2 % 128)
    (hj0 : (j 0 : ℕ) = t.val / 256) (hj1 : (j 1 : ℕ) = t.val % 128 * 128 + y 1) (hj2 : (j 2 : ℕ) = t.val / 128 % 2 * 512 + y 2) :
    k0_pay1 (F := Ideal)
        (k0_pay6 (iblk m c 4 t) (iblk m c 5 t) (iblk m c 6 t) (iblk m c 8 t))
        (k0_pay8 (BitVec.ofNat 32 ((grid0.coords t) 2).val) (k0_pay7 (iblk m c 0 t) (iblk m c 1 t) (iblk m c 2 t) (iblk m c 3 t) (iblk m c 7 t)))
        (k0_pay9 (iblk m c 9 t)) i
      = out (X m c) (C m c) (S m c) j := by
  have := tlt t
  have hy1 : (y 1 : ℕ) < 128 := (y 1).isLt
  have hy2 : (y 2 : ℕ) < 512 := (y 2).isLt
  obtain ⟨r, d, rfl⟩ : ∃ (r : Fin 512) (d : Fin 128), i = ix2 r d := ⟨i 0, i 1, by funext a; match a with | 0 => rfl | 1 => rfl⟩
  obtain ⟨jb, jt, je, rfl⟩ : ∃ (jb : Fin 2) (jt : Fin 16384) (je : Fin 1024), j = ix3 jb jt je :=
    ⟨j 0, j 1, j 2, by funext a; match a with | 0 => rfl | 1 => rfl | 2 => rfl⟩
  replace hi0 : r.val = y 2 / 128 * 128 + y 1 := hi0
  replace hi1 : d.val = y 2 % 128 := hi1
  replace hj0 : jb.val = t.val / 256 := hj0
  replace hj1 : jt.val = t.val % 128 * 128 + y 1 := hj1
  replace hj2 : je.val = t.val / 128 % 2 * 512 + y 2 := hj2
  refine (core m c t hf r d).trans ?_
  show _ = outAt (X m c) (C m c) (S m c) jb jt je
  unfold outAt
  have e0 : tb t = jb := Fin.ext hj0.symm
  have e1 : tn t = ⟨jt.val / 128, by omega⟩ := Fin.ext (by show t.val % 128 = jt.val / 128; omega)
  have e2 : th t = ⟨je.val / 512, by omega⟩ := Fin.ext (by show t.val / 128 % 2 = je.val / 512; omega)
  have e3 : (⟨r.val % 128, by omega⟩ : Fin 128) = ⟨jt.val % 128, by omega⟩ := Fin.ext (by show r.val % 128 = jt.val % 128; omega)
  have e4 : (⟨r.val / 128, by omega⟩ : Fin 4) = ⟨je.val / 128 % 4, by omega⟩ := Fin.ext (by show r.val / 128 = je.val / 128 % 4; omega)
  have e5 : d = (⟨je.val % 128, by omega⟩ : Fin 128) := Fin.ext (by show d.val = je.val % 128; omega)
  rw [e0, e1, e2, e3, e4, e5]

theorem point (hf : Finite (X m c) (C m c) (S m c)) (y : S1x128x512.Idx) :
    out0_10 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) y
      = out (X m c) (C m c) (S m c) (((cfg0.win 10).blk t).view.emb y) := by
  have ht := tlt t
  obtain_idx i : S512x128 := [(y 2 : ℕ) / 128 * 128 + (y 1 : ℕ), (y 2 : ℕ) % 128] with hi
  refine Eq.trans (b := k0_pay1 (F := Ideal)
        (k0_pay6 (iblk m c 4 t) (iblk m c 5 t) (iblk m c 6 t) (iblk m c 8 t))
        (k0_pay8 (BitVec.ofNat 32 ((grid0.coords t) 2).val) (k0_pay7 (iblk m c 0 t) (iblk m c 1 t) (iblk m c 2 t) (iblk m c 3 t) (iblk m c 7 t)))
        (k0_pay9 (iblk m c 9 t)) i) ?_ (core_at m c t hf y i _ hi0 hi1 ?_ ?_ ?_)
  · clear hf
    canon_tiles x h
    all_goals (open_payloads; pointwise; blk_ext)
  all_goals (blk_simp [idx t] <;> try omega)

/-- The result array. -/
theorem final (hf : Finite (X m c) (C m c) (S m c)) : (dats m 0 c).arrAt 10 cfg0.N = out (X m c) (C m c) (S m c) := by
  refine (dats m 0 c).arrAt_eq_of_covers 10 _ (by decide +kernel) fun t _ y => ?_
  blk_simp
  rw [after0_10]
  exact point m c t hf y

end Cert.KernelIdeal.Win
end

end
-- ==== Proof.Win.Ref.lean ====
module

public import proofs.«01_k».proof.Proof.Gen.ReferenceIdeal.Read
public import proofs.«01_k».proof.Proof.Win.Spec
public import Idealize.ShloMosaic.Lib.Pipeline.ValueKit
public import Idealize.ShloMosaic.Lib.Pointwise
public import Idealize.ShloMosaic.Lib.Claim

@[expose] public section

set_option maxRecDepth 16384

/-! The reference's result, operation by operation: every entry is the attention's formula of `Win.Spec`. -/

noncomputable section
open Idealize.ShloMosaic Idealize.ShloMosaic.TcCoe Idealize.SL.Sem
namespace Cert.ReferenceIdeal.Win
open Cert.ReferenceIdeal Cert.ReferenceIdeal.Gen Cert.ReferenceIdeal.Read
open Cert.WinMath (scale negInf)
open Cert.WinSpec
variable (x0 : FVec Ideal S2x16384x4608 .bf16) (x1 : FVec Ideal S2x256x4608 .bf16) (x2 : FVec Ideal S8 .f32)

theorem q_at (b : Fin 2) (n : Fin 128) (i : Fin 128) (h : Fin 2) (g : Fin 4) (d : Fin 128) :
    val_main_v12 (F := Ideal) x0 (ix6 b n i h g d) = query x0 b n i h g d := by
  pointwise [val_main_v12, val_main_v3, val_main_v2, val_main_v0]
  rfl

theorem sitofp_zero : (FloatOps.sitofp (F := Ideal) FTy.f32 0#32 : EReal) = 0 := by
  show (((0#32 : BitVec 32).toInt : ℝ) : EReal) = 0
  simp

/-- A slot of the window, in or out of the sequence. -/
theorem slot_win (x : Seq) (c : Ctx) (col : Nat) (hcol : col ≤ 1280) (b : Fin 2) (n : Fin 128) (h : Fin 2) (k : Fin 384) (d : Fin 128) (y : EReal)
    (hin : ∀ hv : 128 ≤ n.val * 128 + k.val ∧ n.val * 128 + k.val < 16512,
      y = x (ix3 b ⟨n.val * 128 + k.val - 128, by omega⟩ ⟨col + (h.val * 128 + d.val), by omega⟩))
    (hout : ¬ (128 ≤ n.val * 128 + k.val ∧ n.val * 128 + k.val < 16512) → y = 0) :
    y = slot x c col hcol b n h ⟨k.val, by omega⟩ d := by
  unfold slot
  rw [dif_pos (show k.val < 384 from k.isLt)]
  by_cases hv : 128 ≤ n.val * 128 + k.val ∧ n.val * 128 + k.val < 16512
  · rw [dif_pos hv]; exact hin hv
  · rw [dif_neg hv]; exact hout hv

theorem k_out (b : Fin 2) (n : Fin 128) (k : Fin 384) (h : Fin 2) (d : Fin 128) (hv : ¬ (128 ≤ n.val * 128 + k.val ∧ n.val * 128 + k.val < 16512)) :
    val_main_v20 (F := Ideal) x0 (ix5 b n k h d) = (0 : EReal) := by
  have hk := k.isLt
  have hn := n.isLt
  pointwise [val_main_v20, val_main_v17, val_main_v18, val_main_v19, val_main_v14, val_main_v13, val_main_call0_v0, val_main_c, val_main_v5, val_main_v4, val_main_v0]
  split_ifs <;> first | exact sitofp_zero | (exfalso; omega)

theorem k_in (b : Fin 2) (n : Fin 128) (k : Fin 384) (h : Fin 2) (d : Fin 128) (hv : 128 ≤ n.val * 128 + k.val ∧ n.val * 128 + k.val < 16512) :
    val_main_v20 (F := Ideal) x0 (ix5 b n k h d) = x0 (ix3 b ⟨n.val * 128 + k.val - 128, by omega⟩ ⟨1024 + (h.val * 128 + d.val), by omega⟩) := by
  have hk := k.isLt
  have hn := n.isLt
  pointwise [val_main_v20, val_main_v17, val_main_v18, val_main_v19, val_main_v14, val_main_v13, val_main_call0_v0, val_main_c, val_main_v5, val_main_v4, val_main_v0]
  by_cases h1 : k.val < 128
  · rw [dif_pos h1, dif_pos (by omega)]
  · rw [dif_neg h1]
    by_cases h2 : k.val - 128 < 128
    · rw [dif_pos h2, dif_pos (by omega)]; blk_ext
    · rw [dif_neg h2, dif_pos (by omega)]; blk_ext

theorem k_at (b : Fin 2) (n : Fin 128) (k : Fin 384) (h : Fin 2) (d : Fin 128) :
    val_main_v20 (F := Ideal) x0 (ix5 b n k h d) = slot x0 x1 1024 (by omega) b n h ⟨k.val, by omega⟩ d :=
  slot_win x0 x1 1024 (by omega) b n h k d _ (fun hv => k_in x0 b n k h d hv) (fun hv => k_out x0 b n k h d hv)

theorem v_out (b : Fin 2) (n : Fin 128) (k : Fin 384) (h : Fin 2) (d : Fin 128) (hv : ¬ (128 ≤ n.val * 128 + k.val ∧ n.val * 128 + k.val < 16512)) :
    val_main_v24 (F := Ideal) x0 (ix5 b n k h d) = (0 : EReal) := by
  have hk := k.isLt
  have hn := n.isLt
  pointwise [val_main_v24, val_main_v21, val_main_v22, val_main_v23, val_main_v16, val_main_v15, val_main_call1_v0, val_main_c_0, val_main_v7, val_main_v6, val_main_v0]
  split_ifs <;> first | exact sitofp_zero | (exfalso; omega)

theorem v_in (b : Fin 2) (n : Fin 128) (k : Fin 384) (h : Fin 2) (d : Fin 128) (hv : 128 ≤ n.val * 128 + k.val ∧ n.val * 128 + k.val < 16512) :
    val_main_v24 (F := Ideal) x0 (ix5 b n k h d) = x0 (ix3 b ⟨n.val * 128 + k.val - 128, by omega⟩ ⟨1280 + (h.val * 128 + d.val), by omega⟩) := by
  have hk := k.isLt
  have hn := n.isLt
  pointwise [val_main_v24, val_main_v21, val_main_v22, val_main_v23, val_main_v16, val_main_v15, val_main_call1_v0, val_main_c_0, val_main_v7, val_main_v6, val_main_v0]
  by_cases h1 : k.val < 128
  · rw [dif_pos h1, dif_pos (by omega)]
  · rw [dif_neg h1]
    by_cases h2 : k.val - 128 < 128
    · rw [dif_pos h2, dif_pos (by omega)]; blk_ext
    · rw [dif_neg h2, dif_pos (by omega)]; blk_ext

theorem v_at (b : Fin 2) (n : Fin 128) (k : Fin 384) (h : Fin 2) (d : Fin 128) :
    val_main_v24 (F := Ideal) x0 (ix5 b n k h d) = slot x0 x1 1280 (by omega) b n h ⟨k.val, by omega⟩ d :=
  slot_win x0 x1 1280 (by omega) b n h k d _ (fun hv => v_in x0 b n k h d hv) (fun hv => v_out x0 b n k h d hv)

theorem kc_at (b : Fin 2) (n : Fin 128) (k : Fin 256) (h : Fin 2) (d : Fin 128) :
    val_main_v9 (F := Ideal) x1 (ix4 b k h d) = slot x0 x1 1024 (by omega) b n h ⟨384 + k.val, by omega⟩ d := by
  pointwise [val_main_v9, val_main_v8, val_main_v1]
  unfold slot
  rw [dif_neg (show ¬ 384 + k.val < 384 by omega)]
  blk_ext

theorem vc_at (b : Fin 2) (n : Fin 128) (k : Fin 256) (h : Fin 2) (d : Fin 128) :
    val_main_v11 (F := Ideal) x1 (ix4 b k h d) = slot x0 x1 1280 (by omega) b n h ⟨384 + k.val, by omega⟩ d := by
  pointwise [val_main_v11, val_main_v10, val_main_v1]
  unfold slot
  rw [dif_neg (show ¬ 384 + k.val < 384 by omega)]
  blk_ext

theorem valid_at (n : Fin 128) (i : Fin 128) (k : Fin 384) :
    val_main_v60 (F := Ideal) (ix3 n i k) = BitVec.ofBool (decide (WinMask.Valid n i k)) := by
  rw [← WinMask.ref_mask n i k n.isLt i.isLt k.isLt]
  pointwise [val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_c_1, val_main_c_2, val_main_c_3, val_main_c_4, val_main_c_5, val_main_c_6]

theorem s_at (b : Fin 2) (n : Fin 128) (h : Fin 2) (g : Fin 4) (i : Fin 128) (k : Fin 384) :
    val_main_v66 (F := Ideal) x0 (ix6 b n h g i k) = score x0 x1 b n i h g ⟨k.val, by omega⟩ := by
  have e : val_main_v66 (F := Ideal) x0 (ix6 b n h g i k)
      = Scalar.select (val_main_v60 (F := Ideal) (ix3 n i k))
          ((∑ x : Fin 128, val_main_v20 (F := Ideal) x0 (ix5 b n k h x) * val_main_v12 (F := Ideal) x0 (ix6 b n i h g x)) * scale)
          (Ideal.ofBits .f32 4286578688#32) := by
    pointwise [val_main_v66, val_main_call2_v0, val_main_call2_v1, val_main_call2_v2, val_main_cst_7, val_main_v65, val_main_v64, val_main_v63, val_main_cst, val_main_v62, val_main_v61]
    try rfl
  rw [e, valid_at, WordCmp.select_decide, negInf]
  unfold score
  by_cases hv : WinMask.Valid n i k
  · rw [if_pos hv, if_pos ((WinMask.ok_iff_valid n i k n.isLt i.isLt k.isLt).2 hv)]
    congr 1
    refine Finset.sum_congr rfl fun x _ => ?_
    rw [k_at x0 x1, q_at, mul_comm]
  · rw [if_neg hv, if_neg fun hc => hv ((WinMask.ok_iff_valid n i k n.isLt i.isLt k.isLt).1 hc)]

theorem l_at (b : Fin 2) (n : Fin 128) (h : Fin 2) (g : Fin 4) (i : Fin 128) (k : Fin 640) :
    val_main_v73 (F := Ideal) x0 x1 (ix6 b n h g i k) = score x0 x1 b n i h g k := by
  have e : val_main_v73 (F := Ideal) x0 x1 (ix6 b n h g i k)
      = if hk : k.val < 384 then val_main_v66 (F := Ideal) x0 (ix6 b n h g i ⟨k.val, hk⟩)
        else (∑ x : Fin 128, val_main_v9 (F := Ideal) x1 (ix4 b ⟨k.val - 384, by omega⟩ h x) * val_main_v12 (F := Ideal) x0 (ix6 b n i h g x)) * scale := by
    pointwise [val_main_v73, val_main_v70, val_main_v69, val_main_cst_8, val_main_v68, val_main_v67]
  rw [e]
  by_cases hk : k.val < 384
  · rw [dif_pos hk, s_at x0 x1]
  · rw [dif_neg hk]
    unfold score
    rw [if_pos (WinMask.ok_context n i k (by omega))]
    congr 1
    refine Finset.sum_congr rfl fun x _ => ?_
    rw [kc_at x0 x1 b n, q_at, mul_comm]
    congr 2
    exact Fin.ext (by show 384 + (k.val - 384) = k.val; omega)

theorem sink_at (b : Fin 2) (n : Fin 128) (h : Fin 2) (g : Fin 4) (i : Fin 128) (u : Fin 1) :
    val_main_v76 (F := Ideal) x2 (ix6 b n h g i u) = sink x2 h g := by
  pointwise [val_main_v76, val_main_v72, val_main_v71]
  rfl

theorem sink_at' (b : Fin 2) (n : Fin 128) (h : Fin 2) (g : Fin 4) (i : Fin 128) (u : Fin 1) :
    val_main_v83 (F := Ideal) x2 (ix6 b n h g i u) = sink x2 h g := by
  pointwise [val_main_v83, val_main_v72, val_main_v71]
  rfl

theorem max_at (b : Fin 2) (n : Fin 128) (h : Fin 2) (g : Fin 4) (i : Fin 128) :
    val_main_v74 (F := Ideal) x0 x1 (ix5 b n h g i) = Finset.univ.fold max ⊥ fun k : Fin 640 => score x0 x1 b n i h g k := by
  unfold val_main_v74
  have hl := fun k : Fin 640 => l_at x0 x1 b n h g i k
  generalize val_main_v73 (F := Ideal) x0 x1 = y at hl ⊢
  refine (Host.reduce_eq_fold_single _ y _ _ (by decide) _ _).trans ?_
  rw [← negInf]
  refine congrArg (fun f : Fin 640 → EReal => Finset.univ.fold max (Ideal.ofBits .f32 4286578688#32) f) (funext fun k => ?_)
  rw [← hl k]
  exact congrArg y (funext fun a => Fin.ext (by match a with | ⟨0, _⟩ => rfl | ⟨1, _⟩ => rfl | ⟨2, _⟩ => rfl | ⟨3, _⟩ => rfl | ⟨4, _⟩ => rfl | ⟨5, _⟩ => rfl))

theorem top_at (b : Fin 2) (n : Fin 128) (h : Fin 2) (g : Fin 4) (i : Fin 128) (u : Fin 1) :
    val_main_v77 (F := Ideal) x0 x1 x2 (ix6 b n h g i u) = top x0 x1 x2 b n i h g := by
  rw [val_main_v77_apply, sink_at, val_main_v75_apply]
  have e : idx_main_v75 (ix6 b n h g i u) = ix5 b n h g i :=
    funext fun a => Fin.ext (by match a with | ⟨0, _⟩ => rfl | ⟨1, _⟩ => rfl | ⟨2, _⟩ => rfl | ⟨3, _⟩ => rfl | ⟨4, _⟩ => rfl)
  rw [e, max_at]
  rfl

theorem exp_at (b : Fin 2) (n : Fin 128) (h : Fin 2) (g : Fin 4) (i : Fin 128) (k : Fin 640) :
    val_main_v80 (F := Ideal) x0 x1 x2 (ix6 b n h g i k) = Ideal.exp (score x0 x1 b n i h g k - top x0 x1 x2 b n i h g) := by
  rw [val_main_v80_apply, val_main_v79_apply, l_at, val_main_v78_apply]
  have e : idx_main_v78 (ix6 b n h g i k) = ix6 b n h g i 0 :=
    funext fun a => Fin.ext (by match a with | ⟨0, _⟩ => rfl | ⟨1, _⟩ => rfl | ⟨2, _⟩ => rfl | ⟨3, _⟩ => rfl | ⟨4, _⟩ => rfl | ⟨5, _⟩ => rfl)
  rw [e, top_at]
  rfl

theorem den_at (b : Fin 2) (n : Fin 128) (h : Fin 2) (g : Fin 4) (i : Fin 128) (u : Fin 1) :
    val_main_v86 (F := Ideal) x0 x1 x2 (ix6 b n h g i u) = den x0 x1 x2 b n i h g := by
  rw [val_main_v86_apply, val_main_v85_apply, val_main_v84_apply, sink_at', top_at, val_main_v82_apply]
  have e : idx_main_v82 (ix6 b n h g i u) = ix5 b n h g i :=
    funext fun a => Fin.ext (by match a with | ⟨0, _⟩ => rfl | ⟨1, _⟩ => rfl | ⟨2, _⟩ => rfl | ⟨3, _⟩ => rfl | ⟨4, _⟩ => rfl)
  rw [e, val_main_v81_apply]
  have z : (val_main_cst_10 (F := Ideal)) (Shape.Idx.first h_S_) = (0 : EReal) := by
    show Ideal.ofBits .f32 0#32 = 0
    simp [Ideal.ofBits, Ideal.ieee]
  have e' : ∀ k : Fin 640, val_main_v80 (F := Ideal) x0 x1 x2 (idx_main_v81 (ix5 b n h g i) k) = Ideal.exp (score x0 x1 b n i h g k - top x0 x1 x2 b n i h g) := fun k => by
    rw [← exp_at]
    exact congrArg _ (funext fun a => Fin.ext (by match a with | ⟨0, _⟩ => rfl | ⟨1, _⟩ => rfl | ⟨2, _⟩ => rfl | ⟨3, _⟩ => rfl | ⟨4, _⟩ => rfl | ⟨5, _⟩ => rfl))
  rw [z, zero_add]
  simp only [e']
  rfl

theorem weight_at (b : Fin 2) (n : Fin 128) (h : Fin 2) (g : Fin 4) (i : Fin 128) (k : Fin 640) :
    val_main_v88 (F := Ideal) x0 x1 x2 (ix6 b n h g i k) = weight x0 x1 x2 b n i h g k := by
  rw [val_main_v88_apply, exp_at, val_main_v87_apply]
  have e : idx_main_v87 (ix6 b n h g i k) = ix6 b n h g i 0 :=
    funext fun a => Fin.ext (by match a with | ⟨0, _⟩ => rfl | ⟨1, _⟩ => rfl | ⟨2, _⟩ => rfl | ⟨3, _⟩ => rfl | ⟨4, _⟩ => rfl | ⟨5, _⟩ => rfl)
  rw [e, den_at]
  rfl

theorem win_at (b : Fin 2) (n : Fin 128) (i : Fin 128) (h : Fin 2) (g : Fin 4) (d : Fin 128) :
    val_main_v91 (F := Ideal) x0 x1 x2 (ix6 b n i h g d)
      = ∑ k : Fin 384, val_main_v24 (F := Ideal) x0 (ix5 b n k h d) * val_main_v88 (F := Ideal) x0 x1 x2 (ix6 b n h g i ⟨k.val, by omega⟩) := by
  pointwise [val_main_v91, val_main_v90, val_main_v89]

theorem ctx_at (b : Fin 2) (n : Fin 128) (i : Fin 128) (h : Fin 2) (g : Fin 4) (d : Fin 128) :
    val_main_v94 (F := Ideal) x0 x1 x2 (ix6 b n i h g d)
      = ∑ k : Fin 256, val_main_v11 (F := Ideal) x1 (ix4 b k h d) * val_main_v88 (F := Ideal) x0 x1 x2 (ix6 b n h g i ⟨384 + k.val, by omega⟩) := by
  pointwise [val_main_v94, val_main_v93, val_main_v92]

theorem sum_at (b : Fin 2) (n : Fin 128) (i : Fin 128) (h : Fin 2) (g : Fin 4) (d : Fin 128) :
    val_main_v95 (F := Ideal) x0 x1 x2 (ix6 b n i h g d)
      = ∑ k : Fin 640, slot x0 x1 1280 (by omega) b n h k d * weight x0 x1 x2 b n i h g k := by
  rw [val_main_v95_apply, win_at, ctx_at]
  simp only [weight_at, v_at x0 x1, vc_at x0 x1 b n]
  exact (Fin.sum_univ_add (a := 384) (b := 256) (M := EReal) fun k : Fin (384 + 256) => slot x0 x1 1280 (by omega) b n h k d * weight x0 x1 x2 b n i h g k).symm

theorem out_at (b : Fin 2) (t : Fin 16384) (e : Fin 1024) :
    val_main_v97 (F := Ideal) x0 x1 x2 (ix3 b t e) = outAt x0 x1 x2 b t e := by
  have r : val_main_v97 (F := Ideal) x0 x1 x2 (ix3 b t e) = val_main_v95 (F := Ideal) x0 x1 x2
      (ix6 b ⟨t.val / 128, by omega⟩ ⟨t.val % 128, by omega⟩ ⟨e.val / 512, by omega⟩ ⟨e.val / 128 % 4, by omega⟩ ⟨e.val % 128, by omega⟩) := by
    unfold val_main_v97 val_main_v96
    generalize val_main_v95 (F := Ideal) x0 x1 x2 = y
    pointwise []
  rw [r, sum_at]
  rfl

/-- The reference's result. -/
theorem result : val_main_v97 (F := Ideal) x0 x1 x2 = out x0 x1 x2 := by
  funext j
  obtain ⟨jb, jt, je, rfl⟩ : ∃ (jb : Fin 2) (jt : Fin 16384) (je : Fin 1024), j = ix3 jb jt je :=
    ⟨j 0, j 1, j 2, by funext a; match a with | 0 => rfl | 1 => rfl | 2 => rfl⟩
  exact out_at x0 x1 x2 jb jt je

end Cert.ReferenceIdeal.Win
end

end
-- ==== Proof.Win.Pre.lean ====
module

public import proofs.«01_k».proof.Defs
public import proofs.«01_k».proof.Proof.Win.Spec
public import proofs.«01_k».proof.Proof.Gen.Pre_finite_scores
public import Idealize.ShloMosaic.Lib.ReduceAll
public import Idealize.ShloMosaic.Lib.Pointwise
public import Idealize.ShloMosaic.Lib.Claim
public import Idealize.ShloMosaic.Lib.Pipeline.ValueKit

@[expose] public section

set_option maxRecDepth 16384

/-! The precondition, read back: the entries the scores are made of are finite. -/

noncomputable section
open Idealize.ShloMosaic
namespace Cert.Pre_finite_scores.Win
open Cert.Pre_finite_scores
open Cert.WinMath Cert.WinSpec

/-- A magnitude under `+∞` is that of a real number. -/
theorem fin'_of_abs (y : EReal) (h : FloatOps.cmpf (F := Ideal) (φ := .f32) .olt (FloatOps.absf (F := Ideal) (φ := .f32) y) (Ideal.ofBits .f32 2139095040#32) = 1#1) : Fin' y := by
  rw [posInf] at h
  induction y with
  | bot => exfalso; revert h; simp [FloatOps.cmpf, FloatOps.absf, Ideal.cmp]
  | top => exfalso; revert h; simp [FloatOps.cmpf, FloatOps.absf, Ideal.cmp]
  | coe r => exact ⟨EReal.coe_ne_bot r, EReal.coe_ne_top r⟩

instance : Subsingleton S_.Idx := ⟨fun a b => by funext i; exact i.elim0⟩

theorem finite [Facts] (x : Seq) (c : Ctx) (s : Snk) (h : fn (F := Ideal) x c s = fun _ => 1#1) : Finite x c s := by
  have h0 := congrFun h ix0
  dsimp only [fn] at h0
  obtain ⟨h1, h3⟩ := IntOp.andi_eq_one.1 h0
  obtain ⟨h1, h2⟩ := IntOp.andi_eq_one.1 h1
  refine ⟨fun b t e he => ?_, fun b t e h1' h2' => ?_, fun a => ?_⟩
  · have := Host.reduce_andi_all _ _ _ _ _ h1 (ix3 b t ⟨e.val, he⟩)
    apply fin'_of_abs
    refine Eq.trans ?_ this
    pointwise []
  · have := Host.reduce_andi_all _ _ _ _ _ h2 (ix3 b t ⟨e.val - 1024, by omega⟩)
    apply fin'_of_abs
    refine Eq.trans ?_ this
    pointwise []
    have he : (⟨1024 + (e.val - 1024), by omega⟩ : Fin 4608) = e := Fin.ext (by dsimp only; omega)
    simp only [he]
  · have := Host.reduce_andi_all _ _ _ _ _ h3 (ix1 a)
    apply fin'_of_abs
    refine Eq.trans ?_ this
    rfl

end Cert.Pre_finite_scores.Win
end
end
-- ==== Proof.Proj.Spec.lean ====
module

public import Idealize.ShloMosaic.Lib.Pipeline.ValueKit
public import Idealize.ShloMosaic.Lib.Pointwise

@[expose] public section

/-! The projections of the recurrence, index by index: the modulated norm of the context, the sequence and the context again, the
    centred shift of each of the three, the six mixes, and each mix times its weights. -/

noncomputable section
open Idealize.ShloMosaic
namespace Cert.ProjSpec

/-- The arguments: the sequence, the context, the norm's weights, the scale and the shift of each, the six mixes' weights, and
    the projections' weights. -/
structure In where
  x : FVec Ideal ⟨3, ![2, 16384, 2048]⟩ .f32
  xc : FVec Ideal ⟨3, ![2, 256, 2048]⟩ .f32
  g : FVec Ideal ⟨1, ![2048]⟩ .f32
  sc : FVec Ideal ⟨2, ![2, 2048]⟩ .f32
  sh : FVec Ideal ⟨2, ![2, 2048]⟩ .f32
  csc : FVec Ideal ⟨2, ![1, 2048]⟩ .f32
  csh : FVec Ideal ⟨2, ![1, 2048]⟩ .f32
  mu : FVec Ideal ⟨2, ![6, 2048]⟩ .f32
  wr : FVec Ideal ⟨2, ![2048, 2048]⟩ .f32
  wk : FVec Ideal ⟨2, ![2048, 2048]⟩ .f32
  wv : FVec Ideal ⟨2, ![2048, 2048]⟩ .f32
  w1 : FVec Ideal ⟨3, ![2, 2048, 96]⟩ .f32
  a1 : FVec Ideal ⟨3, ![2, 2048, 96]⟩ .f32
  g1 : FVec Ideal ⟨2, ![2048, 256]⟩ .f32

/-- The width of a row, the norm's epsilon and one half. -/
abbrev width : EReal := Ideal.ofBits FTy.f32 1157627904#32
abbrev eps : EReal := Ideal.ofBits FTy.f32 897988541#32
abbrev half : EReal := Ideal.ofBits FTy.f32 1056964608#32

/-- A row's normalizer. -/
def scale (f : Fin 2048 → EReal) : EReal := Ideal.rsqrt (Ideal.div (∑ d, f d * f d) width + eps)

variable (I : In)

/-- Whether a position lies in the first or the second copy of the context. -/
def Ctx (t : Nat) : Prop := t < 256 ∨ 16640 ≤ t
instance (t : Nat) : Decidable (Ctx t) := by unfold Ctx; infer_instance

/-- Position `t` of the context, the sequence and the context again. -/
def row (b : Fin 2) (t : Fin 16896) (d : Fin 2048) : EReal :=
  if h : t.val < 256 then I.xc (ix3 b ⟨t.val, h⟩ d)
  else if h' : t.val - 256 < 16384 then I.x (ix3 b ⟨t.val - 256, h'⟩ d)
  else I.xc (ix3 b ⟨t.val - 256 - 16384, by omega⟩ d)

/-- Its scale and shift. -/
def mscale (b : Fin 2) (t : Nat) (d : Fin 2048) : EReal := if Ctx t then I.csc (ix2 0 d) else I.sc (ix2 b d)
def mshift (b : Fin 2) (t : Nat) (d : Fin 2048) : EReal := if Ctx t then I.csh (ix2 0 d) else I.sh (ix2 b d)

/-- The modulated norm. -/
def hAt (b : Fin 2) (t : Fin 16896) (d : Fin 2048) : EReal :=
  row I b t d * scale (row I b t) * I.g (ix1 d) * (1 + mscale I b t d) + mshift I b t d

/-- Whether a position has a neighbour before or after it in its own stream. -/
def HasPrev (t : Nat) : Prop := t ≠ 0 ∧ t ≠ 256 ∧ t ≠ 16640
def HasNext (t : Nat) : Prop := t ≠ 255 ∧ t ≠ 16639 ∧ t ≠ 16895
instance (t : Nat) : Decidable (HasPrev t) := by unfold HasPrev; infer_instance
instance (t : Nat) : Decidable (HasNext t) := by unfold HasNext; infer_instance

def prevAt (b : Fin 2) (t : Fin 16896) (d : Fin 2048) : EReal :=
  if HasPrev t then hAt I b ⟨t.val - 1, by omega⟩ d else 0

def nextAt (b : Fin 2) (t : Fin 16896) (d : Fin 2048) : EReal :=
  if h : HasNext t then hAt I b ⟨t.val + 1, by have := t.isLt; have := h.2.2; omega⟩ d else 0

/-- The centred shift: half the sum of the neighbours less the row. -/
def shiftAt (b : Fin 2) (t : Fin 16896) (d : Fin 2048) : EReal :=
  half * (prevAt I b t d + nextAt I b t d) - hAt I b t d

/-- One of the six mixes. -/
def mixAt (b : Fin 2) (t : Fin 16896) (n : Fin 6) (d : Fin 2048) : EReal :=
  hAt I b t d + shiftAt I b t d * I.mu (ix2 n d)

/-- A column of the weights: the three square ones, then three blocks of 512 columns, zero where they end. -/
def weight (d : Fin 2048) (e : Fin 7680) : EReal :=
  if h : e.val < 2048 then I.wr (ix2 d ⟨e.val, h⟩)
  else if h : e.val < 4096 then I.wk (ix2 d ⟨e.val - 2048, by omega⟩)
  else if h : e.val < 6144 then I.wv (ix2 d ⟨e.val - 4096, by omega⟩)
  else if h : e.val < 6656 then (if h' : e.val - 6144 < 256 then I.g1 (ix2 d ⟨e.val - 6144, h'⟩) else 0)
  else if h : e.val < 7168 then
    (if h' : e.val - 6656 < 192 then I.w1 (ix3 ⟨(e.val - 6656) / 96, by omega⟩ d ⟨(e.val - 6656) % 96, by omega⟩) else 0)
  else (if h' : e.val - 7168 < 192 then I.a1 (ix3 ⟨(e.val - 7168) / 96, by omega⟩ d ⟨(e.val - 7168) % 96, by omega⟩) else 0)

/-- The mix a tile of 512 columns belongs to: the order of the mixes' weights is receptance, decay, key, value, rate, gate. -/
def mixOf (j : Nat) : Fin 6 :=
  if j < 4 then 0 else if j < 8 then 2 else if j < 12 then 3 else if j = 12 then 5 else if j = 13 then 1 else 4

/-- The result. -/
def out : FVec Ideal ⟨2, ![33792, 7680]⟩ .f32 := fun i =>
  ∑ d : Fin 2048, mixAt I ⟨(i 0).val / 16896, by have : (i 0).val < 33792 := (i 0).isLt; omega⟩ ⟨(i 0).val % 16896, by omega⟩ (mixOf ((i 1).val / 512)) d
    * weight I d (i 1)

end Cert.ProjSpec
end

end
-- ==== Proof.Proj.Word.lean ====
module

public import proofs.«01_k».proof.Proof.Win.Mask

@[expose] public section

/-! The position arithmetic of the projections, on 32-bit words. -/

noncomputable section
open Idealize.ShloMosaic
namespace Cert.ProjWord
open Cert.WinMask

/-- The first position of a row tile in its sequence, as the kernel computes it from the tile's number `a`. -/
def first (a : BitVec 32) : BitVec 32 :=
  Scalar.select
    (Scalar.andi
      (Scalar.xori (Scalar.cmpi .slt (Scalar.remsi (Scalar.muli a 768#32) 16896#32) 0#32) 0#1)
      (Scalar.cmpi .ne (Scalar.remsi (Scalar.muli a 768#32) 16896#32) 0#32))
    (Scalar.addi (Scalar.remsi (Scalar.muli a 768#32) 16896#32) 16896#32)
    (Scalar.remsi (Scalar.muli a 768#32) 16896#32)

theorem first_fin : ∀ n : Fin 44, first (BitVec.ofNat 32 n.val) = BitVec.ofNat 32 (n.val % 22 * 768) := by decide +kernel

theorem first_eq (n : Nat) (hn : n < 44) : first (BitVec.ofNat 32 n) = BitVec.ofInt 32 ((n % 22 * 768 : Nat) : Int) := by
  rw [BitVec.ofInt_natCast]; exact first_fin ⟨n, hn⟩

theorem ctx_word (z : Int) (h1 : -(2 ^ 31) < z) (h2 : z < 2 ^ 31) :
    IntOp.ori (IntOp.cmpi .slt (BitVec.ofInt 32 z) 256#32) (IntOp.cmpi .sge (BitVec.ofInt 32 z) 16640#32)
      = BitVec.ofBool (decide (z < 256 ∨ 16640 ≤ z)) := by
  simp only [WordCmp.cmpi_sge_eq, WordCmp.cmpi_slt_eq, ofNat_eq_ofInt]
  rw [toInt_small (z := z) (by omega) h2, toInt_small (z := ((256 : Nat) : Int)) (by omega) (by omega),
    toInt_small (z := ((16640 : Nat) : Int)) (by omega) (by omega)]
  simp only [WordCmp.ori_ofBool]
  congr 1
  rw [Bool.eq_iff_iff]
  simp

/-- Whether a small word is a given one. -/
theorem eq_word (n k : Nat) (hn : n < 2 ^ 32) (hk : k < 2 ^ 32) :
    IntOp.cmpi .eq (BitVec.ofNat 32 n) (BitVec.ofNat 32 k) = BitVec.ofBool (decide (n = k)) := by
  have h : (BitVec.ofNat 32 n = BitVec.ofNat 32 k) ↔ n = k := by
    rw [← BitVec.toNat_inj, BitVec.toNat_ofNat, BitVec.toNat_ofNat, Nat.mod_eq_of_lt hn, Nat.mod_eq_of_lt hk]
  unfold IntOp.cmpi
  by_cases e : n = k
  · simp [e]
  · simp [e, bne, beq_eq_false_iff_ne.mpr (mt h.1 e)]

theorem ne_word (n k : Nat) (hn : n < 2 ^ 32) (hk : k < 2 ^ 32) :
    IntOp.cmpi .ne (BitVec.ofNat 32 n) (BitVec.ofNat 32 k) = BitVec.ofBool (decide (n ≠ k)) := by
  have h : (BitVec.ofNat 32 n = BitVec.ofNat 32 k) ↔ n = k := by
    rw [← BitVec.toNat_inj, BitVec.toNat_ofNat, BitVec.toNat_ofNat, Nat.mod_eq_of_lt hn, Nat.mod_eq_of_lt hk]
  unfold IntOp.cmpi
  by_cases e : n = k
  · simp [e]
  · simp [e, bne, beq_eq_false_iff_ne.mpr (mt h.1 e)]

theorem three_word (n a b c : Nat) (hn : n < 2 ^ 32) (ha : a < 2 ^ 32) (hb : b < 2 ^ 32) (hc : c < 2 ^ 32) :
    IntOp.andi (IntOp.andi (IntOp.cmpi .ne (BitVec.ofNat 32 n) (BitVec.ofNat 32 a)) (IntOp.cmpi .ne (BitVec.ofNat 32 n) (BitVec.ofNat 32 b)))
        (IntOp.cmpi .ne (BitVec.ofNat 32 n) (BitVec.ofNat 32 c))
      = BitVec.ofBool (decide (n ≠ a ∧ n ≠ b ∧ n ≠ c)) := by
  rw [ne_word n a hn ha, ne_word n b hn hb, ne_word n c hn hc]
  simp only [WordCmp.andi_ofBool]
  congr 1
  rw [Bool.eq_iff_iff]
  simp [and_assoc]

end Cert.ProjWord

end

end
-- ==== Proof.Proj.Body.lean ====
module

public import proofs.«01_k».proof.Proof.Gen.ProjectionsIdeal.Frame
public import Idealize.ShloMosaic.Lib.Pipeline.ValueKit
public import Idealize.ShloMosaic.Lib.Pointwise
public import proofs.«01_k».proof.Proof.Proj.Spec
public import proofs.«01_k».proof.Proof.Proj.Word

@[expose] public section

set_option maxRecDepth 16384

/-! What the kernel's body computes of a row tile, index by index. -/

noncomputable section
open Idealize.ShloMosaic Idealize.ShloMosaic.TcCoe Idealize.SL.Sem
open Idealize.ShloMosaic.Pipeline (Dat)
namespace Cert.ProjectionsIdeal.Proj
open Cert.ProjectionsIdeal Cert.ProjectionsIdeal.Gen
open Cert.ProjSpec Cert.ProjWord

/-- The counts along the rows of a tile and of eight rows. -/
abbrev rows : IVec S768x1 32 := iota .tc S768x1 32 [0] iota_S768x1_d0_w32
abbrev rows8 : IVec S8x1 32 := iota .tc S8x1 32 [0] iota_S8x1_d0_w32

variable (a : BitVec 32) (x0 : FVec Ideal S768x2048 .f32) (x1 x2 : FVec Ideal S8x2048 .f32) (x3 : FVec Ideal S1x2048 .f32)
  (x4 x5 : FVec Ideal S1x1x2048 .f32) (x6 x7 : FVec Ideal S1x2048 .f32)

/-- The modulated norm of a tile's rows, -/
def hblk : FVec Ideal S768x2048 .f32 :=
  k0_pay9 (F := Ideal) (k0_pay4 x0) (k0_pay5 a) (k0_pay6 x3) (k0_pay7 a x6 x4) x7 (k0_pay8 x5)

/-- of the row before the tile, -/
def before : FVec Ideal S1x2048 .f32 :=
  k0_pay16 (F := Ideal) (k0_pay10 x1) (k0_pay11 (first a) rows8) (k0_pay12 x3) (k0_pay13 (first a) rows8) (k0_pay14 x6) (k0_pay15 x4) x7 x5

/-- of the row after it, -/
def after : FVec Ideal S1x2048 .f32 :=
  k0_pay20 (F := Ideal) (k0_pay17 x2) (k0_pay18 (first a) rows8) (k0_pay19 x3) x6 x4 x7 x5

/-- and the rows' centred shift. -/
def sblk : FVec Ideal S768x2048 .f32 :=
  k0_pay24 (F := Ideal) (k0_pay3 a) (hblk a x0 x3 x4 x5 x6 x7) (after a x2 x3 x4 x5 x6 x7)
    (k0_pay21 rows (hblk a x0 x3 x4 x5 x6 x7) (before a x1 x3 x4 x5 x6 x7)) (k0_pay22 rows)

theorem pay23_eq (v : FVec Ideal S768x2048 .f32) (r : Fin 768) (d : Fin 2048) : k0_pay23 (F := Ideal) v (ix2 r d) = v (ix2 r d) := by
  pointwise [k0_pay23]

theorem pay1_at (v44 v45 : FVec Ideal S768x2048 .f32) (v47 : FVec Ideal S1x2048 .f32) (r : Fin 768) (d : Fin 2048) :
    k0_pay1 (F := Ideal) v44 v45 v47 (ix2 r d) = v44 (ix2 r d) + v45 (ix2 r d) * v47 (ix2 0 d) := by
  pointwise [k0_pay1]

theorem pay2_at (h : FVec Ideal S768x2048 .bf16) (w : FVec Ideal S2048x512 .bf16) (r : Fin 768) (e : Fin 512) :
    k0_pay2 (F := Ideal) h w (ix2 r e) = ∑ x : Fin 2048, h (ix2 r x) * w (ix2 x e) := by
  pointwise [k0_pay2]

/-- Position `r` of the tile. -/
theorem pay3_at (n : Nat) (hn : n < 44) (r : Fin 768) (u : Fin 1) :
    k0_pay3 (BitVec.ofNat 32 n) (ix2 r u) = BitVec.ofNat 32 (n % 22 * 768 + r.val) := by
  have e : k0_pay3 (BitVec.ofNat 32 n) (ix2 r u) = IntOp.addi (first (BitVec.ofNat 32 n)) (BitVec.ofNat 32 r.val) := by
    pointwise [k0_pay3]
    rfl
  rw [e, first_eq n hn, WinMask.ofNat_eq_ofInt r.val, WinMask.addi_ofInt, WinMask.ofNat_eq_ofInt]
  push_cast
  rfl

theorem pay5_at (n : Nat) (hn : n < 44) (r : Fin 768) (u : Fin 1) :
    k0_pay5 (BitVec.ofNat 32 n) (ix2 r u) = BitVec.ofBool (decide (Ctx (n % 22 * 768 + r.val))) := by
  pointwise [k0_pay5]
  rw [pay3_at n hn, WinMask.ofNat_eq_ofInt, ctx_word _ (by omega) (by omega)]
  congr 1
  rw [Bool.eq_iff_iff]
  simp only [decide_eq_true_eq]
  unfold Ctx
  omega

theorem pay11_at (n : Nat) (hn : n < 44) (h0 : n % 22 ≠ 0) :
    k0_pay11 (first (BitVec.ofNat 32 n)) rows8 (ix2 7 0) = BitVec.ofBool (decide (Ctx (n % 22 * 768 - 1))) := by
  pointwise [k0_pay11]
  have e : IntOp.addi (Scalar.subi (BitVec.ofInt 32 ((n % 22 * 768 : Nat) : Int)) 8#32) 7#32 = BitVec.ofInt 32 (((n % 22 * 768 : Nat) : Int) - 1) := by
    show IntOp.addi (IntOp.subi (BitVec.ofInt 32 ((n % 22 * 768 : Nat) : Int)) (BitVec.ofNat 32 8)) (BitVec.ofNat 32 7) = _
    rw [WinMask.ofNat_eq_ofInt, WinMask.ofNat_eq_ofInt, WinMask.subi_ofInt, WinMask.addi_ofInt]
    congr 1
    push_cast
    omega
  rw [first_eq n hn, e, ctx_word _ (by omega) (by omega)]
  congr 1
  rw [Bool.eq_iff_iff]
  simp only [decide_eq_true_eq]
  unfold Ctx
  omega

theorem pay18_at (n : Nat) (hn : n < 44) :
    k0_pay18 (first (BitVec.ofNat 32 n)) rows8 (ix2 0 0) = BitVec.ofBool (decide (Ctx (n % 22 * 768 + 768))) := by
  pointwise [k0_pay18]
  have e : IntOp.addi (Scalar.addi (BitVec.ofInt 32 ((n % 22 * 768 : Nat) : Int)) 768#32) 0#32 = BitVec.ofInt 32 (((n % 22 * 768 : Nat) : Int) + 768) := by
    show IntOp.addi (IntOp.addi (BitVec.ofInt 32 ((n % 22 * 768 : Nat) : Int)) (BitVec.ofNat 32 768)) (BitVec.ofNat 32 0) = _
    rw [WinMask.ofNat_eq_ofInt, WinMask.ofNat_eq_ofInt, WinMask.addi_ofInt, WinMask.addi_ofInt]
    congr 1
  rw [first_eq n hn, e, ctx_word _ (by omega) (by omega)]
  congr 1
  rw [Bool.eq_iff_iff]
  simp only [decide_eq_true_eq]
  unfold Ctx
  omega

theorem hblk_at (n : Nat) (hn : n < 44) (r : Fin 768) (d : Fin 2048) :
    hblk (BitVec.ofNat 32 n) x0 x3 x4 x5 x6 x7 (ix2 r d)
      = x0 (ix2 r d) * scale (fun x => x0 (ix2 r x)) * x3 (ix2 0 d)
          * (1 + if Ctx (n % 22 * 768 + r.val) then x6 (ix2 0 d) else x4 (ix3 0 0 d))
        + if Ctx (n % 22 * 768 + r.val) then x7 (ix2 0 d) else x5 (ix3 0 0 d) := by
  unfold hblk scale
  pointwise [k0_pay9, k0_pay4, k0_pay6, k0_pay7, k0_pay8]
  rw [pay5_at n hn, WordCmp.select_decide, WordCmp.select_decide]

theorem before_at (n : Nat) (hn : n < 44) (h0 : n % 22 ≠ 0) (d : Fin 2048) :
    before (BitVec.ofNat 32 n) x1 x3 x4 x5 x6 x7 (ix2 0 d)
      = x1 (ix2 7 d) * scale (fun x => x1 (ix2 7 x)) * x3 (ix2 0 d)
          * (1 + if Ctx (n % 22 * 768 - 1) then x6 (ix2 0 d) else x4 (ix3 0 0 d))
        + if Ctx (n % 22 * 768 - 1) then x7 (ix2 0 d) else x5 (ix3 0 0 d) := by
  unfold before scale
  pointwise [k0_pay16, k0_pay10, k0_pay12, k0_pay13, k0_pay14, k0_pay15]
  rw [pay11_at n hn h0, WordCmp.select_decide, WordCmp.select_decide]

theorem after_at (n : Nat) (hn : n < 44) (d : Fin 2048) :
    after (BitVec.ofNat 32 n) x2 x3 x4 x5 x6 x7 (ix2 0 d)
      = x2 (ix2 0 d) * scale (fun x => x2 (ix2 0 x)) * x3 (ix2 0 d)
          * (1 + if Ctx (n % 22 * 768 + 768) then x6 (ix2 0 d) else x4 (ix3 0 0 d))
        + if Ctx (n % 22 * 768 + 768) then x7 (ix2 0 d) else x5 (ix3 0 0 d) := by
  unfold after scale
  pointwise [k0_pay20, k0_pay17, k0_pay19]
  rw [pay18_at n hn, WordCmp.select_decide, WordCmp.select_decide]

theorem sblk_at (n : Nat) (hn : n < 44) (r : Fin 768) (d : Fin 2048) :
    sblk (BitVec.ofNat 32 n) x0 x1 x2 x3 x4 x5 x6 x7 (ix2 r d)
      = half * ((if HasPrev (n % 22 * 768 + r.val) then
            (if r.val = 0 then before (BitVec.ofNat 32 n) x1 x3 x4 x5 x6 x7 (ix2 0 d)
              else hblk (BitVec.ofNat 32 n) x0 x3 x4 x5 x6 x7 (ix2 ⟨(r.val + 768 - 1) % 768, by omega⟩ d)) else 0)
          + (if HasNext (n % 22 * 768 + r.val) then
            (if r.val = 767 then after (BitVec.ofNat 32 n) x2 x3 x4 x5 x6 x7 (ix2 0 d)
              else hblk (BitVec.ofNat 32 n) x0 x3 x4 x5 x6 x7 (ix2 ⟨(r.val + 768 - 767) % 768, by omega⟩ d)) else 0))
        - hblk (BitVec.ofNat 32 n) x0 x3 x4 x5 x6 x7 (ix2 r d) := by
  unfold sblk
  generalize hblk (BitVec.ofNat 32 n) x0 x3 x4 x5 x6 x7 = H
  generalize before (BitVec.ofNat 32 n) x1 x3 x4 x5 x6 x7 = P
  generalize after (BitVec.ofNat 32 n) x2 x3 x4 x5 x6 x7 = N
  pointwise [k0_pay24, k0_pay21, k0_pay22]
  rw [pay3_at n hn, three_word _ 0 256 16640 (by omega) (by omega) (by omega) (by omega),
    three_word _ 255 16639 16895 (by omega) (by omega) (by omega) (by omega),
    eq_word r.val 0 (by omega) (by omega), eq_word r.val 767 (by omega) (by omega)]
  simp only [WordCmp.select_decide]
  rfl

end Cert.ProjectionsIdeal.Proj

end

end
-- ==== Proof.Proj.Host.lean ====
module

public import proofs.«01_k».proof.Proof.Proj.Body
public import Idealize.ShloMosaic.Lib.Claim
public import Idealize.ShloMosaic.Lib.Tactic.CleanTypes
public import Idealize.ShloMosaic.Lib.StableHlo.ReadAt
public import Idealize.ShloMosaic.Lib.Routing.Ops

@[expose] public section

set_option maxRecDepth 16384
set_option maxHeartbeats 400000

/-! What the host hands to the launch, as the arguments' entries. -/

noncomputable section
open Idealize.ShloMosaic Idealize.ShloMosaic.TcCoe Idealize.SL.Sem
open Idealize.ShloMosaic.Pipeline (Dat)
namespace Cert.ProjectionsIdeal.Proj
open Cert.ProjectionsIdeal Cert.ProjectionsIdeal.Gen
open Cert.ProjSpec
variable (m : (ℓ : Loc nD τ sig) → Buf (Elt Ideal) ℓ)

/-- The arguments, as the memory holds them. -/
abbrev args (c : Dev nD) : In where
  x := m ((c : Thread nD τ).loc main_arg0)
  xc := m ((c : Thread nD τ).loc main_arg1)
  g := m ((c : Thread nD τ).loc main_arg2)
  sc := m ((c : Thread nD τ).loc main_arg3)
  sh := m ((c : Thread nD τ).loc main_arg4)
  csc := m ((c : Thread nD τ).loc main_arg5)
  csh := m ((c : Thread nD τ).loc main_arg6)
  mu := m ((c : Thread nD τ).loc main_arg7)
  wr := m ((c : Thread nD τ).loc main_arg8)
  wk := m ((c : Thread nD τ).loc main_arg9)
  wv := m ((c : Thread nD τ).loc main_arg10)
  w1 := m ((c : Thread nD τ).loc main_arg11)
  a1 := m ((c : Thread nD τ).loc main_arg12)
  g1 := m ((c : Thread nD τ).loc main_arg13)

variable (c : Dev nD)

/-- The padding's zero. -/
theorem sitofp_zero : FloatOps.sitofp (F := Ideal) FTy.f32 0#32 = (0 : EReal) := by
  show (((0#32 : BitVec 32).toInt : ℝ) : EReal) = 0
  simp

/-- The mix each row of the mixes' weights is for. -/
def perm (r : Fin 6) : Fin 6 := ⟨(lit0 r).toNat % 6, Nat.mod_lt _ (by decide)⟩

/-- The two directions' weights side by side, -/
theorem two (w : FVec Ideal ⟨3, ![2, 2048, 96]⟩ .f32) (d : Fin 2048) (k k' : Nat) (e : k = k') (hk : k < 192) (h : k' / 96 < 2) (h' : k' % 96 < 96) :
    (if h : k < 96 then w (ix3 0 d ⟨k, h⟩) else w (ix3 1 d ⟨k - 96, by omega⟩)) = w (ix3 ⟨k' / 96, h⟩ d ⟨k' % 96, h'⟩) := by
  subst e
  split_ifs with h1
  · have e1 : k / 96 = 0 := by omega
    have e2 : k % 96 = k := by omega
    exact congrArg w (congrArg₂ (fun (x : Fin 2) (y : Fin 96) => ix3 x d y) (Fin.ext e1.symm) (Fin.ext e2.symm))
  · have e1 : k / 96 = 1 := by omega
    have e2 : k % 96 = k - 96 := by omega
    exact congrArg w (congrArg₂ (fun (x : Fin 2) (y : Fin 96) => ix3 x d y) (Fin.ext e1.symm) (Fin.ext e2.symm))

/-- and the weights' columns side by side. -/
theorem ladder (I : In) (z : EReal) (hz : z = 0) (d : Fin 2048) (e : Fin 7680) :
    (if h : e.val < 2048 then I.wr (ix2 d ⟨e.val, h⟩)
    else if h : e.val - 2048 < 2048 then I.wk (ix2 d ⟨e.val - 2048, h⟩)
    else if h : e.val - 2048 - 2048 < 2048 then I.wv (ix2 d ⟨e.val - 2048 - 2048, h⟩)
    else if h : e.val - 2048 - 2048 - 2048 < 512 then
      (if h' : e.val - 2048 - 2048 - 2048 < 256 then I.g1 (ix2 d ⟨e.val - 2048 - 2048 - 2048, h'⟩) else z)
    else if h : e.val - 2048 - 2048 - 2048 - 512 < 512 then
      (if h' : e.val - 2048 - 2048 - 2048 - 512 < 192 then
        (if h'' : e.val - 2048 - 2048 - 2048 - 512 < 96 then I.w1 (ix3 0 d ⟨e.val - 2048 - 2048 - 2048 - 512, h''⟩)
          else I.w1 (ix3 1 d ⟨e.val - 2048 - 2048 - 2048 - 512 - 96, by omega⟩)) else z)
    else (if h' : e.val - 2048 - 2048 - 2048 - 512 - 512 < 192 then
        (if h'' : e.val - 2048 - 2048 - 2048 - 512 - 512 < 96 then I.a1 (ix3 0 d ⟨e.val - 2048 - 2048 - 2048 - 512 - 512, h''⟩)
          else I.a1 (ix3 1 d ⟨e.val - 2048 - 2048 - 2048 - 512 - 512 - 96, by omega⟩)) else z)) = weight I d e := by
  subst hz
  unfold weight
  refine dite_congr rfl (fun _ => rfl) fun h0 => ?_
  refine dite_congr (by rw [eq_iff_iff]; omega) (fun _ => rfl) fun h1 => ?_
  refine dite_congr (by rw [eq_iff_iff]; omega) (fun _ => congrArg I.wv (congrArg (ix2 d) (Fin.ext (by show e.val - 2048 - 2048 = e.val - 4096; omega)))) fun h2 => ?_
  refine dite_congr (by rw [eq_iff_iff]; omega) (fun _ => ?_) fun h3 => ?_
  · exact dite_congr (by rw [eq_iff_iff]; omega) (fun _ => congrArg I.g1 (congrArg (ix2 d) (Fin.ext (by show e.val - 2048 - 2048 - 2048 = e.val - 6144; omega)))) fun _ => rfl
  refine dite_congr (by rw [eq_iff_iff]; omega) (fun _ => ?_) fun h4 => ?_
  · exact dite_congr (by rw [eq_iff_iff]; omega) (fun _ => two I.w1 d _ _ (by omega) (by omega) _ _) fun _ => rfl
  · exact dite_congr (by rw [eq_iff_iff]; omega) (fun _ => two I.a1 d _ _ (by omega) (by omega) _ _) fun _ => rfl

/-- The rows of the three streams, batch by batch. -/
theorem cat_at (R : Fin 33792) (d : Fin 2048) :
    (show FVec Ideal S33792x2048 .f32 from V m c main_v1) (ix2 R d)
      = row (args m c) ⟨R.val / 16896, by omega⟩ ⟨R.val % 16896, by omega⟩ d := by
  unfold V
  simp only [hostOps0, hostOps0_1, hostOps0_2, hostOps0_3, hostOps0_4, hostOps0_5, hostOps0_6, hostOps0_7, hostOps0_8,
    List.flatten_cons, List.flatten_nil, List.append_nil, List.cons_append, List.nil_append]
  entry_read
  pointwise []
  rfl

/-- The mixes' weights. -/
theorem mu_at (r : Fin 6) (d : Fin 2048) :
    (show FVec Ideal S8x2048 .f32 from V m c main_v24) (ix2 ⟨r.val, by omega⟩ d) = (args m c).mu (ix2 (perm r) d) := by
  unfold V
  simp only [hostOps0, hostOps0_1, hostOps0_2, hostOps0_3, hostOps0_4, hostOps0_5, hostOps0_6, hostOps0_7, hostOps0_8,
    List.flatten_cons, List.flatten_nil, List.append_nil, List.cons_append, List.nil_append]
  entry_read
  simp -implicitDefEqProofs only [StableHlo.TRef.toBuf, StableHlo.TRef.ofBuf, cast_cast, cast_eq]
  clean_types
  pointwise []
  refine Routing.gather_row _ rfl rfl rfl rfl rfl _ _ r d (perm r) ?_ (by decide)
  pointwise []
  clear d
  revert r
  decide +kernel

/-- The weights. -/
theorem w_at (d : Fin 2048) (e : Fin 7680) :
    (show FVec Ideal S2048x7680 .bf16 from V m c main_v16) (ix2 d e) = weight (args m c) d e := by
  unfold V
  simp only [hostOps0, hostOps0_1, hostOps0_2, hostOps0_3, hostOps0_4, hostOps0_5, hostOps0_6, hostOps0_7, hostOps0_8,
    List.flatten_cons, List.flatten_nil, List.append_nil, List.cons_append, List.nil_append]
  repeat after_reads_at
  exact ladder (args m c) _ sitofp_zero d e

/-- The norm's gain, -/
theorem g_at (r : Fin 1) (d : Fin 2048) :
    (show FVec Ideal S1x2048 .f32 from V m c main_v25) (ix2 r d) = (args m c).g (ix1 d) := by
  unfold V
  simp only [hostOps0, hostOps0_1, hostOps0_2, hostOps0_3, hostOps0_4, hostOps0_5, hostOps0_6, hostOps0_7, hostOps0_8,
    List.flatten_cons, List.flatten_nil, List.append_nil, List.cons_append, List.nil_append]
  entry_read
  pointwise []

/-- the scale -/
theorem sc_at (b : Fin 2) (r : Fin 1) (d : Fin 2048) :
    (show FVec Ideal S2x1x2048 .f32 from V m c main_v26) (ix3 b r d) = (args m c).sc (ix2 b d) := by
  unfold V
  simp only [hostOps0, hostOps0_1, hostOps0_2, hostOps0_3, hostOps0_4, hostOps0_5, hostOps0_6, hostOps0_7, hostOps0_8,
    List.flatten_cons, List.flatten_nil, List.append_nil, List.cons_append, List.nil_append]
  entry_read
  pointwise []

/-- and the shift. -/
theorem sh_at (b : Fin 2) (r : Fin 1) (d : Fin 2048) :
    (show FVec Ideal S2x1x2048 .f32 from V m c main_v27) (ix3 b r d) = (args m c).sh (ix2 b d) := by
  unfold V
  simp only [hostOps0, hostOps0_1, hostOps0_2, hostOps0_3, hostOps0_4, hostOps0_5, hostOps0_6, hostOps0_7, hostOps0_8,
    List.flatten_cons, List.flatten_nil, List.append_nil, List.cons_append, List.nil_append]
  entry_read
  pointwise []

/-- The context's scale -/
theorem csc_at (r : Fin 1) (d : Fin 2048) :
    (show FVec Ideal S1x2048 .f32 from V m c main_arg5) (ix2 r d) = (args m c).csc (ix2 r d) := by
  unfold V
  simp only [hostOps0, hostOps0_1, hostOps0_2, hostOps0_3, hostOps0_4, hostOps0_5, hostOps0_6, hostOps0_7, hostOps0_8,
    List.flatten_cons, List.flatten_nil, List.append_nil, List.cons_append, List.nil_append]
  entry_read
  rfl

/-- and shift. -/
theorem csh_at (r : Fin 1) (d : Fin 2048) :
    (show FVec Ideal S1x2048 .f32 from V m c main_arg6) (ix2 r d) = (args m c).csh (ix2 r d) := by
  unfold V
  simp only [hostOps0, hostOps0_1, hostOps0_2, hostOps0_3, hostOps0_4, hostOps0_5, hostOps0_6, hostOps0_7, hostOps0_8,
    List.flatten_cons, List.flatten_nil, List.append_nil, List.cons_append, List.nil_append]
  entry_read
  rfl

end Cert.ProjectionsIdeal.Proj

end

end
-- ==== Proof.Proj.Block.lean ====
module

public import proofs.«01_k».proof.Proof.Proj.Host
public import Idealize.ShloMosaic.Lib.Claim

@[expose] public section

set_option maxRecDepth 16384

/-! The blocks a grid point reads, as the arguments' entries. -/

noncomputable section
open Idealize.ShloMosaic Idealize.ShloMosaic.TcCoe Idealize.SL.Sem
open Idealize.ShloMosaic.Pipeline (Dat)
namespace Cert.ProjectionsIdeal.Proj
open Cert.ProjectionsIdeal Cert.ProjectionsIdeal.Gen
open Cert.ProjSpec
variable (m : (ℓ : Loc nD τ sig) → Buf (Elt Ideal) ℓ)

/-- The blocks each grid point reads and writes. -/
theorem idx : ∀ t : Fin cfg0.N,
    win0_0.index t = ![t.val / 15, 0] ∧
    win0_1.index t = ![t.val / 15 * 96 - 1, 0] ∧
    win0_2.index t = ![min ((t.val / 15 + 1) * 96) 4223, 0] ∧
    win0_3.index t = ![0, 0] ∧
    win0_4.index t = ![t.val / 15 / 22, 0, 0] ∧
    win0_5.index t = ![t.val / 15 / 22, 0, 0] ∧
    win0_6.index t = ![0, 0] ∧
    win0_7.index t = ![0, 0] ∧
    win0_8.index t = ![0, 0] ∧
    win0_9.index t = ![0, t.val % 15] ∧
    win0_10.index t = ![t.val / 15, t.val % 15] ∧
    ((grid0.coords t) 0).val = t.val / 15 := (by decide +kernel : ∀ t : Fin grid0.N, _)

/-- The row of the mixes' weights each point's mix reads. -/
def lane (j : Nat) : Nat := if j < 12 then j / 4 else j - 9

theorem off : ∀ t : Fin cfg0.N, k0_off1 (grid0.coords t) = ![lane (t.val % 15), 0] := (by decide +kernel : ∀ t : Fin grid0.N, _)

variable (c : Dev nD) (t : Fin cfg0.N)

theorem tlt : t.val < 660 := lt_of_lt_of_eq t.isLt N_0

/-- The batch of the point's rows. -/
abbrev tb : Fin 2 := ⟨t.val / 15 / 22, by have := tlt t; omega⟩

/-- A row of the tile, -/
theorem blk0 (r : Fin 768) (d : Fin 2048) :
    (show FVec Ideal S768x2048 .f32 from iblk m c 0 t) (ix2 r d)
      = row (args m c) (tb t) ⟨t.val / 15 % 22 * 768 + r.val, by omega⟩ d := by
  have := tlt t
  have e : (show FVec Ideal S768x2048 .f32 from iblk m c 0 t) (ix2 r d) = (show FVec Ideal S33792x2048 .f32 from V m c main_v1) (ix2 ⟨t.val / 15 * 768 + r.val, by omega⟩ d) := by
    blk_point [iblk, idx t]
  rw [e, cat_at]
  refine congrFun (congrArg₂ (row (args m c)) (Fin.ext ?_) (Fin.ext ?_)) d
  · show (t.val / 15 * 768 + r.val) / 16896 = t.val / 15 / 22; omega
  · show (t.val / 15 * 768 + r.val) % 16896 = t.val / 15 % 22 * 768 + r.val; omega

/-- the row before it -/
theorem blk1 (d : Fin 2048) (h0 : t.val / 15 % 22 ≠ 0) :
    (show FVec Ideal S8x2048 .f32 from iblk m c 1 t) (ix2 7 d)
      = row (args m c) (tb t) ⟨t.val / 15 % 22 * 768 - 1, by omega⟩ d := by
  have := tlt t
  have e : (show FVec Ideal S8x2048 .f32 from iblk m c 1 t) (ix2 7 d) = (show FVec Ideal S33792x2048 .f32 from V m c main_v1) (ix2 ⟨(t.val / 15 * 96 - 1) * 8 + 7, by omega⟩ d) := by
    blk_point [iblk, idx t]
  rw [e, cat_at]
  refine congrFun (congrArg₂ (row (args m c)) (Fin.ext ?_) (Fin.ext ?_)) d
  · show ((t.val / 15 * 96 - 1) * 8 + 7) / 16896 = t.val / 15 / 22; omega
  · show ((t.val / 15 * 96 - 1) * 8 + 7) % 16896 = t.val / 15 % 22 * 768 - 1; omega

/-- and the row after it. -/
theorem blk2 (d : Fin 2048) (h0 : t.val / 15 % 22 ≠ 21) :
    (show FVec Ideal S8x2048 .f32 from iblk m c 2 t) (ix2 0 d)
      = row (args m c) (tb t) ⟨t.val / 15 % 22 * 768 + 768, by have := tlt t; omega⟩ d := by
  have := tlt t
  have e : (show FVec Ideal S8x2048 .f32 from iblk m c 2 t) (ix2 0 d) = (show FVec Ideal S33792x2048 .f32 from V m c main_v1) (ix2 ⟨min ((t.val / 15 + 1) * 96) 4223 * 8 + 0, by omega⟩ d) := by
    blk_point [iblk, idx t]
  rw [e, cat_at]
  refine congrFun (congrArg₂ (row (args m c)) (Fin.ext ?_) (Fin.ext ?_)) d
  · show (min ((t.val / 15 + 1) * 96) 4223 * 8 + 0) / 16896 = t.val / 15 / 22; omega
  · show (min ((t.val / 15 + 1) * 96) 4223 * 8 + 0) % 16896 = t.val / 15 % 22 * 768 + 768; omega

/-- The gain, -/
theorem blk3 (d : Fin 2048) :
    (show FVec Ideal S1x2048 .f32 from iblk m c 3 t) (ix2 0 d)
      = (args m c).g (ix1 d) := by
  have := tlt t
  have e : (show FVec Ideal S1x2048 .f32 from iblk m c 3 t) (ix2 0 d) = (show FVec Ideal S1x2048 .f32 from V m c main_v25) (ix2 0 d) := by
    blk_point [iblk, idx t]
  rw [e, g_at]

/-- the scale -/
theorem blk4 (d : Fin 2048) :
    (show FVec Ideal S1x1x2048 .f32 from iblk m c 4 t) (ix3 0 0 d)
      = (args m c).sc (ix2 (tb t) d) := by
  have := tlt t
  have e : (show FVec Ideal S1x1x2048 .f32 from iblk m c 4 t) (ix3 0 0 d) = (show FVec Ideal S2x1x2048 .f32 from V m c main_v26) (ix3 (tb t) 0 d) := by
    blk_point [iblk, idx t]
  rw [e, sc_at]

/-- and the shift, -/
theorem blk5 (d : Fin 2048) :
    (show FVec Ideal S1x1x2048 .f32 from iblk m c 5 t) (ix3 0 0 d)
      = (args m c).sh (ix2 (tb t) d) := by
  have := tlt t
  have e : (show FVec Ideal S1x1x2048 .f32 from iblk m c 5 t) (ix3 0 0 d) = (show FVec Ideal S2x1x2048 .f32 from V m c main_v27) (ix3 (tb t) 0 d) := by
    blk_point [iblk, idx t]
  rw [e, sh_at]

/-- the context's scale -/
theorem blk6 (d : Fin 2048) :
    (show FVec Ideal S1x2048 .f32 from iblk m c 6 t) (ix2 0 d)
      = (args m c).csc (ix2 0 d) := by
  have := tlt t
  have e : (show FVec Ideal S1x2048 .f32 from iblk m c 6 t) (ix2 0 d) = (show FVec Ideal S1x2048 .f32 from V m c main_arg5) (ix2 0 d) := by
    blk_point [iblk, idx t]
  rw [e, csc_at]

/-- and shift. -/
theorem blk7 (d : Fin 2048) :
    (show FVec Ideal S1x2048 .f32 from iblk m c 7 t) (ix2 0 d)
      = (args m c).csh (ix2 0 d) := by
  have := tlt t
  have e : (show FVec Ideal S1x2048 .f32 from iblk m c 7 t) (ix2 0 d) = (show FVec Ideal S1x2048 .f32 from V m c main_arg6) (ix2 0 d) := by
    blk_point [iblk, idx t]
  rw [e, csh_at]

/-- The weights' columns. -/
theorem blk9 (d : Fin 2048) (e : Fin 512) :
    (show FVec Ideal S2048x512 .bf16 from iblk m c 9 t) (ix2 d e)
      = weight (args m c) d ⟨t.val % 15 * 512 + e.val, by omega⟩ := by
  have := tlt t
  have e : (show FVec Ideal S2048x512 .bf16 from iblk m c 9 t) (ix2 d e) = (show FVec Ideal S2048x7680 .bf16 from V m c main_v16) (ix2 d ⟨t.val % 15 * 512 + e.val, by omega⟩) := by
    blk_point [iblk, idx t]
  rw [e, w_at]

theorem lane_lt (j : Nat) (h : j < 15) : lane j < 6 := by
  unfold lane
  split_ifs <;> omega

theorem lane_mix : ∀ j : Fin 15, perm ⟨lane j.val, lane_lt j.val j.isLt⟩ = mixOf j.val := by decide +kernel

/-- The row of the mixes' weights. -/
theorem blk8 (r : Fin 6) (d : Fin 2048) :
    (show FVec Ideal S8x2048 .f32 from iblk m c 8 t) (ix2 ⟨r.val, by omega⟩ d) = (args m c).mu (ix2 (perm r) d) := by
  have e : (show FVec Ideal S8x2048 .f32 from iblk m c 8 t) (ix2 ⟨r.val, by omega⟩ d)
      = (show FVec Ideal S8x2048 .f32 from V m c main_v24) (ix2 ⟨r.val, by omega⟩ d) := by
    blk_point [iblk, idx t]
  rw [e, mu_at]

theorem ld8 (h : ∀ a, k0_off1 (grid0.coords t) a + (![1, 2048] : Fin 2 → Nat) a ≤ S8x2048.size a) (d : Fin 2048) :
    (show FVec Ideal S1x2048 .f32 from View.ld (iblk m c 8 t) (Rect.unit (s := S8x2048) (k0_off1 (grid0.coords t)) ![1, 2048] h)) (ix2 0 d)
      = (args m c).mu (ix2 (mixOf (t.val % 15)) d) := by
  have hl := lane_mix ⟨t.val % 15, by omega⟩
  rw [← hl, ← blk8 m c t ⟨lane (t.val % 15), lane_lt _ (by omega)⟩ d]
  unfold View.ld
  refine congrArg (show FVec Ideal S8x2048 .f32 from iblk m c 8 t) (funext fun a => Fin.ext ?_)
  show k0_off1 (grid0.coords t) a + 1 * (ix2 (0 : Fin 1) d a).val = _
  rw [off t]
  match a with
  | ⟨0, _⟩ => rfl
  | ⟨1, _⟩ => show 0 + 1 * d.val = d.val; omega

end Cert.ProjectionsIdeal.Proj

end

end
-- ==== Proof.Proj.Array.lean ====
module

public import proofs.«01_k».proof.Proof.Proj.Block
public import Idealize.ShloMosaic.Lib.Pipeline.ReadBack
public import Idealize.ShloMosaic.Lib.Claim

@[expose] public section

set_option maxRecDepth 16384

/-! The result of the launch, from the blocks its grid points write. -/

noncomputable section
open Idealize.ShloMosaic Idealize.ShloMosaic.TcCoe Idealize.SL.Sem
open Idealize.ShloMosaic.Pipeline (Dat)
namespace Cert.ProjectionsIdeal.Proj
open Cert.ProjectionsIdeal Cert.ProjectionsIdeal.Gen
open Cert.ProjSpec

/-- The modulated norm of a row, in its own terms. -/
theorem hrow (I : In) (b : Fin 2) (T : Fin 16896) (d : Fin 2048) (p : Nat) (f : Fin 2048 → EReal) (G S CS SH CSH : EReal)
    (hp : p = T.val) (hf : ∀ x, f x = row I b T x) (hg : G = I.g (ix1 d)) (hs : S = I.sc (ix2 b d)) (hcs : CS = I.csc (ix2 0 d))
    (hsh : SH = I.sh (ix2 b d)) (hcsh : CSH = I.csh (ix2 0 d)) :
    f d * scale f * G * (1 + if Ctx p then CS else S) + (if Ctx p then CSH else SH) = hAt I b T d := by
  obtain rfl : f = row I b T := funext hf
  subst hp hg hs hcs hsh hcsh
  rfl

/-- The centred shift of a row of a tile, in the tile's terms. -/
theorem srow (I : In) (b : Fin 2) (q : Nat) (hq : q < 22) (r : Fin 768) (d : Fin 2048) (H : Fin 768 → EReal) (B A : EReal)
    (hh : ∀ r' : Fin 768, H r' = hAt I b ⟨q * 768 + r'.val, by omega⟩ d)
    (hb : q ≠ 0 → B = hAt I b ⟨q * 768 - 1, by omega⟩ d)
    (ha : ∀ h : q ≠ 21, A = hAt I b ⟨q * 768 + 768, by omega⟩ d) :
    half * ((if HasPrev (q * 768 + r.val) then (if r.val = 0 then B else H ⟨(r.val + 768 - 1) % 768, by omega⟩) else 0)
        + (if HasNext (q * 768 + r.val) then (if r.val = 767 then A else H ⟨(r.val + 768 - 767) % 768, by omega⟩) else 0)) - H r
      = shiftAt I b ⟨q * 768 + r.val, by omega⟩ d := by
  have hr := r.isLt
  have e1 : (if HasPrev (q * 768 + r.val) then (if r.val = 0 then B else H ⟨(r.val + 768 - 1) % 768, by omega⟩) else 0)
      = prevAt I b ⟨q * 768 + r.val, by omega⟩ d := by
    unfold prevAt
    by_cases hP : HasPrev (q * 768 + r.val)
    · rw [if_pos hP, if_pos hP]
      by_cases h0 : r.val = 0
      · rw [if_pos h0, hb (by have := hP.1; omega)]
        exact congrArg (fun T => hAt I b T d) (Fin.ext (by show q * 768 - 1 = q * 768 + r.val - 1; omega))
      · rw [if_neg h0, hh]
        exact congrArg (fun T => hAt I b T d) (Fin.ext (by show q * 768 + (r.val + 768 - 1) % 768 = q * 768 + r.val - 1; omega))
    · rw [if_neg hP, if_neg hP]
  have e2 : (if HasNext (q * 768 + r.val) then (if r.val = 767 then A else H ⟨(r.val + 768 - 767) % 768, by omega⟩) else 0)
      = nextAt I b ⟨q * 768 + r.val, by omega⟩ d := by
    unfold nextAt
    by_cases hP : HasNext (q * 768 + r.val)
    · rw [if_pos hP, dif_pos hP]
      by_cases h0 : r.val = 767
      · rw [if_pos h0, ha (by have := hP.2.2; omega)]
        exact congrArg (fun T => hAt I b T d) (Fin.ext (by show q * 768 + 768 = q * 768 + r.val + 1; omega))
      · rw [if_neg h0, hh]
        exact congrArg (fun T => hAt I b T d) (Fin.ext (by show q * 768 + (r.val + 768 - 767) % 768 = q * 768 + r.val + 1; omega))
    · rw [if_neg hP, dif_neg hP]
  unfold shiftAt
  rw [e1, e2, hh r]

variable (m : (ℓ : Loc nD τ sig) → Buf (Elt Ideal) ℓ) (c : Dev nD) (t : Fin cfg0.N)

/-- The position of a row of the point's tile. -/
abbrev pos (r : Fin 768) : Fin 16896 := ⟨t.val / 15 % 22 * 768 + r.val, by omega⟩

/-- The modulated norm of the point's rows, -/
theorem h_blk (n : Nat) (hn : n = t.val / 15) (r : Fin 768) (d : Fin 2048) :
    hblk (BitVec.ofNat 32 n) (iblk m c 0 t) (iblk m c 3 t) (iblk m c 4 t) (iblk m c 5 t) (iblk m c 6 t) (iblk m c 7 t) (ix2 r d)
      = hAt (args m c) (tb t) (pos t r) d := by
  have := tlt t
  subst hn
  refine (hblk_at _ _ _ _ _ _ _ (by omega) r d).trans ?_
  exact hrow _ _ (pos t r) d _ (fun x => (show FVec Ideal S768x2048 .f32 from iblk m c 0 t) (ix2 r x)) _ _ _ _ _ rfl (blk0 m c t r) (blk3 m c t d) (blk4 m c t d)
    (blk6 m c t d) (blk5 m c t d) (blk7 m c t d)

/-- and their centred shift. -/
theorem s_blk (n : Nat) (hn : n = t.val / 15) (r : Fin 768) (d : Fin 2048) :
    sblk (BitVec.ofNat 32 n) (iblk m c 0 t) (iblk m c 1 t) (iblk m c 2 t) (iblk m c 3 t) (iblk m c 4 t) (iblk m c 5 t) (iblk m c 6 t) (iblk m c 7 t) (ix2 r d)
      = shiftAt (args m c) (tb t) (pos t r) d := by
  have := tlt t
  refine (sblk_at _ _ _ _ _ _ _ _ n (by omega) r d).trans ?_
  subst hn
  refine srow (args m c) (tb t) (t.val / 15 % 22) (by omega) r d
    (fun r' => hblk (BitVec.ofNat 32 (t.val / 15)) (iblk m c 0 t) (iblk m c 3 t) (iblk m c 4 t) (iblk m c 5 t) (iblk m c 6 t) (iblk m c 7 t) (ix2 r' d))
    _ _ (fun r' => h_blk m c t _ rfl r' d) (fun h0 => ?_) (fun h0 => ?_)
  · refine (before_at _ _ _ _ _ _ _ (by omega) h0 d).trans ?_
    exact hrow _ _ ⟨t.val / 15 % 22 * 768 - 1, by omega⟩ d _ (fun x => (show FVec Ideal S8x2048 .f32 from iblk m c 1 t) (ix2 7 x)) _ _ _ _ _ rfl
      (fun x => blk1 m c t x h0) (blk3 m c t d) (blk4 m c t d) (blk6 m c t d) (blk5 m c t d) (blk7 m c t d)
  · refine (after_at _ _ _ _ _ _ _ (by omega) d).trans ?_
    exact hrow _ _ ⟨t.val / 15 % 22 * 768 + 768, by omega⟩ d _ (fun x => (show FVec Ideal S8x2048 .f32 from iblk m c 2 t) (ix2 0 x)) _ _ _ _ _ rfl
      (fun x => blk2 m c t x h0) (blk3 m c t d) (blk4 m c t d) (blk6 m c t d) (blk5 m c t d) (blk7 m c t d)

/-- The points that mix: those where a mix's tiles begin. -/
abbrev Mix : Prop := t.val % 15 = 0 ∨ t.val % 15 = 4 ∨ t.val % 15 = 8 ∨ t.val % 15 = 12 ∨ t.val % 15 = 13 ∨ t.val % 15 = 14

theorem A1 (h0 : t.val % 15 = 0) (h1 : Mix t) (r : Fin 768) (d : Fin 2048) :
    (outsAt0 m c t.val t.isLt).2.1 (ix2 r d) = hAt (args m c) (tb t) (pos t r) d := by
  rw [outsAt0_A m c t h0 h1]
  frame_out
  refine (pay23_eq _ r d).trans ?_
  exact h_blk m c t _ (idx t).2.2.2.2.2.2.2.2.2.2.2 r d

theorem A2 (h0 : t.val % 15 = 0) (h1 : Mix t) (r : Fin 768) (d : Fin 2048) :
    (outsAt0 m c t.val t.isLt).2.2.1 (ix2 r d) = shiftAt (args m c) (tb t) (pos t r) d := by
  rw [outsAt0_A m c t h0 h1]
  frame_out
  exact s_blk m c t _ (idx t).2.2.2.2.2.2.2.2.2.2.2 r d

theorem A3 (h0 : t.val % 15 = 0) (h1 : Mix t) (r : Fin 768) (d : Fin 2048) :
    (outsAt0 m c t.val t.isLt).2.2.2 (ix2 r d) = mixAt (args m c) (tb t) (pos t r) (mixOf (t.val % 15)) d := by
  rw [outsAt0_A m c t h0 h1]
  frame_out
  refine (pay1_at _ _ _ r d).trans ?_
  exact congrArg₂ (· + ·) ((pay23_eq _ r d).trans (h_blk m c t _ (idx t).2.2.2.2.2.2.2.2.2.2.2 r d))
    (congrArg₂ (· * ·) (s_blk m c t _ (idx t).2.2.2.2.2.2.2.2.2.2.2 r d) (ld8 m c t _ d))

/-- What a mix's columns hold, once the mix is known. -/
theorem cols (M : FVec Ideal S768x2048 .bf16) (r : Fin 768) (e : Fin 512)
    (hM : ∀ x, M (ix2 r x) = mixAt (args m c) (tb t) (pos t r) (mixOf (t.val % 15)) x) :
    k0_pay2 (F := Ideal) M (iblk m c 9 t) (ix2 r e)
      = ∑ x : Fin 2048, mixAt (args m c) (tb t) (pos t r) (mixOf (t.val % 15)) x * weight (args m c) x ⟨t.val % 15 * 512 + e.val, by omega⟩ :=
  (pay2_at _ _ r e).trans (Finset.sum_congr rfl fun x _ => congrArg₂ (· * ·) (hM x) (blk9 m c t x e))

/-- The columns the point writes. -/
abbrev Out : Prop := ∀ (r : Fin 768) (e : Fin 512), (outsAt0 m c t.val t.isLt).1 (ix2 r e)
  = ∑ x : Fin 2048, mixAt (args m c) (tb t) (pos t r) (mixOf (t.val % 15)) x * weight (args m c) x ⟨t.val % 15 * 512 + e.val, by omega⟩

/-- What the point leaves for the next. -/
abbrev Kept : Prop := ∀ (r : Fin 768) (d : Fin 2048),
  (outsAt0 m c t.val t.isLt).2.1 (ix2 r d) = hAt (args m c) (tb t) (pos t r) d
  ∧ (outsAt0 m c t.val t.isLt).2.2.1 (ix2 r d) = shiftAt (args m c) (tb t) (pos t r) d
  ∧ (outsAt0 m c t.val t.isLt).2.2.2 (ix2 r d) = mixAt (args m c) (tb t) (pos t r) (mixOf (t.val % 15)) d

theorem A0 (h0 : t.val % 15 = 0) (h1 : Mix t) : Out m c t := by
  intro r e
  rw [outsAt0_A m c t h0 h1]
  frame_out
  refine cols m c t _ r e fun d => ?_
  refine (pay1_at _ _ _ r d).trans ?_
  exact congrArg₂ (· + ·) ((pay23_eq _ r d).trans (h_blk m c t _ (idx t).2.2.2.2.2.2.2.2.2.2.2 r d))
    (congrArg₂ (· * ·) (s_blk m c t _ (idx t).2.2.2.2.2.2.2.2.2.2.2 r d) (ld8 m c t _ d))

theorem C0 (h0 : ¬ t.val % 15 = 0) (h1 : Mix t)
    (k1 : ∀ (r : Fin 768) (d : Fin 2048), (outsAt0 m c (t.val - 1) (by omega)).2.1 (ix2 r d) = hAt (args m c) (tb t) (pos t r) d)
    (k2 : ∀ (r : Fin 768) (d : Fin 2048), (outsAt0 m c (t.val - 1) (by omega)).2.2.1 (ix2 r d) = shiftAt (args m c) (tb t) (pos t r) d) : Out m c t := by
  intro r e
  rw [outsAt0_C m c t h0 h1]
  frame_out
  refine cols m c t _ r e fun d => ?_
  refine (pay1_at _ _ _ r d).trans ?_
  rw [read_unread_whole, read_unread_whole]
  exact congrArg₂ (· + ·) (k1 r d) (congrArg₂ (· * ·) (k2 r d) (ld8 m c t _ d))

theorem C1 (h0 : ¬ t.val % 15 = 0) (h1 : Mix t) : (outsAt0 m c t.val t.isLt).2.1 = (outsAt0 m c (t.val - 1) (by omega)).2.1 := by
  rw [outsAt0_C m c t h0 h1]
  frame_out
  unfold sout0_C_0
  rfl

theorem C2 (h0 : ¬ t.val % 15 = 0) (h1 : Mix t) : (outsAt0 m c t.val t.isLt).2.2.1 = (outsAt0 m c (t.val - 1) (by omega)).2.2.1 := by
  rw [outsAt0_C m c t h0 h1]
  frame_out
  unfold sout0_C_1
  rfl

theorem C3 (h0 : ¬ t.val % 15 = 0) (h1 : Mix t)
    (k1 : ∀ (r : Fin 768) (d : Fin 2048), (outsAt0 m c (t.val - 1) (by omega)).2.1 (ix2 r d) = hAt (args m c) (tb t) (pos t r) d)
    (k2 : ∀ (r : Fin 768) (d : Fin 2048), (outsAt0 m c (t.val - 1) (by omega)).2.2.1 (ix2 r d) = shiftAt (args m c) (tb t) (pos t r) d)
    (r : Fin 768) (d : Fin 2048) :
    (outsAt0 m c t.val t.isLt).2.2.2 (ix2 r d) = mixAt (args m c) (tb t) (pos t r) (mixOf (t.val % 15)) d := by
  rw [outsAt0_C m c t h0 h1]
  frame_out
  refine (pay1_at _ _ _ r d).trans ?_
  rw [read_unread_whole, read_unread_whole]
  exact congrArg₂ (· + ·) (k1 r d) (congrArg₂ (· * ·) (k2 r d) (ld8 m c t _ d))

theorem B0 (h0 : ¬ t.val % 15 = 0) (h1 : ¬ Mix t)
    (k3 : ∀ (r : Fin 768) (d : Fin 2048), (outsAt0 m c (t.val - 1) (by omega)).2.2.2 (ix2 r d) = mixAt (args m c) (tb t) (pos t r) (mixOf (t.val % 15)) d) :
    Out m c t := by
  intro r e
  rw [outsAt0_B m c t h0 h1]
  frame_out
  refine cols m c t _ r e fun d => ?_
  rw [read_unread_whole]
  exact k3 r d

theorem B1 (h0 : ¬ t.val % 15 = 0) (h1 : ¬ Mix t) : (outsAt0 m c t.val t.isLt).2.1 = (outsAt0 m c (t.val - 1) (by omega)).2.1 := by
  rw [outsAt0_B m c t h0 h1]
  frame_out
  unfold sout0_B_0
  rfl

theorem B2 (h0 : ¬ t.val % 15 = 0) (h1 : ¬ Mix t) : (outsAt0 m c t.val t.isLt).2.2.1 = (outsAt0 m c (t.val - 1) (by omega)).2.2.1 := by
  rw [outsAt0_B m c t h0 h1]
  frame_out
  unfold sout0_B_1
  rfl

theorem B3 (h0 : ¬ t.val % 15 = 0) (h1 : ¬ Mix t) : (outsAt0 m c t.val t.isLt).2.2.2 = (outsAt0 m c (t.val - 1) (by omega)).2.2.2 := by
  rw [outsAt0_B m c t h0 h1]
  frame_out
  unfold sout0_B_2
  rfl

/-- The point before holds the same rows, -/
theorem same (h0 : ¬ t.val % 15 = 0) (h : t.val - 1 < cfg0.N) (r : Fin 768) :
    tb (⟨t.val - 1, h⟩ : Fin cfg0.N) = tb t ∧ pos (⟨t.val - 1, h⟩ : Fin cfg0.N) r = pos t r := by
  have e : (t.val - 1) / 15 = t.val / 15 := by omega
  exact ⟨Fin.ext (by show (t.val - 1) / 15 / 22 = t.val / 15 / 22; rw [e]),
    Fin.ext (by show (t.val - 1) / 15 % 22 * 768 + r.val = t.val / 15 % 22 * 768 + r.val; rw [e])⟩

/-- and the same mix where none begins. -/
theorem same_mix : ∀ j : Fin 15, ¬ (j.val = 0 ∨ j.val = 4 ∨ j.val = 8 ∨ j.val = 12 ∨ j.val = 13 ∨ j.val = 14) → mixOf (j.val - 1) = mixOf j.val := by
  decide +kernel

theorem step (h0 : ¬ t.val % 15 = 0) (h : t.val - 1 < cfg0.N) (k : Kept m c ⟨t.val - 1, h⟩) : Kept m c t ∧ Out m c t := by
  have k1 : ∀ (r : Fin 768) (d : Fin 2048), (outsAt0 m c (t.val - 1) (by omega)).2.1 (ix2 r d) = hAt (args m c) (tb t) (pos t r) d := fun r d => by
    rw [← (same t h0 h r).1, ← (same t h0 h r).2]
    exact (k r d).1
  have k2 : ∀ (r : Fin 768) (d : Fin 2048), (outsAt0 m c (t.val - 1) (by omega)).2.2.1 (ix2 r d) = shiftAt (args m c) (tb t) (pos t r) d := fun r d => by
    rw [← (same t h0 h r).1, ← (same t h0 h r).2]
    exact (k r d).2.1
  by_cases h1 : Mix t
  · refine ⟨fun r d => ⟨?_, ?_, C3 m c t h0 h1 k1 k2 r d⟩, C0 m c t h0 h1 k1 k2⟩
    · rw [C1 m c t h0 h1]; exact k1 r d
    · rw [C2 m c t h0 h1]; exact k2 r d
  · have k3 : ∀ (r : Fin 768) (d : Fin 2048), (outsAt0 m c (t.val - 1) (by omega)).2.2.2 (ix2 r d) = mixAt (args m c) (tb t) (pos t r) (mixOf (t.val % 15)) d := fun r d => by
      have e := same_mix ⟨t.val % 15, by omega⟩ h1
      have e' : (t.val - 1) % 15 = t.val % 15 - 1 := by omega
      rw [← (same t h0 h r).1, ← (same t h0 h r).2, ← e]
      show _ = mixAt (args m c) _ _ (mixOf (t.val % 15 - 1)) d
      rw [← e']
      exact (k r d).2.2
    refine ⟨fun r d => ⟨?_, ?_, ?_⟩, B0 m c t h0 h1 k3⟩
    · rw [B1 m c t h0 h1]; exact k1 r d
    · rw [B2 m c t h0 h1]; exact k2 r d
    · rw [B3 m c t h0 h1]; exact k3 r d

/-- Every point keeps its rows, their shift and its mix, and writes the mix's columns. -/
theorem all : ∀ (n : Nat) (h : n < cfg0.N), Kept m c ⟨n, h⟩ ∧ Out m c ⟨n, h⟩ := by
  intro n
  induction n with
  | zero => exact fun h => ⟨fun r d => ⟨A1 m c ⟨0, h⟩ rfl (Or.inl rfl) r d, A2 m c ⟨0, h⟩ rfl (Or.inl rfl) r d, A3 m c ⟨0, h⟩ rfl (Or.inl rfl) r d⟩,
      A0 m c ⟨0, h⟩ rfl (Or.inl rfl)⟩
  | succ n ih =>
    intro h
    by_cases h0 : (n + 1) % 15 = 0
    · exact ⟨fun r d => ⟨A1 m c ⟨n + 1, h⟩ h0 (Or.inl h0) r d, A2 m c ⟨n + 1, h⟩ h0 (Or.inl h0) r d, A3 m c ⟨n + 1, h⟩ h0 (Or.inl h0) r d⟩,
        A0 m c ⟨n + 1, h⟩ h0 (Or.inl h0)⟩
    · exact step m c ⟨n + 1, h⟩ h0 (Nat.lt_of_succ_lt h) (ih (Nat.lt_of_succ_lt h)).1

/-- An entry of the result, by its batch, position, mix and column. -/
theorem out_of (I : In) (i : (⟨2, ![33792, 7680]⟩ : Shape).Idx) (b : Fin 2) (p : Fin 16896) (n : Fin 6) (e : Fin 7680)
    (hb : (i 0).val / 16896 = b.val) (hp : (i 0).val % 16896 = p.val) (hn : mixOf ((i 1).val / 512) = n) (he : (i 1).val = e.val) :
    out I i = ∑ d : Fin 2048, mixAt I b p n d * weight I d e := by
  obtain rfl : (i 1) = e := Fin.ext he
  obtain rfl := hn
  obtain ⟨b, hbl⟩ := b
  obtain ⟨p, hpl⟩ := p
  obtain rfl : (i 0).val / 16896 = b := hb
  obtain rfl : (i 0).val % 16896 = p := hp
  rfl

theorem point (y : S768x512.Idx) : (outsAt0 m c t.val t.isLt).1 y = out (args m c) (((cfg0.win 10).blk t).view.emb y) := by
  obtain ⟨r, e, rfl⟩ : ∃ (r : Fin 768) (e : Fin 512), y = ix2 r e := ⟨y 0, y 1, by funext a; match a with | 0 => rfl | 1 => rfl⟩
  have ht := tlt t
  have e0 : (((cfg0.win 10).blk t).view.emb (ix2 r e) 0).val = t.val / 15 * 768 + r.val := by blk_simp [idx t]
  have e1 : (((cfg0.win 10).blk t).view.emb (ix2 r e) 1).val = t.val % 15 * 512 + e.val := by blk_simp [idx t]
  refine ((all m c t.val t.isLt).2 r e).trans (out_of (args m c) _ _ _ _ _ ?_ ?_ ?_ ?_).symm
  · refine (congrArg (· / 16896) e0).trans ?_
    show (t.val / 15 * 768 + r.val) / 16896 = t.val / 15 / 22
    omega
  · refine (congrArg (· % 16896) e0).trans ?_
    show (t.val / 15 * 768 + r.val) % 16896 = t.val / 15 % 22 * 768 + r.val
    omega
  · refine congrArg mixOf ((congrArg (· / 512) e1).trans ?_)
    show (t.val % 15 * 512 + e.val) / 512 = t.val % 15
    omega
  · exact e1

/-- What the launch writes is the result. -/
theorem final : (dats m 0 c).arrAt 10 cfg0.N = out (args m c) := by
  refine (dats m 0 c).arrAt_eq_of_covers 10 _ (by decide +kernel) fun t _ y => ?_
  blk_simp
  rw [after0_10]
  exact point m c t y

end Cert.ProjectionsIdeal.Proj

end

end
-- ==== Proof.Proj.Ref.lean ====
module

public import proofs.«01_k».proof.Proof.Gen.ProjectionsRefIdeal.Read
public import proofs.«01_k».proof.Proof.Proj.Spec
public import Idealize.ShloMosaic.Lib.Pipeline.ValueKit
public import Idealize.ShloMosaic.Lib.Pointwise
public import Idealize.ShloMosaic.Lib.Claim

@[expose] public section

set_option maxRecDepth 16384

/-! The reference's result, operation by operation: every entry is `Proj.Spec`'s. -/

noncomputable section
open Idealize.ShloMosaic Idealize.ShloMosaic.TcCoe Idealize.SL.Sem
namespace Cert.ProjectionsRefIdeal.Proj
open Cert.ProjectionsRefIdeal Cert.ProjectionsRefIdeal.Gen Cert.ProjectionsRefIdeal.Read
open Cert.ProjSpec
variable (I : In)

theorem sitofp_zero : (FloatOps.sitofp (F := Ideal) FTy.f32 0#32 : EReal) = 0 := by
  show (((0#32 : BitVec 32).toInt : ℝ) : EReal) = 0
  simp

/-- The modulated norm of the sequence and of the context. -/
theorem norm_seq (b : Fin 2) (t : Fin 16384) (d : Fin 2048) :
    val_main_v20 (F := Ideal) I.x I.g I.sc I.sh (ix3 b t d)
      = I.x (ix3 b t d) * scale (fun d => I.x (ix3 b t d)) * I.g (ix1 d) * (1 + I.sc (ix2 b d)) + I.sh (ix2 b d) := by
  pointwise [val_main_v20, val_main_v19, val_main_v18, val_main_v17, val_main_v16, val_main_v15, val_main_v14, val_main_cst_2, val_main_v13, val_main_v12, val_main_v11, val_main_v10,
    val_main_v9, val_main_v8, val_main_v7, val_main_v6, val_main_v5, val_main_cst_1, val_main_v4, val_main_v3, val_main_cst_0, val_main_v2, val_main_v1, val_main_cst, val_main_v0]
  rfl

theorem norm_ctx (b : Fin 2) (t : Fin 256) (d : Fin 2048) :
    val_main_v41 (F := Ideal) I.xc I.g I.csc I.csh (ix3 b t d)
      = I.xc (ix3 b t d) * scale (fun d => I.xc (ix3 b t d)) * I.g (ix1 d) * (1 + I.csc (ix2 0 d)) + I.csh (ix2 0 d) := by
  pointwise [val_main_v41, val_main_v40, val_main_v39, val_main_v38, val_main_v37, val_main_v36, val_main_v35, val_main_cst_6, val_main_v34, val_main_v33, val_main_v32, val_main_v31,
    val_main_v30, val_main_v29, val_main_v28, val_main_v27, val_main_v26, val_main_cst_5, val_main_v25, val_main_v24, val_main_cst_4, val_main_v23, val_main_v22, val_main_cst_3, val_main_v21]
  rfl

theorem row_lo (b : Fin 2) (t : Fin 256) : row I b ⟨t.val, by omega⟩ = fun d => I.xc (ix3 b t d) := by
  funext d
  unfold row
  rw [dif_pos t.isLt]

theorem row_mid (b : Fin 2) (t : Fin 16384) : row I b ⟨t.val + 256, by omega⟩ = fun d => I.x (ix3 b t d) := by
  funext d
  unfold row
  rw [dif_neg (by show ¬ t.val + 256 < 256; omega), dif_pos (by show t.val + 256 - 256 < 16384; omega)]
  rfl

theorem row_hi (b : Fin 2) (t : Fin 256) : row I b ⟨t.val + 16640, by omega⟩ = fun d => I.xc (ix3 b t d) := by
  funext d
  unfold row
  rw [dif_neg (by show ¬ t.val + 16640 < 256; omega), dif_neg (by show ¬ t.val + 16640 - 256 < 16384; omega)]
  exact congrArg (fun u : Fin 256 => I.xc (ix3 b u d)) (Fin.ext (by show t.val + 16640 - 256 - 16384 = t.val; omega))

theorem h_seq (b : Fin 2) (t : Fin 16384) (d : Fin 2048) :
    val_main_v20 (F := Ideal) I.x I.g I.sc I.sh (ix3 b t d) = hAt I b ⟨t.val + 256, by omega⟩ d := by
  have hc : ¬ Ctx (t.val + 256) := by unfold Ctx; omega
  rw [norm_seq]
  unfold hAt mscale mshift
  rw [row_mid, if_neg hc, if_neg hc]

theorem h_lo (b : Fin 2) (t : Fin 256) (d : Fin 2048) :
    val_main_v41 (F := Ideal) I.xc I.g I.csc I.csh (ix3 b t d) = hAt I b ⟨t.val, by omega⟩ d := by
  have hc : Ctx t.val := by unfold Ctx; omega
  rw [norm_ctx]
  unfold hAt mscale mshift
  rw [row_lo, if_pos hc, if_pos hc]

theorem h_hi (b : Fin 2) (t : Fin 256) (d : Fin 2048) :
    val_main_v41 (F := Ideal) I.xc I.g I.csc I.csh (ix3 b t d) = hAt I b ⟨t.val + 16640, by omega⟩ d := by
  have hc : Ctx (t.val + 16640) := by unfold Ctx; omega
  rw [norm_ctx]
  unfold hAt mscale mshift
  rw [row_hi, if_pos hc, if_pos hc]

/-- The rows of a stream, one more at each end. -/
theorem pad_seq (b : Fin 2) (u : Fin 16386) (d : Fin 2048) :
    val_main_v42 (F := Ideal) I.x I.g I.sc I.sh (ix3 b u d)
      = if h : 1 ≤ u.val ∧ u.val - 1 < 16384 then val_main_v20 (F := Ideal) I.x I.g I.sc I.sh (ix3 b ⟨u.val - 1, h.2⟩ d) else 0 := by
  unfold val_main_v42
  generalize val_main_v20 (F := Ideal) I.x I.g I.sc I.sh = y
  pointwise [val_main_call0_v0, val_main_c]
  exact dite_congr rfl (fun _ => rfl) (fun _ => sitofp_zero)

theorem pad_ctx (b : Fin 2) (u : Fin 258) (d : Fin 2048) :
    val_main_v49 (F := Ideal) I.xc I.g I.csc I.csh (ix3 b u d)
      = if h : 1 ≤ u.val ∧ u.val - 1 < 256 then val_main_v41 (F := Ideal) I.xc I.g I.csc I.csh (ix3 b ⟨u.val - 1, h.2⟩ d) else 0 := by
  unfold val_main_v49
  generalize val_main_v41 (F := Ideal) I.xc I.g I.csc I.csh = y
  pointwise [val_main_call1_v0, val_main_c_8]
  exact dite_congr rfl (fun _ => rfl) (fun _ => sitofp_zero)

theorem shift_seq (b : Fin 2) (t : Fin 16384) (d : Fin 2048) :
    val_main_v48 (F := Ideal) I.x I.g I.sc I.sh (ix3 b t d)
      = half * (val_main_v42 (F := Ideal) I.x I.g I.sc I.sh (ix3 b ⟨t.val, by omega⟩ d) + val_main_v42 (F := Ideal) I.x I.g I.sc I.sh (ix3 b ⟨2 + t.val, by omega⟩ d))
        - val_main_v20 (F := Ideal) I.x I.g I.sc I.sh (ix3 b t d) := by
  unfold val_main_v48 val_main_v47 val_main_v45 val_main_v44 val_main_v43
  generalize val_main_v42 (F := Ideal) I.x I.g I.sc I.sh = y
  generalize val_main_v20 (F := Ideal) I.x I.g I.sc I.sh = z
  pointwise [val_main_v46, val_main_cst_7]
  try rfl

theorem shift_ctx (b : Fin 2) (t : Fin 256) (d : Fin 2048) :
    val_main_v55 (F := Ideal) I.xc I.g I.csc I.csh (ix3 b t d)
      = half * (val_main_v49 (F := Ideal) I.xc I.g I.csc I.csh (ix3 b ⟨t.val, by omega⟩ d) + val_main_v49 (F := Ideal) I.xc I.g I.csc I.csh (ix3 b ⟨2 + t.val, by omega⟩ d))
        - val_main_v41 (F := Ideal) I.xc I.g I.csc I.csh (ix3 b t d) := by
  unfold val_main_v55 val_main_v54 val_main_v52 val_main_v51 val_main_v50
  generalize val_main_v49 (F := Ideal) I.xc I.g I.csc I.csh = y
  generalize val_main_v41 (F := Ideal) I.xc I.g I.csc I.csh = z
  pointwise [val_main_v53, val_main_cst_9]
  try rfl

/-- A position's shift from the three rows it reads. -/
theorem shift_of (b : Fin 2) (p : Fin 16896) (d : Fin 2048) (u v w : EReal) (hu : u = prevAt I b p d) (hv : v = nextAt I b p d) (hw : w = hAt I b p d) :
    half * (u + v) - w = shiftAt I b p d := by
  rw [hu, hv, hw]
  rfl

theorem prev_yes (b : Fin 2) (p q : Fin 16896) (d : Fin 2048) (hp : HasPrev p.val) (hq : q.val = p.val - 1) : hAt I b q d = prevAt I b p d := by
  unfold prevAt
  rw [if_pos hp]
  exact congrArg (fun q => hAt I b q d) (Fin.ext hq)

theorem prev_no (b : Fin 2) (p : Fin 16896) (d : Fin 2048) (hp : ¬ HasPrev p.val) : (0 : EReal) = prevAt I b p d := by
  unfold prevAt
  rw [if_neg hp]

theorem next_yes (b : Fin 2) (p q : Fin 16896) (d : Fin 2048) (hp : HasNext p.val) (hq : q.val = p.val + 1) : hAt I b q d = nextAt I b p d := by
  unfold nextAt
  rw [dif_pos hp]
  exact congrArg (fun q => hAt I b q d) (Fin.ext hq)

theorem next_no (b : Fin 2) (p : Fin 16896) (d : Fin 2048) (hp : ¬ HasNext p.val) : (0 : EReal) = nextAt I b p d := by
  unfold nextAt
  rw [dif_neg hp]

theorem s_seq (b : Fin 2) (t : Fin 16384) (d : Fin 2048) :
    val_main_v48 (F := Ideal) I.x I.g I.sc I.sh (ix3 b t d) = shiftAt I b ⟨t.val + 256, by omega⟩ d := by
  rw [shift_seq]
  refine shift_of I b _ d _ _ _ ?_ ?_ (h_seq I b t d)
  · rw [pad_seq]
    by_cases h : 1 ≤ t.val ∧ t.val - 1 < 16384
    · rw [dif_pos h, h_seq]
      exact prev_yes I b _ _ d (by unfold HasPrev; dsimp only; omega) (by dsimp only; omega)
    · rw [dif_neg h]
      exact prev_no I b _ d (by unfold HasPrev; dsimp only; omega)
  · rw [pad_seq]
    by_cases h : 1 ≤ 2 + t.val ∧ 2 + t.val - 1 < 16384
    · rw [dif_pos h, h_seq]
      exact next_yes I b _ _ d (by unfold HasNext; dsimp only; omega) (by dsimp only; omega)
    · rw [dif_neg h]
      exact next_no I b _ d (by unfold HasNext; dsimp only; omega)

theorem s_lo (b : Fin 2) (t : Fin 256) (d : Fin 2048) :
    val_main_v55 (F := Ideal) I.xc I.g I.csc I.csh (ix3 b t d) = shiftAt I b ⟨t.val, by omega⟩ d := by
  rw [shift_ctx]
  refine shift_of I b _ d _ _ _ ?_ ?_ (h_lo I b t d)
  · rw [pad_ctx]
    by_cases h : 1 ≤ t.val ∧ t.val - 1 < 256
    · rw [dif_pos h, h_lo]
      exact prev_yes I b _ _ d (by unfold HasPrev; dsimp only; omega) (by dsimp only)
    · rw [dif_neg h]
      exact prev_no I b _ d (by unfold HasPrev; dsimp only; omega)
  · rw [pad_ctx]
    by_cases h : 1 ≤ 2 + t.val ∧ 2 + t.val - 1 < 256
    · rw [dif_pos h, h_lo]
      exact next_yes I b _ _ d (by unfold HasNext; dsimp only; omega) (by dsimp only; omega)
    · rw [dif_neg h]
      exact next_no I b _ d (by unfold HasNext; dsimp only; omega)

theorem s_hi (b : Fin 2) (t : Fin 256) (d : Fin 2048) :
    val_main_v55 (F := Ideal) I.xc I.g I.csc I.csh (ix3 b t d) = shiftAt I b ⟨t.val + 16640, by omega⟩ d := by
  rw [shift_ctx]
  refine shift_of I b _ d _ _ _ ?_ ?_ (h_hi I b t d)
  · rw [pad_ctx]
    by_cases h : 1 ≤ t.val ∧ t.val - 1 < 256
    · rw [dif_pos h, h_hi]
      exact prev_yes I b _ _ d (by unfold HasPrev; dsimp only; omega) (by dsimp only; omega)
    · rw [dif_neg h]
      exact prev_no I b _ d (by unfold HasPrev; dsimp only; omega)
  · rw [pad_ctx]
    by_cases h : 1 ≤ 2 + t.val ∧ 2 + t.val - 1 < 256
    · rw [dif_pos h, h_hi]
      exact next_yes I b _ _ d (by unfold HasNext; dsimp only; omega) (by dsimp only; omega)
    · rw [dif_neg h]
      exact next_no I b _ d (by unfold HasNext; dsimp only; omega)

/-- A value along the joined streams, from its value along each. -/
theorem joined (f : Fin 16896 → EReal) (lo hi : Fin 256 → EReal) (mid : Fin 16384 → EReal) (t : Fin 16896)
    (hlo : ∀ u : Fin 256, lo u = f ⟨u.val, by omega⟩) (hmid : ∀ u : Fin 16384, mid u = f ⟨u.val + 256, by omega⟩)
    (hhi : ∀ u : Fin 256, hi u = f ⟨u.val + 16640, by omega⟩) :
    (if h : t.val < 256 then lo ⟨t.val, h⟩ else if h' : t.val - 256 < 16384 then mid ⟨t.val - 256, h'⟩ else hi ⟨t.val - 256 - 16384, by omega⟩) = f t := by
  split_ifs with h h'
  · exact hlo _
  · exact (hmid _).trans (congrArg f (Fin.ext (by dsimp only; omega)))
  · exact (hhi _).trans (congrArg f (Fin.ext (by dsimp only; omega)))

theorem h_at (b : Fin 2) (t : Fin 16896) (d : Fin 2048) :
    val_main_v56 (F := Ideal) I.x I.xc I.g I.sc I.sh I.csc I.csh (ix3 b t d) = hAt I b t d := by
  refine Eq.trans ?_ (joined (fun p => hAt I b p d) (fun u => val_main_v41 (F := Ideal) I.xc I.g I.csc I.csh (ix3 b u d))
    (fun u => val_main_v41 (F := Ideal) I.xc I.g I.csc I.csh (ix3 b u d)) (fun u => val_main_v20 (F := Ideal) I.x I.g I.sc I.sh (ix3 b u d)) t
    (fun u => h_lo I b u d) (fun u => h_seq I b u d) (fun u => h_hi I b u d))
  unfold val_main_v56
  generalize val_main_v41 (F := Ideal) I.xc I.g I.csc I.csh = y
  generalize val_main_v20 (F := Ideal) I.x I.g I.sc I.sh = z
  pointwise []

theorem s_at (b : Fin 2) (t : Fin 16896) (d : Fin 2048) :
    val_main_v57 (F := Ideal) I.x I.xc I.g I.sc I.sh I.csc I.csh (ix3 b t d) = shiftAt I b t d := by
  refine Eq.trans ?_ (joined (fun p => shiftAt I b p d) (fun u => val_main_v55 (F := Ideal) I.xc I.g I.csc I.csh (ix3 b u d))
    (fun u => val_main_v55 (F := Ideal) I.xc I.g I.csc I.csh (ix3 b u d)) (fun u => val_main_v48 (F := Ideal) I.x I.g I.sc I.sh (ix3 b u d)) t
    (fun u => s_lo I b u d) (fun u => s_seq I b u d) (fun u => s_hi I b u d))
  unfold val_main_v57
  generalize val_main_v55 (F := Ideal) I.xc I.g I.csc I.csh = y
  generalize val_main_v48 (F := Ideal) I.x I.g I.sc I.sh = z
  pointwise []

theorem m_at (b : Fin 2) (t : Fin 16896) (n : Fin 6) (d : Fin 2048) :
    val_main_v65 (F := Ideal) I.x I.xc I.g I.sc I.sh I.csc I.csh I.mu (ix4 b t n d) = mixAt I b t n d := by
  have e : val_main_v65 (F := Ideal) I.x I.xc I.g I.sc I.sh I.csc I.csh I.mu (ix4 b t n d)
      = val_main_v56 (F := Ideal) I.x I.xc I.g I.sc I.sh I.csc I.csh (ix3 b t d)
        + val_main_v57 (F := Ideal) I.x I.xc I.g I.sc I.sh I.csc I.csh (ix3 b t d) * I.mu (ix2 n d) := by
    unfold val_main_v65 val_main_v64 val_main_v63 val_main_v62 val_main_v61 val_main_v60 val_main_v59 val_main_v58
    generalize val_main_v56 (F := Ideal) I.x I.xc I.g I.sc I.sh I.csc I.csh = y
    generalize val_main_v57 (F := Ideal) I.x I.xc I.g I.sc I.sh I.csc I.csh = z
    pointwise []
  rw [e, h_at, s_at]
  rfl

theorem m0 (b : Fin 2) (t : Fin 16896) (d : Fin 2048) :
    val_main_v67 (F := Ideal) I.x I.xc I.g I.sc I.sh I.csc I.csh I.mu (ix3 b t d) = mixAt I b t 0 d := by
  rw [← m_at]
  unfold val_main_v67 val_main_v66
  generalize val_main_v65 (F := Ideal) I.x I.xc I.g I.sc I.sh I.csc I.csh I.mu = y
  pointwise []

theorem m1 (b : Fin 2) (t : Fin 16896) (d : Fin 2048) :
    val_main_v69 (F := Ideal) I.x I.xc I.g I.sc I.sh I.csc I.csh I.mu (ix3 b t d) = mixAt I b t 1 d := by
  rw [← m_at]
  unfold val_main_v69 val_main_v68
  generalize val_main_v65 (F := Ideal) I.x I.xc I.g I.sc I.sh I.csc I.csh I.mu = y
  pointwise []

theorem m2 (b : Fin 2) (t : Fin 16896) (d : Fin 2048) :
    val_main_v71 (F := Ideal) I.x I.xc I.g I.sc I.sh I.csc I.csh I.mu (ix3 b t d) = mixAt I b t 2 d := by
  rw [← m_at]
  unfold val_main_v71 val_main_v70
  generalize val_main_v65 (F := Ideal) I.x I.xc I.g I.sc I.sh I.csc I.csh I.mu = y
  pointwise []

theorem m3 (b : Fin 2) (t : Fin 16896) (d : Fin 2048) :
    val_main_v73 (F := Ideal) I.x I.xc I.g I.sc I.sh I.csc I.csh I.mu (ix3 b t d) = mixAt I b t 3 d := by
  rw [← m_at]
  unfold val_main_v73 val_main_v72
  generalize val_main_v65 (F := Ideal) I.x I.xc I.g I.sc I.sh I.csc I.csh I.mu = y
  pointwise []

theorem m4 (b : Fin 2) (t : Fin 16896) (d : Fin 2048) :
    val_main_v75 (F := Ideal) I.x I.xc I.g I.sc I.sh I.csc I.csh I.mu (ix3 b t d) = mixAt I b t 4 d := by
  rw [← m_at]
  unfold val_main_v75 val_main_v74
  generalize val_main_v65 (F := Ideal) I.x I.xc I.g I.sc I.sh I.csc I.csh I.mu = y
  pointwise []

theorem m5 (b : Fin 2) (t : Fin 16896) (d : Fin 2048) :
    val_main_v77 (F := Ideal) I.x I.xc I.g I.sc I.sh I.csc I.csh I.mu (ix3 b t d) = mixAt I b t 5 d := by
  rw [← m_at]
  unfold val_main_v77 val_main_v76
  generalize val_main_v65 (F := Ideal) I.x I.xc I.g I.sc I.sh I.csc I.csh I.mu = y
  pointwise []

theorem p78 (b : Fin 2) (t : Fin 16896) (e : Fin 2048) :
    val_main_v78 (F := Ideal) I.x I.xc I.g I.sc I.sh I.csc I.csh I.mu I.wr (ix3 b t e) = ∑ d : Fin 2048, mixAt I b t 0 d * I.wr (ix2 d e) := by
  simp only [← m0]
  unfold val_main_v78
  generalize val_main_v67 (F := Ideal) I.x I.xc I.g I.sc I.sh I.csc I.csh I.mu = y
  pointwise []

theorem p79 (b : Fin 2) (t : Fin 16896) (e : Fin 2048) :
    val_main_v79 (F := Ideal) I.x I.xc I.g I.sc I.sh I.csc I.csh I.mu I.wk (ix3 b t e) = ∑ d : Fin 2048, mixAt I b t 2 d * I.wk (ix2 d e) := by
  simp only [← m2]
  unfold val_main_v79
  generalize val_main_v71 (F := Ideal) I.x I.xc I.g I.sc I.sh I.csc I.csh I.mu = y
  pointwise []

theorem p80 (b : Fin 2) (t : Fin 16896) (e : Fin 2048) :
    val_main_v80 (F := Ideal) I.x I.xc I.g I.sc I.sh I.csc I.csh I.mu I.wv (ix3 b t e) = ∑ d : Fin 2048, mixAt I b t 3 d * I.wv (ix2 d e) := by
  simp only [← m3]
  unfold val_main_v80
  generalize val_main_v73 (F := Ideal) I.x I.xc I.g I.sc I.sh I.csc I.csh I.mu = y
  pointwise []

theorem p81 (b : Fin 2) (t : Fin 16896) (e : Fin 256) :
    val_main_v81 (F := Ideal) I.x I.xc I.g I.sc I.sh I.csc I.csh I.mu I.g1 (ix3 b t e) = ∑ d : Fin 2048, mixAt I b t 5 d * I.g1 (ix2 d e) := by
  simp only [← m5]
  unfold val_main_v81
  generalize val_main_v77 (F := Ideal) I.x I.xc I.g I.sc I.sh I.csc I.csh I.mu = y
  pointwise []

theorem p83 (b : Fin 2) (t : Fin 16896) (l : Fin 2) (e : Fin 96) :
    val_main_v83 (F := Ideal) I.x I.xc I.g I.sc I.sh I.csc I.csh I.mu I.w1 (ix4 b t l e) = ∑ d : Fin 2048, mixAt I b t 1 d * I.w1 (ix3 l d e) := by
  simp only [← m1]
  unfold val_main_v83
  generalize val_main_v69 (F := Ideal) I.x I.xc I.g I.sc I.sh I.csc I.csh I.mu = y
  pointwise []

theorem p86 (b : Fin 2) (t : Fin 16896) (l : Fin 2) (e : Fin 96) :
    val_main_v86 (F := Ideal) I.x I.xc I.g I.sc I.sh I.csc I.csh I.mu I.a1 (ix4 b t l e) = ∑ d : Fin 2048, mixAt I b t 4 d * I.a1 (ix3 l d e) := by
  simp only [← m4]
  unfold val_main_v86
  generalize val_main_v75 (F := Ideal) I.x I.xc I.g I.sc I.sh I.csc I.csh I.mu = y
  pointwise []

theorem p84 (b : Fin 2) (t : Fin 16896) (e : Fin 192) :
    val_main_v84 (F := Ideal) I.x I.xc I.g I.sc I.sh I.csc I.csh I.mu I.w1 (ix3 b t e)
      = ∑ d : Fin 2048, mixAt I b t 1 d * I.w1 (ix3 ⟨e.val / 96, by omega⟩ d ⟨e.val % 96, by omega⟩) := by
  rw [← p83]
  unfold val_main_v84
  generalize val_main_v83 (F := Ideal) I.x I.xc I.g I.sc I.sh I.csc I.csh I.mu I.w1 = y
  pointwise []

theorem p87 (b : Fin 2) (t : Fin 16896) (e : Fin 192) :
    val_main_v87 (F := Ideal) I.x I.xc I.g I.sc I.sh I.csc I.csh I.mu I.a1 (ix3 b t e)
      = ∑ d : Fin 2048, mixAt I b t 4 d * I.a1 (ix3 ⟨e.val / 96, by omega⟩ d ⟨e.val % 96, by omega⟩) := by
  rw [← p86]
  unfold val_main_v87
  generalize val_main_v86 (F := Ideal) I.x I.xc I.g I.sc I.sh I.csc I.csh I.mu I.a1 = y
  pointwise []

/-- A sum over columns that are zero where they end. -/
theorem padded (f : Fin 2048 → EReal) (k n : Nat) (g : (h : k < n) → Fin 2048 → EReal) :
    (if h : k < n then ∑ d, f d * g h d else 0) = ∑ d : Fin 2048, f d * (if h : k < n then g h d else 0) := by
  by_cases h : k < n
  · rw [dif_pos h]
    exact Finset.sum_congr rfl fun d _ => by rw [dif_pos h]
  · rw [dif_neg h]
    exact (Finset.sum_eq_zero fun d _ => by rw [dif_neg h, mul_zero]).symm

theorem p82 (b : Fin 2) (t : Fin 16896) (e : Fin 512) :
    val_main_v82 (F := Ideal) I.x I.xc I.g I.sc I.sh I.csc I.csh I.mu I.g1 (ix3 b t e)
      = ∑ d : Fin 2048, mixAt I b t 5 d * (if h : e.val < 256 then I.g1 (ix2 d ⟨e.val, h⟩) else 0) := by
  refine Eq.trans ?_ (padded (mixAt I b t 5) e.val 256 fun h d => I.g1 (ix2 d ⟨e.val, h⟩))
  refine Eq.trans (b := if h : e.val < 256 then val_main_v81 (F := Ideal) I.x I.xc I.g I.sc I.sh I.csc I.csh I.mu I.g1 (ix3 b t ⟨e.val, h⟩) else 0) ?_
    (dite_congr rfl (fun h => p81 I b t _) (fun _ => rfl))
  unfold val_main_v82
  generalize val_main_v81 (F := Ideal) I.x I.xc I.g I.sc I.sh I.csc I.csh I.mu I.g1 = y
  pointwise [val_main_call2_v0, val_main_c_10]
  exact dite_congr rfl (fun _ => rfl) (fun _ => sitofp_zero)

theorem p85 (b : Fin 2) (t : Fin 16896) (e : Fin 512) :
    val_main_v85 (F := Ideal) I.x I.xc I.g I.sc I.sh I.csc I.csh I.mu I.w1 (ix3 b t e)
      = ∑ d : Fin 2048, mixAt I b t 1 d * (if h : e.val < 192 then I.w1 (ix3 ⟨e.val / 96, by omega⟩ d ⟨e.val % 96, by omega⟩) else 0) := by
  refine Eq.trans ?_ (padded (mixAt I b t 1) e.val 192 fun h d => I.w1 (ix3 ⟨e.val / 96, by omega⟩ d ⟨e.val % 96, by omega⟩))
  refine Eq.trans (b := if h : e.val < 192 then val_main_v84 (F := Ideal) I.x I.xc I.g I.sc I.sh I.csc I.csh I.mu I.w1 (ix3 b t ⟨e.val, h⟩) else 0) ?_
    (dite_congr rfl (fun h => p84 I b t _) (fun _ => rfl))
  unfold val_main_v85
  generalize val_main_v84 (F := Ideal) I.x I.xc I.g I.sc I.sh I.csc I.csh I.mu I.w1 = y
  pointwise [val_main_call3_v0, val_main_c_11]
  exact dite_congr rfl (fun _ => rfl) (fun _ => sitofp_zero)

theorem p88 (b : Fin 2) (t : Fin 16896) (e : Fin 512) :
    val_main_v88 (F := Ideal) I.x I.xc I.g I.sc I.sh I.csc I.csh I.mu I.a1 (ix3 b t e)
      = ∑ d : Fin 2048, mixAt I b t 4 d * (if h : e.val < 192 then I.a1 (ix3 ⟨e.val / 96, by omega⟩ d ⟨e.val % 96, by omega⟩) else 0) := by
  refine Eq.trans ?_ (padded (mixAt I b t 4) e.val 192 fun h d => I.a1 (ix3 ⟨e.val / 96, by omega⟩ d ⟨e.val % 96, by omega⟩))
  refine Eq.trans (b := if h : e.val < 192 then val_main_v87 (F := Ideal) I.x I.xc I.g I.sc I.sh I.csc I.csh I.mu I.a1 (ix3 b t ⟨e.val, h⟩) else 0) ?_
    (dite_congr rfl (fun h => p87 I b t _) (fun _ => rfl))
  unfold val_main_v88
  generalize val_main_v87 (F := Ideal) I.x I.xc I.g I.sc I.sh I.csc I.csh I.mu I.a1 = y
  pointwise [val_main_call4_v0, val_main_c_12]
  exact dite_congr rfl (fun _ => rfl) (fun _ => sitofp_zero)

/-- A column's block of the joined results. -/
theorem columns (b : Fin 2) (t : Fin 16896) (e : Fin 7680) :
    val_main_v89 (F := Ideal) I.x I.xc I.g I.sc I.sh I.csc I.csh I.mu I.wr I.wk I.wv I.w1 I.a1 I.g1 (ix3 b t e)
      = if h : e.val < 2048 then val_main_v78 (F := Ideal) I.x I.xc I.g I.sc I.sh I.csc I.csh I.mu I.wr (ix3 b t ⟨e.val, h⟩)
        else if h : e.val < 4096 then val_main_v79 (F := Ideal) I.x I.xc I.g I.sc I.sh I.csc I.csh I.mu I.wk (ix3 b t ⟨e.val - 2048, by omega⟩)
        else if h : e.val < 6144 then val_main_v80 (F := Ideal) I.x I.xc I.g I.sc I.sh I.csc I.csh I.mu I.wv (ix3 b t ⟨e.val - 4096, by omega⟩)
        else if h : e.val < 6656 then val_main_v82 (F := Ideal) I.x I.xc I.g I.sc I.sh I.csc I.csh I.mu I.g1 (ix3 b t ⟨e.val - 6144, by omega⟩)
        else if h : e.val < 7168 then val_main_v85 (F := Ideal) I.x I.xc I.g I.sc I.sh I.csc I.csh I.mu I.w1 (ix3 b t ⟨e.val - 6656, by omega⟩)
        else val_main_v88 (F := Ideal) I.x I.xc I.g I.sc I.sh I.csc I.csh I.mu I.a1 (ix3 b t ⟨e.val - 7168, by omega⟩) := by
  unfold val_main_v89
  generalize val_main_v78 (F := Ideal) I.x I.xc I.g I.sc I.sh I.csc I.csh I.mu I.wr = y1
  generalize val_main_v79 (F := Ideal) I.x I.xc I.g I.sc I.sh I.csc I.csh I.mu I.wk = y2
  generalize val_main_v80 (F := Ideal) I.x I.xc I.g I.sc I.sh I.csc I.csh I.mu I.wv = y3
  generalize val_main_v82 (F := Ideal) I.x I.xc I.g I.sc I.sh I.csc I.csh I.mu I.g1 = y4
  generalize val_main_v85 (F := Ideal) I.x I.xc I.g I.sc I.sh I.csc I.csh I.mu I.w1 = y5
  generalize val_main_v88 (F := Ideal) I.x I.xc I.g I.sc I.sh I.csc I.csh I.mu I.a1 = y6
  pointwise []
  have he := e.isLt
  repeat' (first | (exfalso; omega) | split)
  all_goals first
    | (exfalso; omega)
    | exact congrArg (fun u => y1 (ix3 b t u)) (Fin.ext (by first | omega | (dsimp only; done) | (dsimp only; omega)))
    | exact congrArg (fun u => y2 (ix3 b t u)) (Fin.ext (by first | omega | (dsimp only; done) | (dsimp only; omega)))
    | exact congrArg (fun u => y3 (ix3 b t u)) (Fin.ext (by first | omega | (dsimp only; done) | (dsimp only; omega)))
    | exact congrArg (fun u => y4 (ix3 b t u)) (Fin.ext (by first | omega | (dsimp only; done) | (dsimp only; omega)))
    | exact congrArg (fun u => y5 (ix3 b t u)) (Fin.ext (by first | omega | (dsimp only; done) | (dsimp only; omega)))
    | exact congrArg (fun u => y6 (ix3 b t u)) (Fin.ext (by first | omega | (dsimp only; done) | (dsimp only; omega)))

theorem mix_of (e n : Nat) (k : Fin 6) (h : e / 512 = n) (hk : mixOf n = k) : mixOf (e / 512) = k := by rw [h, hk]

theorem entry (b : Fin 2) (t : Fin 16896) (e : Fin 7680) :
    val_main_v89 (F := Ideal) I.x I.xc I.g I.sc I.sh I.csc I.csh I.mu I.wr I.wk I.wv I.w1 I.a1 I.g1 (ix3 b t e)
      = ∑ d : Fin 2048, mixAt I b t (mixOf (e.val / 512)) d * weight I d e := by
  rw [columns]
  have he := e.isLt
  by_cases h1 : e.val < 2048
  · rw [dif_pos h1, p78, show mixOf (e.val / 512) = 0 by unfold mixOf; rw [if_pos (by omega)]]
    exact Finset.sum_congr rfl fun d _ => by unfold weight; rw [dif_pos h1]
  by_cases h2 : e.val < 4096
  · rw [dif_neg h1, dif_pos h2, p79, show mixOf (e.val / 512) = 2 by unfold mixOf; rw [if_neg (by omega), if_pos (by omega)]]
    exact Finset.sum_congr rfl fun d _ => by unfold weight; rw [dif_neg h1, dif_pos h2]
  by_cases h3 : e.val < 6144
  · rw [dif_neg h1, dif_neg h2, dif_pos h3, p80, show mixOf (e.val / 512) = 3 by unfold mixOf; rw [if_neg (by omega), if_neg (by omega), if_pos (by omega)]]
    exact Finset.sum_congr rfl fun d _ => by unfold weight; rw [dif_neg h1, dif_neg h2, dif_pos h3]
  by_cases h4 : e.val < 6656
  · rw [dif_neg h1, dif_neg h2, dif_neg h3, dif_pos h4, p82, mix_of e.val 12 5 (by omega) rfl]
    exact Finset.sum_congr rfl fun d _ => by unfold weight; rw [dif_neg h1, dif_neg h2, dif_neg h3, dif_pos h4]
  by_cases h5 : e.val < 7168
  · rw [dif_neg h1, dif_neg h2, dif_neg h3, dif_neg h4, dif_pos h5, p85, mix_of e.val 13 1 (by omega) rfl]
    exact Finset.sum_congr rfl fun d _ => by unfold weight; rw [dif_neg h1, dif_neg h2, dif_neg h3, dif_neg h4, dif_pos h5]
  · rw [dif_neg h1, dif_neg h2, dif_neg h3, dif_neg h4, dif_neg h5, p88, mix_of e.val 14 4 (by omega) rfl]
    exact Finset.sum_congr rfl fun d _ => by unfold weight; rw [dif_neg h1, dif_neg h2, dif_neg h3, dif_neg h4, dif_neg h5]

/-- The reference's result. -/
theorem result : val_main_v90 (F := Ideal) I.x I.xc I.g I.sc I.sh I.csc I.csh I.mu I.wr I.wk I.wv I.w1 I.a1 I.g1 = out I := by
  funext j
  obtain ⟨r, e, rfl⟩ : ∃ (r : Fin 33792) (e : Fin 7680), j = ix2 r e := ⟨j 0, j 1, by funext a; match a with | 0 => rfl | 1 => rfl⟩
  refine Eq.trans ?_ (entry I ⟨r.val / 16896, by omega⟩ ⟨r.val % 16896, by omega⟩ e)
  unfold val_main_v90
  generalize val_main_v89 (F := Ideal) I.x I.xc I.g I.sc I.sh I.csc I.csh I.mu I.wr I.wk I.wv I.w1 I.a1 I.g1 = y
  pointwise []

/-- The same of the arguments one by one. -/
theorem result_of (x0 : FVec Ideal S2x16384x2048 .f32) (x1 : FVec Ideal S2x256x2048 .f32) (x2 : FVec Ideal S2048 .f32) (x3 : FVec Ideal S2x2048 .f32) (x4 : FVec Ideal S2x2048 .f32) (x5 : FVec Ideal S1x2048 .f32) (x6 : FVec Ideal S1x2048 .f32) (x7 : FVec Ideal S6x2048 .f32) (x8 : FVec Ideal S2048x2048 .f32) (x9 : FVec Ideal S2048x2048 .f32) (x10 : FVec Ideal S2048x2048 .f32) (x11 : FVec Ideal S2x2048x96 .f32) (x12 : FVec Ideal S2x2048x96 .f32) (x13 : FVec Ideal S2048x256 .f32) :
    val_main_v90 (F := Ideal) x0 x1 x2 x3 x4 x5 x6 x7 x8 x9 x10 x11 x12 x13 = out ⟨x0, x1, x2, x3, x4, x5, x6, x7, x8, x9, x10, x11, x12, x13⟩ :=
  result ⟨x0, x1, x2, x3, x4, x5, x6, x7, x8, x9, x10, x11, x12, x13⟩

end Cert.ProjectionsRefIdeal.Proj
end

end
-- ==== Proof.Out.Spec.lean ====
module

public import Idealize.ShloMosaic.Lib.Pipeline.ValueKit
public import Idealize.ShloMosaic.Lib.Pointwise

@[expose] public section

/-! The gated sums of the two layers, index by index: the stream, plus the gate times what is added to it. -/

noncomputable section
open Idealize.ShloMosaic
namespace Cert.OutSpec

/-- Row `r` of the stream, plus the gate of its batch times `f`. -/
def gated (x : FVec Ideal ⟨3, ![2, 16384, 2048]⟩ .f32) (gt : FVec Ideal ⟨2, ![2, 2048]⟩ .f32) (f : Fin 32768 → Fin 2048 → EReal)
    (r : Fin 32768) (e : Fin 2048) : EReal :=
  x (ix3 ⟨r.val / 16384, by omega⟩ ⟨r.val % 16384, by omega⟩ e) + gt (ix2 ⟨r.val / 16384, by omega⟩ e) * f r e

/-- The same as an array. -/
def out (x : FVec Ideal ⟨3, ![2, 16384, 2048]⟩ .f32) (gt : FVec Ideal ⟨2, ![2, 2048]⟩ .f32) (f : Fin 32768 → Fin 2048 → EReal) :
    FVec Ideal ⟨2, ![32768, 2048]⟩ .f32 :=
  fun i => gated x gt f (i 0) (i 1)

/-- An entry of the array, by its row and column. -/
theorem out_of (x : FVec Ideal ⟨3, ![2, 16384, 2048]⟩ .f32) (gt : FVec Ideal ⟨2, ![2, 2048]⟩ .f32) (f : Fin 32768 → Fin 2048 → EReal)
    (i : (⟨2, ![32768, 2048]⟩ : Shape).Idx) (r : Fin 32768) (e : Fin 2048) (hr : (i 0).val = r.val) (he : (i 1).val = e.val) :
    out x gt f i = gated x gt f r e := by
  obtain rfl : i 0 = r := Fin.ext hr
  obtain rfl : i 1 = e := Fin.ext he
  rfl

/-- A row times the weights. -/
def times (h : Fin 32768 → Fin 2048 → EReal) (w : FVec Ideal ⟨2, ![2048, 2048]⟩ .f32) (r : Fin 32768) (e : Fin 2048) : EReal :=
  ∑ d : Fin 2048, h r d * w (ix2 d e)

/-- The two attentions' outputs side by side. -/
def beside (ya yb : FVec Ideal ⟨2, ![32768, 1024]⟩ .bf16) (r : Fin 32768) (d : Fin 2048) : EReal :=
  if h : d.val < 1024 then ya (ix2 r ⟨d.val, h⟩) else yb (ix2 r ⟨d.val - 1024, by omega⟩)

/-- The recurrence's output, by its rows. -/
def rows (z : FVec Ideal ⟨3, ![2, 16384, 2048]⟩ .bf16) (r : Fin 32768) (d : Fin 2048) : EReal :=
  z (ix3 ⟨r.val / 16384, by omega⟩ ⟨r.val % 16384, by omega⟩ d)

/-- The two experts' outputs of a token, weighted and added. -/
def mixed (ya yb : FVec Ideal ⟨2, ![32768, 2048]⟩ .bf16) (g : FVec Ideal ⟨2, ![32768, 2]⟩ .f32) (r : Fin 32768) (e : Fin 2048) : EReal :=
  ya (ix2 r e) * g (ix2 r 0) + yb (ix2 r e) * g (ix2 r 1)

end Cert.OutSpec

end

end
-- ==== Proof.Out.Attn.lean ====
module

public import proofs.«01_k».proof.Proof.Gen.AttnOutIdeal.Frame
public import proofs.«01_k».proof.Proof.Out.Spec
public import Idealize.ShloMosaic.Lib.Pipeline.ValueKit
public import Idealize.ShloMosaic.Lib.Pipeline.ReadBack
public import Idealize.ShloMosaic.Lib.Pointwise
public import Idealize.ShloMosaic.Lib.StableHlo.ReadAt
public import Idealize.ShloMosaic.Lib.Claim

@[expose] public section

set_option maxRecDepth 16384

/-! The attentions' output projection: what the launch writes, index by index. -/

noncomputable section
open Idealize.ShloMosaic Idealize.ShloMosaic.TcCoe Idealize.SL.Sem
open Idealize.ShloMosaic.Pipeline (Dat)
namespace Cert.AttnOutIdeal.Out
open Cert.AttnOutIdeal Cert.AttnOutIdeal.Gen
open Cert.OutSpec
variable (m : (ℓ : Loc nD τ sig) → Buf (Elt Ideal) ℓ) (c : Dev nD)

/-- The arguments, as the memory holds them. -/
abbrev A : FVec Ideal ⟨2, ![32768, 1024]⟩ .bf16 := m ((c : Thread nD τ).loc main_arg0)
abbrev B : FVec Ideal ⟨2, ![32768, 1024]⟩ .bf16 := m ((c : Thread nD τ).loc main_arg1)
abbrev W : FVec Ideal ⟨2, ![2048, 2048]⟩ .f32 := m ((c : Thread nD τ).loc main_arg2)
abbrev X : FVec Ideal ⟨3, ![2, 16384, 2048]⟩ .f32 := m ((c : Thread nD τ).loc main_arg3)
abbrev G : FVec Ideal ⟨2, ![2, 2048]⟩ .f32 := m ((c : Thread nD τ).loc main_arg4)

/-- The stream by its rows, -/
theorem x_at (r : Fin 32768) (e : Fin 2048) :
    (show FVec Ideal S32768x2048 .f32 from V m c main_v0) (ix2 r e) = X m c (ix3 ⟨r.val / 16384, by omega⟩ ⟨r.val % 16384, by omega⟩ e) := by
  unfold V
  simp only [hostOps0, List.flatten_cons, List.flatten_nil, List.append_nil, List.cons_append, List.nil_append]
  entry_read
  pointwise []

/-- the gate -/
theorem g_at (b : Fin 2) (u : Fin 1) (e : Fin 2048) :
    (show FVec Ideal S2x1x2048 .f32 from V m c main_v2) (ix3 b u e) = G m c (ix2 b e) := by
  unfold V
  simp only [hostOps0, List.flatten_cons, List.flatten_nil, List.append_nil, List.cons_append, List.nil_append]
  entry_read
  pointwise []

/-- and the weights. -/
theorem w_at (d : Fin 2048) (e : Fin 2048) :
    (show FVec Ideal S2048x2048 .bf16 from V m c main_v1) (ix2 d e) = W m c (ix2 d e) := by
  unfold V
  simp only [hostOps0, List.flatten_cons, List.flatten_nil, List.append_nil, List.cons_append, List.nil_append]
  entry_read
  pointwise []

/-- The window attention's output. -/
theorem a_at (r : Fin 32768) (e : Fin 1024) :
    (show FVec Ideal S32768x1024 .bf16 from V m c main_arg0) (ix2 r e) = A m c (ix2 r e) := by
  unfold V
  simp only [hostOps0, List.flatten_cons, List.flatten_nil, List.append_nil, List.cons_append, List.nil_append]
  entry_read
  rfl

/-- The neighbourhood attention's output. -/
theorem b_at (r : Fin 32768) (e : Fin 1024) :
    (show FVec Ideal S32768x1024 .bf16 from V m c main_arg1) (ix2 r e) = B m c (ix2 r e) := by
  unfold V
  simp only [hostOps0, List.flatten_cons, List.flatten_nil, List.append_nil, List.cons_append, List.nil_append]
  entry_read
  rfl

/-- The blocks each grid point reads and writes. -/
theorem idx : ∀ t : Fin cfg0.N,
    win0_0.index t = ![t.val / 4, 0] ∧
    win0_1.index t = ![t.val / 4, 0] ∧
    win0_2.index t = ![0, t.val % 4] ∧
    win0_3.index t = ![t.val / 4, t.val % 4] ∧
    win0_4.index t = ![t.val / 64, 0, t.val % 4] ∧
    win0_5.index t = ![t.val / 4, t.val % 4] := (by decide +kernel : ∀ t : Fin grid0.N, _)

variable (t : Fin cfg0.N)

theorem tlt : t.val < 128 := lt_of_lt_of_eq t.isLt N_0

/-- The row of the arrays that row `r` of the point's tile is, and the column. -/
abbrev row (r : Fin 1024) : Fin 32768 := ⟨t.val / 4 * 1024 + r.val, by have := tlt t; omega⟩
abbrev col (e : Fin 512) : Fin 2048 := ⟨t.val % 4 * 512 + e.val, by omega⟩

/-- The rows of an attention's output. -/
theorem blka (r : Fin 1024) (d : Fin 1024) :
    (show FVec Ideal S1024x1024 .bf16 from iblk m c 0 t) (ix2 r d) = A m c (ix2 (row t r) d) := by
  have := tlt t
  have h : (show FVec Ideal S1024x1024 .bf16 from iblk m c 0 t) (ix2 r d) = (show FVec Ideal S32768x1024 .bf16 from V m c main_arg0) (ix2 (row t r) d) := by
    blk_point [iblk, idx t]
  rw [h, a_at]

/-- The rows of an attention's output. -/
theorem blkb (r : Fin 1024) (d : Fin 1024) :
    (show FVec Ideal S1024x1024 .bf16 from iblk m c 1 t) (ix2 r d) = B m c (ix2 (row t r) d) := by
  have := tlt t
  have h : (show FVec Ideal S1024x1024 .bf16 from iblk m c 1 t) (ix2 r d) = (show FVec Ideal S32768x1024 .bf16 from V m c main_arg1) (ix2 (row t r) d) := by
    blk_point [iblk, idx t]
  rw [h, b_at]

/-- The weights' columns, -/
theorem blkw (d : Fin 2048) (e : Fin 512) :
    (show FVec Ideal S2048x512 .bf16 from iblk m c 2 t) (ix2 d e) = W m c (ix2 d (col t e)) := by
  have := tlt t
  have h : (show FVec Ideal S2048x512 .bf16 from iblk m c 2 t) (ix2 d e) = (show FVec Ideal S2048x2048 .bf16 from V m c main_v1) (ix2 d (col t e)) := by
    blk_point [iblk, idx t]
  rw [h, w_at]

/-- the stream -/
theorem blkx (r : Fin 1024) (e : Fin 512) :
    (show FVec Ideal S1024x512 .f32 from iblk m c 3 t) (ix2 r e)
      = X m c (ix3 ⟨(row t r).val / 16384, by omega⟩ ⟨(row t r).val % 16384, by omega⟩ (col t e)) := by
  have := tlt t
  have h : (show FVec Ideal S1024x512 .f32 from iblk m c 3 t) (ix2 r e) = (show FVec Ideal S32768x2048 .f32 from V m c main_v0) (ix2 (row t r) (col t e)) := by
    blk_point [iblk, idx t]
  rw [h, x_at]

/-- and its gate. -/
theorem blkg (r : Fin 1024) (e : Fin 512) :
    (show FVec Ideal S1x1x512 .f32 from iblk m c 4 t) (ix3 0 0 e) = G m c (ix2 ⟨(row t r).val / 16384, by omega⟩ (col t e)) := by
  have := tlt t
  have h : (show FVec Ideal S1x1x512 .f32 from iblk m c 4 t) (ix3 0 0 e) = (show FVec Ideal S2x1x2048 .f32 from V m c main_v2) (ix3 ⟨t.val / 64, by omega⟩ 0 (col t e)) := by
    blk_point [iblk, idx t]
  rw [h, g_at]
  exact congrArg (fun b : Fin 2 => G m c (ix2 b (col t e))) (Fin.ext (by show t.val / 64 = (t.val / 4 * 1024 + r.val) / 16384; omega))

/-- The rows that are multiplied. -/
abbrev H : Fin 32768 → Fin 2048 → EReal := beside (A m c) (B m c)

theorem pay_at (w : FVec Ideal S2048x512 .bf16) (h : FVec Ideal S1024x2048 .bf16) (x : FVec Ideal S1024x512 .f32) (g : FVec Ideal S1x1x512 .f32)
    (r : Fin 1024) (e : Fin 512) :
    k0_pay3 (F := Ideal) w h x g (ix2 r e) = x (ix2 r e) + g (ix3 0 0 e) * ∑ d : Fin 2048, h (ix2 r d) * w (ix2 d e) := by
  pointwise [k0_pay3]

/-- What the point writes, once the rows are known. -/
theorem cols (h : FVec Ideal S1024x2048 .bf16) (hh : ∀ (r : Fin 1024) (d : Fin 2048), h (ix2 r d) = H m c (row t r) d) (r : Fin 1024) (e : Fin 512) :
    k0_pay3 (F := Ideal) (iblk m c 2 t) h (iblk m c 3 t) (iblk m c 4 t) (ix2 r e)
      = gated (X m c) (G m c) (times (H m c) (W m c)) (row t r) (col t e) :=
  (pay_at _ _ _ _ r e).trans (congrArg₂ (· + ·) (blkx m c t r e) (congrArg₂ (· * ·) (blkg m c t r e)
    (Finset.sum_congr rfl fun d _ => congrArg₂ (· * ·) (hh r d) (blkw m c t d e))))

/-- What the point keeps for the next, and what it writes. -/
abbrev Kept : Prop := ∀ (r : Fin 1024) (d : Fin 2048), (outsAt0 m c t.val t.isLt).2 (ix2 r d) = H m c (row t r) d
abbrev Wrote : Prop := ∀ (r : Fin 1024) (e : Fin 512),
  (outsAt0 m c t.val t.isLt).1 (ix2 r e) = gated (X m c) (G m c) (times (H m c) (W m c)) (row t r) (col t e)

theorem pay1_at (v : FVec Ideal S1024x1024 .bf16) (r d : Fin 1024) : k0_pay1 (F := Ideal) v (ix2 r d) = v (ix2 r d) := by
  pointwise [k0_pay1]

theorem pay2_at (v : FVec Ideal S1024x1024 .bf16) (r d : Fin 1024) : k0_pay2 (F := Ideal) v (ix2 r d) = v (ix2 r d) := by
  pointwise [k0_pay2]

/-- The rows the point stores: an attention's output in each half. -/
theorem two_at (a b : FVec Ideal S1024x1024 .bf16) (r : Fin 1024) (d : Fin 2048) :
    View.canon (Val := Elt Ideal) (s := S1024x2048) (e := .bf16)
      [⟨Rect.unit ![0, 1024] ![1024, 1024] inb_S1024x2048_S1024x1024_0_1024, k0_pay2 (F := Ideal) b⟩,
        ⟨Rect.unit ![0, 0] ![1024, 1024] inb_S1024x2048_S1024x1024_0_0, k0_pay1 (F := Ideal) a⟩] (ix2 r d)
      = if h : d.val < 1024 then a (ix2 r ⟨d.val, h⟩) else b (ix2 r ⟨d.val - 1024, by omega⟩) := by
  have hd := d.isLt
  canon_tiles x h
  · replace h0 : r.val = (x 0).val := h0
    replace h1 : d.val = 1024 + (x 1).val := h1
    obtain ⟨x0, x1, rfl⟩ : ∃ (x0 : Fin 1024) (x1 : Fin 1024), x = ix2 x0 x1 := ⟨x 0, x 1, by funext a; match a with | 0 => rfl | 1 => rfl⟩
    replace h0 : r.val = x0.val := h0
    replace h1 : d.val = 1024 + x1.val := h1
    rw [dif_neg (by omega), pay2_at]
    exact congrArg b (congrArg₂ ix2 (Fin.ext h0.symm) (Fin.ext (by show x1.val = d.val - 1024; omega)))
  · replace h0 : r.val = (x 0).val := h0
    obtain ⟨x0, x1, rfl⟩ : ∃ (x0 : Fin 1024) (x1 : Fin 1024), x = ix2 x0 x1 := ⟨x 0, x 1, by funext a; match a with | 0 => rfl | 1 => rfl⟩
    replace h0 : r.val = x0.val := h0
    replace h1 : d.val = x1.val := h1
    rw [dif_pos (by omega), pay1_at]
    exact congrArg a (congrArg₂ ix2 (Fin.ext h0.symm) (Fin.ext h1.symm))

theorem stored (r : Fin 1024) (d : Fin 2048) :
    (if h : d.val < 1024 then (show FVec Ideal S1024x1024 .bf16 from iblk m c 0 t) (ix2 r ⟨d.val, h⟩)
      else (show FVec Ideal S1024x1024 .bf16 from iblk m c 1 t) (ix2 r ⟨d.val - 1024, by omega⟩)) = beside (A m c) (B m c) (row t r) d :=
  dite_congr rfl (fun h => blka m c t r _) (fun h => blkb m c t r _)

theorem A1 (h0 : t.val % 4 = 0) : Kept m c t := by
  intro r d
  rw [outsAt0_A m c t h0]
  frame_out
  exact (two_at _ _ r d).trans (stored m c t r d)

theorem A0 (h0 : t.val % 4 = 0) : Wrote m c t := by
  intro r e
  rw [outsAt0_A m c t h0]
  frame_out
  refine cols m c t _ (fun r d => ?_) r e
  rw [View.readCov_eq_canon']
  refine (congrArg _ ?_).trans ((two_at _ _ r d).trans (stored m c t r d))
  funext a
  match a with
  | ⟨0, _⟩ => exact Fin.ext (by show 0 + 1 * r.val = r.val; omega)
  | ⟨1, _⟩ => exact Fin.ext (by show 0 + 1 * d.val = d.val; omega)

theorem B1 (h0 : ¬ t.val % 4 = 0) : (outsAt0 m c t.val t.isLt).2 = (outsAt0 m c (t.val - 1) (by omega)).2 := by
  rw [outsAt0_B m c t h0]
  frame_out
  unfold sout0_B_0
  rfl

theorem B0 (h0 : ¬ t.val % 4 = 0)
    (k : ∀ (r : Fin 1024) (d : Fin 2048), (outsAt0 m c (t.val - 1) (by omega)).2 (ix2 r d) = H m c (row t r) d) : Wrote m c t := by
  intro r e
  rw [outsAt0_B m c t h0]
  frame_out
  refine cols m c t _ (fun r d => ?_) r e
  rw [read_unread_whole]
  exact k r d

/-- The point before holds the same rows. -/
theorem same (h0 : ¬ t.val % 4 = 0) (h : t.val - 1 < cfg0.N) (r : Fin 1024) : row (⟨t.val - 1, h⟩ : Fin cfg0.N) r = row t r :=
  Fin.ext (by show (t.val - 1) / 4 * 1024 + r.val = t.val / 4 * 1024 + r.val; omega)

/-- Every point keeps its rows and writes their columns. -/
theorem all : ∀ (n : Nat) (h : n < cfg0.N), Kept m c ⟨n, h⟩ ∧ Wrote m c ⟨n, h⟩ := by
  intro n
  induction n with
  | zero => exact fun h => ⟨A1 m c ⟨0, h⟩ rfl, A0 m c ⟨0, h⟩ rfl⟩
  | succ n ih =>
    intro h
    by_cases h0 : (n + 1) % 4 = 0
    · exact ⟨A1 m c ⟨n + 1, h⟩ h0, A0 m c ⟨n + 1, h⟩ h0⟩
    · have k : ∀ (r : Fin 1024) (d : Fin 2048), (outsAt0 m c n (by omega)).2 (ix2 r d) = H m c (row ⟨n + 1, h⟩ r) d := fun r d => by
        rw [← same ⟨n + 1, h⟩ h0 (Nat.lt_of_succ_lt h) r]
        exact (ih (Nat.lt_of_succ_lt h)).1 r d
      exact ⟨fun r d => (congrFun (B1 m c ⟨n + 1, h⟩ h0) (ix2 r d)).trans (k r d), B0 m c ⟨n + 1, h⟩ h0 k⟩

theorem point (y : S1024x512.Idx) : (outsAt0 m c t.val t.isLt).1 y
    = out (X m c) (G m c) (times (H m c) (W m c)) (((cfg0.win 5).blk t).view.emb y) := by
  obtain ⟨r, e, rfl⟩ : ∃ (r : Fin 1024) (e : Fin 512), y = ix2 r e := ⟨y 0, y 1, by funext a; match a with | 0 => rfl | 1 => rfl⟩
  have ht := tlt t
  have e0 : (((cfg0.win 5).blk t).view.emb (ix2 r e) 0).val = t.val / 4 * 1024 + r.val := by blk_simp [idx t]
  have e1 : (((cfg0.win 5).blk t).view.emb (ix2 r e) 1).val = t.val % 4 * 512 + e.val := by blk_simp [idx t]
  exact ((all m c t.val t.isLt).2 r e).trans (out_of _ _ _ _ (row t r) (col t e) e0 e1).symm

/-- What the launch writes is the result. -/
theorem final : (dats m 0 c).arrAt 5 cfg0.N = out (X m c) (G m c) (times (H m c) (W m c)) := by
  refine (dats m 0 c).arrAt_eq_of_covers 5 _ (by decide +kernel) fun t _ y => ?_
  blk_simp
  rw [after0_5]
  exact point m c t y

end Cert.AttnOutIdeal.Out

end

end
-- ==== Proof.Out.Mix.lean ====
module

public import proofs.«01_k».proof.Proof.Gen.MixOutIdeal.Frame
public import proofs.«01_k».proof.Proof.Out.Spec
public import Idealize.ShloMosaic.Lib.Pipeline.ValueKit
public import Idealize.ShloMosaic.Lib.Pipeline.ReadBack
public import Idealize.ShloMosaic.Lib.Pointwise
public import Idealize.ShloMosaic.Lib.StableHlo.ReadAt
public import Idealize.ShloMosaic.Lib.Claim

@[expose] public section

set_option maxRecDepth 16384

/-! The recurrence's output projection: what the launch writes, index by index. -/

noncomputable section
open Idealize.ShloMosaic Idealize.ShloMosaic.TcCoe Idealize.SL.Sem
open Idealize.ShloMosaic.Pipeline (Dat)
namespace Cert.MixOutIdeal.Out
open Cert.MixOutIdeal Cert.MixOutIdeal.Gen
open Cert.OutSpec
variable (m : (ℓ : Loc nD τ sig) → Buf (Elt Ideal) ℓ) (c : Dev nD)

/-- The arguments, as the memory holds them. -/
abbrev Z : FVec Ideal ⟨3, ![2, 16384, 2048]⟩ .bf16 := m ((c : Thread nD τ).loc main_arg0)
abbrev W : FVec Ideal ⟨2, ![2048, 2048]⟩ .f32 := m ((c : Thread nD τ).loc main_arg1)
abbrev X : FVec Ideal ⟨3, ![2, 16384, 2048]⟩ .f32 := m ((c : Thread nD τ).loc main_arg2)
abbrev G : FVec Ideal ⟨2, ![2, 2048]⟩ .f32 := m ((c : Thread nD τ).loc main_arg3)

/-- The stream by its rows, -/
theorem x_at (r : Fin 32768) (e : Fin 2048) :
    (show FVec Ideal S32768x2048 .f32 from V m c main_v1) (ix2 r e) = X m c (ix3 ⟨r.val / 16384, by omega⟩ ⟨r.val % 16384, by omega⟩ e) := by
  unfold V
  simp only [hostOps0, List.flatten_cons, List.flatten_nil, List.append_nil, List.cons_append, List.nil_append]
  entry_read
  pointwise []

/-- the gate -/
theorem g_at (b : Fin 2) (u : Fin 1) (e : Fin 2048) :
    (show FVec Ideal S2x1x2048 .f32 from V m c main_v3) (ix3 b u e) = G m c (ix2 b e) := by
  unfold V
  simp only [hostOps0, List.flatten_cons, List.flatten_nil, List.append_nil, List.cons_append, List.nil_append]
  entry_read
  pointwise []

/-- and the weights. -/
theorem w_at (d : Fin 2048) (e : Fin 2048) :
    (show FVec Ideal S2048x2048 .bf16 from V m c main_v2) (ix2 d e) = W m c (ix2 d e) := by
  unfold V
  simp only [hostOps0, List.flatten_cons, List.flatten_nil, List.append_nil, List.cons_append, List.nil_append]
  entry_read
  pointwise []

/-- The recurrence's output by its rows. -/
theorem z_at (r : Fin 32768) (e : Fin 2048) :
    (show FVec Ideal S32768x2048 .bf16 from V m c main_v0) (ix2 r e) = rows (Z m c) r e := by
  unfold V
  simp only [hostOps0, List.flatten_cons, List.flatten_nil, List.append_nil, List.cons_append, List.nil_append]
  entry_read
  pointwise []
  rfl

/-- The blocks each grid point reads and writes. -/
theorem idx : ∀ t : Fin cfg0.N,
    win0_0.index t = ![t.val / 4, 0] ∧
    win0_1.index t = ![0, t.val % 4] ∧
    win0_2.index t = ![t.val / 4, t.val % 4] ∧
    win0_3.index t = ![t.val / 64, 0, t.val % 4] ∧
    win0_4.index t = ![t.val / 4, t.val % 4] := (by decide +kernel : ∀ t : Fin grid0.N, _)

variable (t : Fin cfg0.N)

theorem tlt : t.val < 128 := lt_of_lt_of_eq t.isLt N_0

/-- The row of the arrays that row `r` of the point's tile is, and the column. -/
abbrev row (r : Fin 1024) : Fin 32768 := ⟨t.val / 4 * 1024 + r.val, by have := tlt t; omega⟩
abbrev col (e : Fin 512) : Fin 2048 := ⟨t.val % 4 * 512 + e.val, by omega⟩

/-- The rows of the recurrence's output, -/
theorem blkz (r : Fin 1024) (d : Fin 2048) :
    (show FVec Ideal S1024x2048 .bf16 from iblk m c 0 t) (ix2 r d) = rows (Z m c) (row t r) d := by
  have := tlt t
  have h : (show FVec Ideal S1024x2048 .bf16 from iblk m c 0 t) (ix2 r d) = (show FVec Ideal S32768x2048 .bf16 from V m c main_v0) (ix2 (row t r) d) := by
    blk_point [iblk, idx t]
  rw [h, z_at]

/-- The weights' columns, -/
theorem blkw (d : Fin 2048) (e : Fin 512) :
    (show FVec Ideal S2048x512 .bf16 from iblk m c 1 t) (ix2 d e) = W m c (ix2 d (col t e)) := by
  have := tlt t
  have h : (show FVec Ideal S2048x512 .bf16 from iblk m c 1 t) (ix2 d e) = (show FVec Ideal S2048x2048 .bf16 from V m c main_v2) (ix2 d (col t e)) := by
    blk_point [iblk, idx t]
  rw [h, w_at]

/-- the stream -/
theorem blkx (r : Fin 1024) (e : Fin 512) :
    (show FVec Ideal S1024x512 .f32 from iblk m c 2 t) (ix2 r e)
      = X m c (ix3 ⟨(row t r).val / 16384, by omega⟩ ⟨(row t r).val % 16384, by omega⟩ (col t e)) := by
  have := tlt t
  have h : (show FVec Ideal S1024x512 .f32 from iblk m c 2 t) (ix2 r e) = (show FVec Ideal S32768x2048 .f32 from V m c main_v1) (ix2 (row t r) (col t e)) := by
    blk_point [iblk, idx t]
  rw [h, x_at]

/-- and its gate. -/
theorem blkg (r : Fin 1024) (e : Fin 512) :
    (show FVec Ideal S1x1x512 .f32 from iblk m c 3 t) (ix3 0 0 e) = G m c (ix2 ⟨(row t r).val / 16384, by omega⟩ (col t e)) := by
  have := tlt t
  have h : (show FVec Ideal S1x1x512 .f32 from iblk m c 3 t) (ix3 0 0 e) = (show FVec Ideal S2x1x2048 .f32 from V m c main_v3) (ix3 ⟨t.val / 64, by omega⟩ 0 (col t e)) := by
    blk_point [iblk, idx t]
  rw [h, g_at]
  exact congrArg (fun b : Fin 2 => G m c (ix2 b (col t e))) (Fin.ext (by show t.val / 64 = (t.val / 4 * 1024 + r.val) / 16384; omega))

/-- The rows that are multiplied. -/
abbrev H : Fin 32768 → Fin 2048 → EReal := rows (Z m c)

theorem pay_at (w : FVec Ideal S2048x512 .bf16) (h : FVec Ideal S1024x2048 .bf16) (x : FVec Ideal S1024x512 .f32) (g : FVec Ideal S1x1x512 .f32)
    (r : Fin 1024) (e : Fin 512) :
    k0_pay2 (F := Ideal) w h x g (ix2 r e) = x (ix2 r e) + g (ix3 0 0 e) * ∑ d : Fin 2048, h (ix2 r d) * w (ix2 d e) := by
  pointwise [k0_pay2]

/-- What the point writes, once the rows are known. -/
theorem cols (h : FVec Ideal S1024x2048 .bf16) (hh : ∀ (r : Fin 1024) (d : Fin 2048), h (ix2 r d) = H m c (row t r) d) (r : Fin 1024) (e : Fin 512) :
    k0_pay2 (F := Ideal) (iblk m c 1 t) h (iblk m c 2 t) (iblk m c 3 t) (ix2 r e)
      = gated (X m c) (G m c) (times (H m c) (W m c)) (row t r) (col t e) :=
  (pay_at _ _ _ _ r e).trans (congrArg₂ (· + ·) (blkx m c t r e) (congrArg₂ (· * ·) (blkg m c t r e)
    (Finset.sum_congr rfl fun d _ => congrArg₂ (· * ·) (hh r d) (blkw m c t d e))))

/-- What the point keeps for the next, and what it writes. -/
abbrev Kept : Prop := ∀ (r : Fin 1024) (d : Fin 2048), (outsAt0 m c t.val t.isLt).2 (ix2 r d) = H m c (row t r) d
abbrev Wrote : Prop := ∀ (r : Fin 1024) (e : Fin 512),
  (outsAt0 m c t.val t.isLt).1 (ix2 r e) = gated (X m c) (G m c) (times (H m c) (W m c)) (row t r) (col t e)

theorem pay1_at (v : FVec Ideal S1024x2048 .bf16) (r : Fin 1024) (d : Fin 2048) : k0_pay1 (F := Ideal) v (ix2 r d) = v (ix2 r d) := by
  pointwise [k0_pay1]

theorem A1 (h0 : t.val % 4 = 0) : Kept m c t := by
  intro r d
  rw [outsAt0_A m c t h0]
  frame_out
  exact (pay1_at _ r d).trans (blkz m c t r d)

theorem A0 (h0 : t.val % 4 = 0) : Wrote m c t := by
  intro r e
  rw [outsAt0_A m c t h0]
  frame_out
  exact cols m c t _ (fun r d => (pay1_at _ r d).trans (blkz m c t r d)) r e

theorem B1 (h0 : ¬ t.val % 4 = 0) : (outsAt0 m c t.val t.isLt).2 = (outsAt0 m c (t.val - 1) (by omega)).2 := by
  rw [outsAt0_B m c t h0]
  frame_out
  unfold sout0_B_0
  rfl

theorem B0 (h0 : ¬ t.val % 4 = 0)
    (k : ∀ (r : Fin 1024) (d : Fin 2048), (outsAt0 m c (t.val - 1) (by omega)).2 (ix2 r d) = H m c (row t r) d) : Wrote m c t := by
  intro r e
  rw [outsAt0_B m c t h0]
  frame_out
  refine cols m c t _ (fun r d => ?_) r e
  rw [read_unread_whole]
  exact k r d

/-- The point before holds the same rows. -/
theorem same (h0 : ¬ t.val % 4 = 0) (h : t.val - 1 < cfg0.N) (r : Fin 1024) : row (⟨t.val - 1, h⟩ : Fin cfg0.N) r = row t r :=
  Fin.ext (by show (t.val - 1) / 4 * 1024 + r.val = t.val / 4 * 1024 + r.val; omega)

/-- Every point keeps its rows and writes their columns. -/
theorem all : ∀ (n : Nat) (h : n < cfg0.N), Kept m c ⟨n, h⟩ ∧ Wrote m c ⟨n, h⟩ := by
  intro n
  induction n with
  | zero => exact fun h => ⟨A1 m c ⟨0, h⟩ rfl, A0 m c ⟨0, h⟩ rfl⟩
  | succ n ih =>
    intro h
    by_cases h0 : (n + 1) % 4 = 0
    · exact ⟨A1 m c ⟨n + 1, h⟩ h0, A0 m c ⟨n + 1, h⟩ h0⟩
    · have k : ∀ (r : Fin 1024) (d : Fin 2048), (outsAt0 m c n (by omega)).2 (ix2 r d) = H m c (row ⟨n + 1, h⟩ r) d := fun r d => by
        rw [← same ⟨n + 1, h⟩ h0 (Nat.lt_of_succ_lt h) r]
        exact (ih (Nat.lt_of_succ_lt h)).1 r d
      exact ⟨fun r d => (congrFun (B1 m c ⟨n + 1, h⟩ h0) (ix2 r d)).trans (k r d), B0 m c ⟨n + 1, h⟩ h0 k⟩

theorem point (y : S1024x512.Idx) : (outsAt0 m c t.val t.isLt).1 y
    = out (X m c) (G m c) (times (H m c) (W m c)) (((cfg0.win 4).blk t).view.emb y) := by
  obtain ⟨r, e, rfl⟩ : ∃ (r : Fin 1024) (e : Fin 512), y = ix2 r e := ⟨y 0, y 1, by funext a; match a with | 0 => rfl | 1 => rfl⟩
  have ht := tlt t
  have e0 : (((cfg0.win 4).blk t).view.emb (ix2 r e) 0).val = t.val / 4 * 1024 + r.val := by blk_simp [idx t]
  have e1 : (((cfg0.win 4).blk t).view.emb (ix2 r e) 1).val = t.val % 4 * 512 + e.val := by blk_simp [idx t]
  exact ((all m c t.val t.isLt).2 r e).trans (out_of _ _ _ _ (row t r) (col t e) e0 e1).symm

/-- What the launch writes is the result. -/
theorem final : (dats m 0 c).arrAt 4 cfg0.N = out (X m c) (G m c) (times (H m c) (W m c)) := by
  refine (dats m 0 c).arrAt_eq_of_covers 4 _ (by decide +kernel) fun t _ y => ?_
  blk_simp
  rw [after0_4]
  exact point m c t y

end Cert.MixOutIdeal.Out

end

end
-- ==== Proof.Out.Combine.lean ====
module

public import proofs.«01_k».proof.Proof.Gen.CombineIdeal.Frame
public import proofs.«01_k».proof.Proof.Out.Spec
public import Idealize.ShloMosaic.Lib.Pipeline.ValueKit
public import Idealize.ShloMosaic.Lib.Pipeline.ReadBack
public import Idealize.ShloMosaic.Lib.Pointwise
public import Idealize.ShloMosaic.Lib.StableHlo.ReadAt
public import Idealize.ShloMosaic.Lib.Claim

@[expose] public section

set_option maxRecDepth 16384

/-! The experts' outputs weighted and added: what the launch writes, index by index. -/

noncomputable section
open Idealize.ShloMosaic Idealize.ShloMosaic.TcCoe Idealize.SL.Sem
open Idealize.ShloMosaic.Pipeline (Dat)
namespace Cert.CombineIdeal.Out
open Cert.CombineIdeal Cert.CombineIdeal.Gen
open Cert.OutSpec
variable (m : (ℓ : Loc nD τ sig) → Buf (Elt Ideal) ℓ) (c : Dev nD)

/-- The arguments, as the memory holds them. -/
abbrev A : FVec Ideal ⟨2, ![32768, 2048]⟩ .bf16 := m ((c : Thread nD τ).loc main_arg0)
abbrev B : FVec Ideal ⟨2, ![32768, 2048]⟩ .bf16 := m ((c : Thread nD τ).loc main_arg1)
abbrev P : FVec Ideal ⟨2, ![32768, 2]⟩ .f32 := m ((c : Thread nD τ).loc main_arg2)
abbrev X : FVec Ideal ⟨3, ![2, 16384, 2048]⟩ .f32 := m ((c : Thread nD τ).loc main_arg3)
abbrev G : FVec Ideal ⟨2, ![2, 2048]⟩ .f32 := m ((c : Thread nD τ).loc main_arg4)

/-- The stream by its rows, -/
theorem x_at (r : Fin 32768) (e : Fin 2048) :
    (show FVec Ideal S32768x2048 .f32 from V m c main_v0) (ix2 r e) = X m c (ix3 ⟨r.val / 16384, by omega⟩ ⟨r.val % 16384, by omega⟩ e) := by
  unfold V
  simp only [hostOps0, List.flatten_cons, List.flatten_nil, List.append_nil, List.cons_append, List.nil_append]
  entry_read
  pointwise []

/-- the gate -/
theorem g_at (b : Fin 2) (u : Fin 1) (e : Fin 2048) :
    (show FVec Ideal S2x1x2048 .f32 from V m c main_v1) (ix3 b u e) = G m c (ix2 b e) := by
  unfold V
  simp only [hostOps0, List.flatten_cons, List.flatten_nil, List.append_nil, List.cons_append, List.nil_append]
  entry_read
  pointwise []

/-- The first expert's outputs, -/
theorem a_at (r : Fin 32768) (e : Fin 2048) :
    (show FVec Ideal S32768x2048 .bf16 from V m c main_arg0) (ix2 r e) = A m c (ix2 r e) := by
  unfold V
  simp only [hostOps0, List.flatten_cons, List.flatten_nil, List.append_nil, List.cons_append, List.nil_append]
  entry_read
  rfl

/-- the second's -/
theorem b_at (r : Fin 32768) (e : Fin 2048) :
    (show FVec Ideal S32768x2048 .bf16 from V m c main_arg1) (ix2 r e) = B m c (ix2 r e) := by
  unfold V
  simp only [hostOps0, List.flatten_cons, List.flatten_nil, List.append_nil, List.cons_append, List.nil_append]
  entry_read
  rfl

/-- and their weights. -/
theorem p_at (r : Fin 32768) (k : Fin 2) :
    (show FVec Ideal S32768x2 .f32 from V m c main_arg2) (ix2 r k) = P m c (ix2 r k) := by
  unfold V
  simp only [hostOps0, List.flatten_cons, List.flatten_nil, List.append_nil, List.cons_append, List.nil_append]
  entry_read
  rfl

/-- The blocks each grid point reads and writes. -/
theorem idx : ∀ t : Fin cfg0.N,
    win0_0.index t = ![t.val, 0] ∧
    win0_1.index t = ![t.val, 0] ∧
    win0_2.index t = ![t.val, 0] ∧
    win0_3.index t = ![t.val, 0] ∧
    win0_4.index t = ![t.val / 32, 0, 0] ∧
    win0_5.index t = ![t.val, 0] := (by decide +kernel : ∀ t : Fin grid0.N, _)

variable (t : Fin cfg0.N)

theorem tlt : t.val < 64 := lt_of_lt_of_eq t.isLt N_0

/-- The row of the arrays that row `r` of the point's tile is. -/
abbrev row (r : Fin 512) : Fin 32768 := ⟨t.val * 512 + r.val, by have := tlt t; omega⟩

/-- The first expert's outputs, -/
theorem blka (r : Fin 512) (d : Fin 2048) :
    (show FVec Ideal S512x2048 .bf16 from iblk m c 0 t) (ix2 r d) = A m c (ix2 (row t r) d) := by
  have := tlt t
  have h : (show FVec Ideal S512x2048 .bf16 from iblk m c 0 t) (ix2 r d) = (show FVec Ideal S32768x2048 .bf16 from V m c main_arg0) (ix2 (row t r) d) := by
    blk_point [iblk, idx t]
  rw [h, a_at]

/-- the second's -/
theorem blkb (r : Fin 512) (d : Fin 2048) :
    (show FVec Ideal S512x2048 .bf16 from iblk m c 1 t) (ix2 r d) = B m c (ix2 (row t r) d) := by
  have := tlt t
  have h : (show FVec Ideal S512x2048 .bf16 from iblk m c 1 t) (ix2 r d) = (show FVec Ideal S32768x2048 .bf16 from V m c main_arg1) (ix2 (row t r) d) := by
    blk_point [iblk, idx t]
  rw [h, b_at]

/-- and their weights, -/
theorem blkp (r : Fin 512) (k : Fin 2) :
    (show FVec Ideal S512x2 .f32 from iblk m c 2 t) (ix2 r k) = P m c (ix2 (row t r) k) := by
  have := tlt t
  have h : (show FVec Ideal S512x2 .f32 from iblk m c 2 t) (ix2 r k) = (show FVec Ideal S32768x2 .f32 from V m c main_arg2) (ix2 (row t r) k) := by
    blk_point [iblk, idx t]
  rw [h, p_at]

/-- the stream -/
theorem blkx (r : Fin 512) (d : Fin 2048) :
    (show FVec Ideal S512x2048 .f32 from iblk m c 3 t) (ix2 r d) = X m c (ix3 ⟨(row t r).val / 16384, by omega⟩ ⟨(row t r).val % 16384, by omega⟩ d) := by
  have := tlt t
  have h : (show FVec Ideal S512x2048 .f32 from iblk m c 3 t) (ix2 r d) = (show FVec Ideal S32768x2048 .f32 from V m c main_v0) (ix2 (row t r) d) := by
    blk_point [iblk, idx t]
  rw [h, x_at]

/-- and its gate. -/
theorem blkg (r : Fin 512) (d : Fin 2048) :
    (show FVec Ideal S1x1x2048 .f32 from iblk m c 4 t) (ix3 0 0 d) = G m c (ix2 ⟨(row t r).val / 16384, by omega⟩ d) := by
  have := tlt t
  have h : (show FVec Ideal S1x1x2048 .f32 from iblk m c 4 t) (ix3 0 0 d) = (show FVec Ideal S2x1x2048 .f32 from V m c main_v1) (ix3 ⟨t.val / 32, by omega⟩ 0 d) := by
    blk_point [iblk, idx t]
  rw [h, g_at]
  exact congrArg (fun b : Fin 2 => G m c (ix2 b d)) (Fin.ext (by show t.val / 32 = (t.val * 512 + r.val) / 16384; omega))

/-- What the body computes of a tile. -/
theorem pay_at (p : FVec Ideal S512x2 .f32) (a b : FVec Ideal S512x2048 .bf16) (x : FVec Ideal S512x2048 .f32) (g : FVec Ideal S1x1x2048 .f32) (r : Fin 512) (d : Fin 2048) :
    k0_pay1 (F := Ideal) p a b x g (ix2 r d)
      = x (ix2 r d) + g (ix3 0 0 d) * (a (ix2 r d) * p (ix2 r 0) + b (ix2 r d) * p (ix2 r 1)) := by
  pointwise [k0_pay1]

theorem wrote (r : Fin 512) (d : Fin 2048) :
    k0_pay1 (F := Ideal) (iblk m c 2 t) (iblk m c 0 t) (iblk m c 1 t) (iblk m c 3 t) (iblk m c 4 t) (ix2 r d)
      = gated (X m c) (G m c) (mixed (A m c) (B m c) (P m c)) (row t r) d :=
  (pay_at _ _ _ _ _ r d).trans (congrArg₂ (· + ·) (blkx m c t r d) (congrArg₂ (· * ·) (blkg m c t r d)
    (congrArg₂ (· + ·) (congrArg₂ (· * ·) (blka m c t r d) (blkp m c t r 0)) (congrArg₂ (· * ·) (blkb m c t r d) (blkp m c t r 1)))))

theorem point (y : S512x2048.Idx) :
    out0_5 (F := Ideal) (iblk m c 0 t) (iblk m c 1 t) (iblk m c 2 t) (iblk m c 3 t) (iblk m c 4 t) y
      = out (X m c) (G m c) (mixed (A m c) (B m c) (P m c)) (((cfg0.win 5).blk t).view.emb y) := by
  obtain ⟨r, d, rfl⟩ : ∃ (r : Fin 512) (d : Fin 2048), y = ix2 r d := ⟨y 0, y 1, by funext a; match a with | 0 => rfl | 1 => rfl⟩
  have ht := tlt t
  have e0 : (((cfg0.win 5).blk t).view.emb (ix2 r d) 0).val = t.val * 512 + r.val := by blk_simp [idx t]
  have e1 : (((cfg0.win 5).blk t).view.emb (ix2 r d) 1).val = d.val := by blk_simp [idx t]
  refine Eq.trans ?_ ((wrote m c t r d).trans (out_of _ _ _ _ (row t r) d e0 e1).symm)
  unfold out0_5
  frame_out

/-- What the launch writes is the result. -/
theorem final : (dats m 0 c).arrAt 5 cfg0.N = out (X m c) (G m c) (mixed (A m c) (B m c) (P m c)) := by
  refine (dats m 0 c).arrAt_eq_of_covers 5 _ (by decide +kernel) fun t _ y => ?_
  blk_simp
  rw [after0_5]
  exact point m c t y

end Cert.CombineIdeal.Out

end

end
-- ==== Proof.Out.Ref.lean ====
module

public import proofs.«01_k».proof.Proof.Gen.AttnOutRefIdeal.Read
public import proofs.«01_k».proof.Proof.Gen.MixOutRefIdeal.Read
public import proofs.«01_k».proof.Proof.Gen.CombineRefIdeal.Read
public import proofs.«01_k».proof.Proof.Out.Spec
public import Idealize.ShloMosaic.Lib.Pipeline.ValueKit
public import Idealize.ShloMosaic.Lib.Pointwise
public import Idealize.ShloMosaic.Lib.Claim

@[expose] public section

set_option maxRecDepth 16384

/-! The references' results: every entry is `Out.Spec`'s. -/

noncomputable section
open Idealize.ShloMosaic Idealize.ShloMosaic.TcCoe Idealize.SL.Sem
namespace Cert.OutRef
open Cert.OutSpec

section attn
open Cert.AttnOutRefIdeal Cert.AttnOutRefIdeal.Gen Cert.AttnOutRefIdeal.Read
variable (a b : FVec Ideal ⟨2, ![32768, 1024]⟩ .bf16) (w : FVec Ideal ⟨2, ![2048, 2048]⟩ .f32)
  (x : FVec Ideal ⟨3, ![2, 16384, 2048]⟩ .f32) (g : FVec Ideal ⟨2, ![2, 2048]⟩ .f32)

theorem attn_rows (r : Fin 32768) (d : Fin 2048) : val_main_v1 (F := Ideal) a b (ix2 r d) = beside a b r d := by
  pointwise [val_main_v1, val_main_v0]
  rfl

theorem attn_row (p : Fin 2) (q : Fin 16384) (d : Fin 2048) :
    val_main_v2 (F := Ideal) a b (ix3 p q d) = beside a b ⟨p.val * 16384 + q.val, by omega⟩ d := by
  rw [← attn_rows]
  unfold val_main_v2
  generalize val_main_v1 (F := Ideal) a b = y
  pointwise []

/-- The attentions' output projection. -/
theorem attn : val_main_v8 (F := Ideal) a b w x g = out x g (times (beside a b) w) := by
  funext j
  obtain ⟨r, e, rfl⟩ : ∃ (r : Fin 32768) (e : Fin 2048), j = ix2 r e := ⟨j 0, j 1, by funext a; match a with | 0 => rfl | 1 => rfl⟩
  show _ = gated x g (times (beside a b) w) r e
  unfold val_main_v8 val_main_v7 val_main_v6 val_main_v5 val_main_v4 val_main_v3 gated times
  have h := attn_row a b
  generalize val_main_v2 (F := Ideal) a b = y at h
  pointwise []
  simp only [h]
  have e0 : (⟨r.val / 16384 * 16384 + r.val % 16384, by omega⟩ : Fin 32768) = r := Fin.ext (by show r.val / 16384 * 16384 + r.val % 16384 = r.val; omega)
  rw [e0]
end attn

section mix
open Cert.MixOutRefIdeal Cert.MixOutRefIdeal.Gen Cert.MixOutRefIdeal.Read
variable (z : FVec Ideal ⟨3, ![2, 16384, 2048]⟩ .bf16) (w : FVec Ideal ⟨2, ![2048, 2048]⟩ .f32)
  (x : FVec Ideal ⟨3, ![2, 16384, 2048]⟩ .f32) (g : FVec Ideal ⟨2, ![2, 2048]⟩ .f32)

/-- The recurrence's output projection. -/
theorem mix : val_main_v6 (F := Ideal) z w x g = out x g (times (rows z) w) := by
  funext j
  obtain ⟨r, e, rfl⟩ : ∃ (r : Fin 32768) (e : Fin 2048), j = ix2 r e := ⟨j 0, j 1, by funext a; match a with | 0 => rfl | 1 => rfl⟩
  show _ = gated x g (times (rows z) w) r e
  unfold gated times
  pointwise [val_main_v6, val_main_v5, val_main_v4, val_main_v3, val_main_v2, val_main_v1, val_main_v0]
  rfl
end mix

section combine
open Cert.CombineRefIdeal Cert.CombineRefIdeal.Gen Cert.CombineRefIdeal.Read
variable (a b : FVec Ideal ⟨2, ![32768, 2048]⟩ .bf16) (p : FVec Ideal ⟨2, ![32768, 2]⟩ .f32)
  (x : FVec Ideal ⟨3, ![2, 16384, 2048]⟩ .f32) (g : FVec Ideal ⟨2, ![2, 2048]⟩ .f32)

theorem pair_at (r : Fin 32768) (e : Fin 2048) : val_main_v8 (F := Ideal) a b p (ix2 r e) = mixed a b p r e := by
  unfold val_main_v8
  pointwise [val_main_v6, val_main_v5, val_main_v4, val_main_v3, val_main_v2, val_main_v1, val_main_v0, val_main_cst]
  rw [Fin.sum_univ_one, Fin.sum_univ_one]
  rfl

/-- The experts' outputs weighted and added. -/
theorem combine : val_main_v13 (F := Ideal) a b p x g = out x g (mixed a b p) := by
  funext j
  obtain ⟨r, e, rfl⟩ : ∃ (r : Fin 32768) (e : Fin 2048), j = ix2 r e := ⟨j 0, j 1, by funext a; match a with | 0 => rfl | 1 => rfl⟩
  show _ = gated x g (mixed a b p) r e
  unfold gated val_main_v13 val_main_v12 val_main_v11 val_main_v10 val_main_v9 val_main_v7
  have h := pair_at a b p
  generalize val_main_v8 (F := Ideal) a b p = y at h
  pointwise []
  simp only [h]
end combine

end Cert.OutRef

end

end
-- ==== Proof.Qkv.Spec.lean ====
module

public import Idealize.ShloMosaic.Lib.Pipeline.ValueKit
public import Idealize.ShloMosaic.Lib.Pointwise

@[expose] public section

/-! The attention layer's input projection, index by index: the modulated norm of the sequence times the weights, each head of
    the queries and keys normalized, and the window attention's turned by the position's row and column. -/

noncomputable section
open Idealize.ShloMosaic
namespace Cert.QkvSpec

/-- The arguments: the sequence, the weights, the norm's weights, the scale and the shift, and the gains of the four kinds of
    normalized heads. -/
structure In where
  x : FVec Ideal ⟨3, ![2, 16384, 2048]⟩ .f32
  w : FVec Ideal ⟨2, ![2048, 4608]⟩ .f32
  g : FVec Ideal ⟨1, ![2048]⟩ .f32
  sc : FVec Ideal ⟨2, ![2, 2048]⟩ .f32
  sh : FVec Ideal ⟨2, ![2, 2048]⟩ .f32
  aq : FVec Ideal ⟨1, ![128]⟩ .f32
  ak : FVec Ideal ⟨1, ![128]⟩ .f32
  bq : FVec Ideal ⟨1, ![128]⟩ .f32
  bk : FVec Ideal ⟨1, ![128]⟩ .f32

/-- The angles each position's row and column turn by. -/
structure Angles where
  row : Fin 16384 → Fin 32 → EReal
  col : Fin 16384 → Fin 32 → EReal

/-- The width of a row, the width of a head and the norm's epsilon. -/
abbrev width : EReal := Ideal.ofBits FTy.f32 1157627904#32
abbrev width128 : EReal := Ideal.ofBits FTy.f32 1124073472#32
abbrev eps : EReal := Ideal.ofBits FTy.f32 897988541#32

/-- A row's normalizer and a head's. -/
def scale (f : Fin 2048 → EReal) : EReal := Ideal.rsqrt (Ideal.div (∑ d, f d * f d) width + eps)
def scale128 (f : Fin 128 → EReal) : EReal := Ideal.rsqrt (Ideal.div (∑ d, f d * f d) width128 + eps)

/-- A head, normalized. -/
def normed (G y : Fin 128 → EReal) (l : Fin 128) : EReal := y l * scale128 y * G l

/-- The lane a lane is turned with: the other half of its half of the head. -/
def partner (l : Fin 128) : Fin 128 := if l.val % 64 < 32 then ⟨(l.val + 128 - 96) % 128, by omega⟩ else ⟨(l.val + 128 - 32) % 128, by omega⟩

/-- A head, turned. -/
def turned (C S y : Fin 128 → EReal) (l : Fin 128) : EReal := y l * C l + y (partner l) * S l

variable (T : Angles) (I : In)

/-- The angle of a lane, its cosine, and its sine with the sign of the lane. -/
def ang (t : Fin 16384) (l : Fin 128) : EReal :=
  if l.val < 64 then T.row t ⟨l.val % 32, by omega⟩ else T.col t ⟨l.val % 32, by omega⟩
def cosT (t : Fin 16384) (l : Fin 128) : EReal := Ideal.cos (ang T t l)
def sinT (t : Fin 16384) (l : Fin 128) : EReal := if l.val % 64 < 32 then -Ideal.sin (ang T t l) else Ideal.sin (ang T t l)

/-- A head turned, by its quarters. -/
theorem turned_eq (t : Fin 16384) (y : Fin 128 → EReal) (l : Fin 128) : turned (cosT T t) (sinT T t) y l =
    if h : l.val < 64 then
      if h' : l.val < 32 then
        y l * Ideal.cos (T.row t ⟨l.val, h'⟩) - y ⟨32 + l.val, by omega⟩ * Ideal.sin (T.row t ⟨l.val, h'⟩)
      else
        y ⟨l.val - 32, by omega⟩ * Ideal.sin (T.row t ⟨l.val - 32, by omega⟩)
          + y ⟨32 + (l.val - 32), by omega⟩ * Ideal.cos (T.row t ⟨l.val - 32, by omega⟩)
    else
      if h' : l.val - 64 < 32 then
        y ⟨64 + (l.val - 64), by omega⟩ * Ideal.cos (T.col t ⟨l.val - 64, h'⟩)
          - y ⟨64 + (32 + (l.val - 64)), by omega⟩ * Ideal.sin (T.col t ⟨l.val - 64, h'⟩)
      else
        y ⟨64 + (l.val - 64 - 32), by omega⟩ * Ideal.sin (T.col t ⟨l.val - 64 - 32, by omega⟩)
          + y ⟨64 + (32 + (l.val - 64 - 32)), by omega⟩ * Ideal.cos (T.col t ⟨l.val - 64 - 32, by omega⟩) := by
  have hl := l.isLt
  unfold turned partner cosT sinT ang
  split_ifs with h1 h2 h3 h3 <;> first | omega | skip
  · have e1 : (⟨l.val % 32, by omega⟩ : Fin 32) = ⟨l.val, by omega⟩ := Fin.ext (by show l.val % 32 = l.val; omega)
    have e2 : (⟨(l.val + 128 - 96) % 128, by omega⟩ : Fin 128) = ⟨32 + l.val, by omega⟩ := Fin.ext (by show (l.val + 128 - 96) % 128 = 32 + l.val; omega)
    rw [e1, e2, mul_neg, ← sub_eq_add_neg]
  · have e1 : (⟨l.val % 32, by omega⟩ : Fin 32) = ⟨l.val - 32, by omega⟩ := Fin.ext (by show l.val % 32 = l.val - 32; omega)
    have e2 : (⟨(l.val + 128 - 32) % 128, by omega⟩ : Fin 128) = ⟨l.val - 32, by omega⟩ := Fin.ext (by show (l.val + 128 - 32) % 128 = l.val - 32; omega)
    have e3 : (⟨32 + (l.val - 32), by omega⟩ : Fin 128) = l := Fin.ext (by show 32 + (l.val - 32) = l.val; omega)
    rw [e1, e2, e3, add_comm]
  · have e1 : (⟨l.val % 32, by omega⟩ : Fin 32) = ⟨l.val - 64, by omega⟩ := Fin.ext (by show l.val % 32 = l.val - 64; omega)
    have e2 : (⟨(l.val + 128 - 96) % 128, by omega⟩ : Fin 128) = ⟨64 + (32 + (l.val - 64)), by omega⟩ := Fin.ext (by show (l.val + 128 - 96) % 128 = 64 + (32 + (l.val - 64)); omega)
    have e3 : (⟨64 + (l.val - 64), by omega⟩ : Fin 128) = l := Fin.ext (by show 64 + (l.val - 64) = l.val; omega)
    rw [e1, e2, e3, mul_neg, ← sub_eq_add_neg]
  · have e1 : (⟨l.val % 32, by omega⟩ : Fin 32) = ⟨l.val - 64 - 32, by omega⟩ := Fin.ext (by show l.val % 32 = l.val - 64 - 32; omega)
    have e2 : (⟨(l.val + 128 - 32) % 128, by omega⟩ : Fin 128) = ⟨64 + (l.val - 64 - 32), by omega⟩ := Fin.ext (by show (l.val + 128 - 32) % 128 = 64 + (l.val - 64 - 32); omega)
    have e3 : (⟨64 + (32 + (l.val - 64 - 32)), by omega⟩ : Fin 128) = l := Fin.ext (by show 64 + (32 + (l.val - 64 - 32)) = l.val; omega)
    rw [e1, e2, e3, add_comm]

/-- The cosines and sines, by their quarters. -/
theorem cos_eq (t : Fin 16384) (l : Fin 128) : cosT T t l =
    if h : l.val < 32 then Ideal.cos (T.row t ⟨l.val, h⟩)
    else if h : l.val - 32 < 32 then Ideal.cos (T.row t ⟨l.val - 32, h⟩)
    else if h : l.val - 32 - 32 < 32 then Ideal.cos (T.col t ⟨l.val - 32 - 32, h⟩)
    else Ideal.cos (T.col t ⟨l.val - 32 - 32 - 32, by omega⟩) := by
  have hl := l.isLt
  unfold cosT ang
  by_cases c0 : l.val < 32
  · have e : (⟨l.val % 32, by omega⟩ : Fin 32) = ⟨l.val, by omega⟩ := Fin.ext (by show l.val % 32 = l.val; omega)
    rw [dif_pos c0, if_pos (by omega), e]
  rw [dif_neg c0]
  by_cases c1 : l.val - 32 < 32
  · have e : (⟨l.val % 32, by omega⟩ : Fin 32) = ⟨l.val - 32, by omega⟩ := Fin.ext (by show l.val % 32 = l.val - 32; omega)
    rw [dif_pos c1, if_pos (by omega), e]
  rw [dif_neg c1]
  by_cases c2 : l.val - 32 - 32 < 32
  · have e : (⟨l.val % 32, by omega⟩ : Fin 32) = ⟨l.val - 32 - 32, by omega⟩ := Fin.ext (by show l.val % 32 = l.val - 32 - 32; omega)
    rw [dif_pos c2, if_neg (by omega), e]
  rw [dif_neg c2]
  have e : (⟨l.val % 32, by omega⟩ : Fin 32) = ⟨l.val - 32 - 32 - 32, by omega⟩ := Fin.ext (by show l.val % 32 = l.val - 32 - 32 - 32; omega)
  rw [if_neg (by omega), e]

theorem sin_eq (t : Fin 16384) (l : Fin 128) : sinT T t l =
    if h : l.val < 32 then -Ideal.sin (T.row t ⟨l.val, h⟩)
    else if h : l.val - 32 < 32 then Ideal.sin (T.row t ⟨l.val - 32, h⟩)
    else if h : l.val - 32 - 32 < 32 then -Ideal.sin (T.col t ⟨l.val - 32 - 32, h⟩)
    else Ideal.sin (T.col t ⟨l.val - 32 - 32 - 32, by omega⟩) := by
  have hl := l.isLt
  unfold sinT ang
  by_cases c0 : l.val < 32
  · have e : (⟨l.val % 32, by omega⟩ : Fin 32) = ⟨l.val, by omega⟩ := Fin.ext (by show l.val % 32 = l.val; omega)
    rw [dif_pos c0, if_pos (by omega), if_pos (by omega), e]
  rw [dif_neg c0]
  by_cases c1 : l.val - 32 < 32
  · have e : (⟨l.val % 32, by omega⟩ : Fin 32) = ⟨l.val - 32, by omega⟩ := Fin.ext (by show l.val % 32 = l.val - 32; omega)
    rw [dif_pos c1, if_neg (by omega), if_pos (by omega), e]
  rw [dif_neg c1]
  by_cases c2 : l.val - 32 - 32 < 32
  · have e : (⟨l.val % 32, by omega⟩ : Fin 32) = ⟨l.val - 32 - 32, by omega⟩ := Fin.ext (by show l.val % 32 = l.val - 32 - 32; omega)
    rw [dif_pos c2, if_pos (by omega), if_neg (by omega), e]
  rw [dif_neg c2]
  have e : (⟨l.val % 32, by omega⟩ : Fin 32) = ⟨l.val - 32 - 32 - 32, by omega⟩ := Fin.ext (by show l.val % 32 = l.val - 32 - 32 - 32; omega)
  rw [if_neg (by omega), if_neg (by omega), e]

/-- The modulated norm, its projection and the projection's heads. -/
def hAt (b : Fin 2) (t : Fin 16384) (d : Fin 2048) : EReal :=
  I.x (ix3 b t d) * scale (fun d => I.x (ix3 b t d)) * I.g (ix1 d) * (1 + I.sc (ix2 b d)) + I.sh (ix2 b d)
def proj (b : Fin 2) (t : Fin 16384) (e : Fin 4608) : EReal := ∑ d, hAt I b t d * I.w (ix2 d e)
def head (b : Fin 2) (t : Fin 16384) (n : Fin 36) (l : Fin 128) : EReal := proj I b t ⟨n.val * 128 + l.val, by omega⟩

/-- The gain of a head. -/
def gain (n : Fin 36) (l : Fin 128) : EReal :=
  if n.val < 8 then I.aq (ix1 l) else if n.val < 10 then I.ak (ix1 l) else if n.val < 12 then 1
  else if n.val < 20 then I.bq (ix1 l) else if n.val < 28 then I.bk (ix1 l) else 1

/-- A head as it is written. -/
def written (b : Fin 2) (t : Fin 16384) (n : Fin 36) (l : Fin 128) : EReal :=
  if n.val < 10 then turned (cosT T t) (sinT T t) (normed (gain I n) (head I b t n)) l
  else if 12 ≤ n.val ∧ n.val < 28 then normed (gain I n) (head I b t n) l
  else head I b t n l

/-- The result by its rows and columns, -/
def at_ (r : Fin 32768) (e : Fin 4608) : EReal :=
  written T I ⟨r.val / 16384, by omega⟩ ⟨r.val % 16384, by omega⟩ ⟨e.val / 128, by omega⟩ ⟨e.val % 128, by omega⟩

/-- and as an array. -/
def out : FVec Ideal ⟨2, ![32768, 4608]⟩ .bf16 := fun i => at_ T I ⟨(i 0).val, (i 0).isLt⟩ ⟨(i 1).val, (i 1).isLt⟩

theorem out_of (i : Shape.Idx ⟨2, ![32768, 4608]⟩) (r : Fin 32768) (e : Fin 4608) (h0 : (i 0).val = r.val) (h1 : (i 1).val = e.val) :
    out T I i = at_ T I r e :=
  congrArg₂ (at_ T I) (Fin.ext h0) (Fin.ext h1)

end Cert.QkvSpec

end

end
-- ==== Proof.Qkv.Body.lean ====
module

public import proofs.«01_k».proof.Proof.Gen.QkvIdeal.Frame
public import Idealize.ShloMosaic.Lib.Pipeline.ValueKit
public import Idealize.ShloMosaic.Lib.Pipeline.ReadBack
public import Idealize.ShloMosaic.Lib.Pointwise
public import proofs.«01_k».proof.Proof.Qkv.Spec

@[expose] public section

set_option maxRecDepth 16384

/-! What the kernel's body computes of a tile of rows and four heads, index by index. -/

noncomputable section
open Idealize.ShloMosaic Idealize.ShloMosaic.TcCoe Idealize.SL.Sem
open Idealize.ShloMosaic.Pipeline (Dat)
namespace Cert.QkvIdeal.Qkv
open Cert.QkvIdeal Cert.QkvIdeal.Gen
open Cert.QkvSpec

theorem pay1_at (x : FVec Ideal S1024x2048 .f32) (g : FVec Ideal S1x2048 .f32) (sc sh : FVec Ideal S1x1x2048 .f32) (r : Fin 1024) (d : Fin 2048) :
    k0_pay1 (F := Ideal) x g sc sh (ix2 r d)
      = x (ix2 r d) * scale (fun d => x (ix2 r d)) * g (ix2 0 d) * (1 + sc (ix3 0 0 d)) + sh (ix3 0 0 d) := by
  unfold scale
  pointwise [k0_pay1]

theorem pay2_at (h : FVec Ideal S1024x2048 .bf16) (w : FVec Ideal S2048x512 .bf16) (r : Fin 1024) (e : Fin 512) :
    k0_pay2 (F := Ideal) h w (ix2 r e) = ∑ x : Fin 2048, h (ix2 r x) * w (ix2 x e) := by
  pointwise [k0_pay2]

section heads
variable (v : FVec Ideal S1024x512 .f32) (G : FVec Ideal S1x128 .f32) (C S : FVec Ideal S1024x128 .f32) (r : Fin 1024) (l : Fin 128)

/-- The four normalized heads. -/
theorem pay18_at : k0_pay18 (F := Ideal) v G (ix2 r l) = normed (fun k => G (ix2 0 k)) (fun k => v (ix2 r ⟨k.val, by omega⟩)) l := by
  unfold normed scale128
  pointwise [k0_pay18]

theorem pay23_at : k0_pay23 (F := Ideal) v G (ix2 r l) = normed (fun k => G (ix2 0 k)) (fun k => v (ix2 r ⟨128 + k.val, by omega⟩)) l := by
  unfold normed scale128
  pointwise [k0_pay23]

theorem pay33_at : k0_pay33 (F := Ideal) v G (ix2 r l) = normed (fun k => G (ix2 0 k)) (fun k => v (ix2 r ⟨256 + k.val, by omega⟩)) l := by
  unfold normed scale128
  pointwise [k0_pay33]

theorem pay36_at : k0_pay36 (F := Ideal) v G (ix2 r l) = normed (fun k => G (ix2 0 k)) (fun k => v (ix2 r ⟨384 + k.val, by omega⟩)) l := by
  unfold normed scale128
  pointwise [k0_pay36]

/-- Whether a lane is in the first half of its half of the head. -/
theorem first_at (r : Fin 1024) (l : Fin 128) : k0_pay34 (ix2 r l) = BitVec.ofBool (decide (l.val % 64 < 32)) := by
  pointwise [k0_pay34]
  revert l
  decide +kernel

theorem pay35_at (y : FVec Ideal S1024x128 .f32) :
    k0_pay35 (F := Ideal) y k0_pay34 C S (ix2 r l) = turned (fun k => C (ix2 r k)) (fun k => S (ix2 r k)) (fun k => y (ix2 r k)) l := by
  have h := first_at r l
  generalize k0_pay34 = p at h
  unfold turned partner
  pointwise [k0_pay35]
  rw [h, WordCmp.select_decide]
  split_ifs <;> rfl

theorem turn0 : k0_pay22 (F := Ideal) (k0_pay19 v G) (k0_pay20 v G C) (k0_pay21 S) = k0_pay35 (k0_pay18 v G) k0_pay34 C S := rfl
theorem turn1 : k0_pay9 (F := Ideal) (k0_pay23 v G) (k0_pay24 v G) C S = k0_pay35 (k0_pay23 v G) k0_pay34 C S := rfl
theorem turn0' : k0_pay29 (F := Ideal) (k0_pay26 v G) (k0_pay27 v G C) (k0_pay28 S) = k0_pay35 (k0_pay18 v G) k0_pay34 C S := rfl
theorem turn1' : k0_pay32 (F := Ideal) (k0_pay30 v G) (k0_pay31 v G) C S = k0_pay35 (k0_pay23 v G) k0_pay34 C S := rfl
theorem turn3 : k0_pay12 (F := Ideal) (k0_pay36 v G) 64#32 k0_pay37 k0_pay38 k0_pay39 C S
    = k0_pay35 (k0_pay36 v G) k0_pay34 C S := rfl
theorem norm0 : k0_pay13 (F := Ideal) v G (ix2 r l) = k0_pay18 (F := Ideal) v G (ix2 r l) := rfl
theorem norm1 : k0_pay14 (F := Ideal) v G (ix2 r l) = k0_pay23 (F := Ideal) v G (ix2 r l) := rfl
theorem norm2 : k0_pay3 (F := Ideal) (k0_pay15 v) (k0_pay16 v) k0_pay17 G (ix2 r l) = k0_pay33 (F := Ideal) v G (ix2 r l) := rfl

end heads

section plain
variable (h : FVec Ideal S1024x2048 .bf16) (w : FVec Ideal S2048x512 .bf16) (G : FVec Ideal S1x128 .f32) (r : Fin 1024) (l : Fin 128)

theorem norm3 : k0_pay4 (F := Ideal) h w G (ix2 r l) = k0_pay36 (F := Ideal) (k0_pay2 h w) G (ix2 r l) := rfl
theorem plain0 : k0_pay5 (F := Ideal) h w (ix2 r l) = k0_pay2 (F := Ideal) h w (ix2 r ⟨l.val, by omega⟩) := by
  unfold k0_pay5
  generalize k0_pay2 (F := Ideal) h w = v
  pointwise []
theorem plain1 : k0_pay6 (F := Ideal) h w (ix2 r l) = k0_pay2 (F := Ideal) h w (ix2 r ⟨128 + l.val, by omega⟩) := by
  unfold k0_pay6
  generalize k0_pay2 (F := Ideal) h w = v
  pointwise []
theorem plain2 : k0_pay7 (F := Ideal) h w (ix2 r l) = k0_pay2 (F := Ideal) h w (ix2 r ⟨256 + l.val, by omega⟩) := by
  unfold k0_pay7
  generalize k0_pay2 (F := Ideal) h w = v
  pointwise []
theorem plain3 : k0_pay8 (F := Ideal) h w (ix2 r l) = k0_pay2 (F := Ideal) h w (ix2 r ⟨384 + l.val, by omega⟩) := by
  unfold k0_pay8
  generalize k0_pay2 (F := Ideal) h w = v
  pointwise []
theorem plain2' : k0_pay10 (F := Ideal) h w = k0_pay7 h w := rfl
theorem plain3' : k0_pay11 (F := Ideal) h w = k0_pay8 h w := rfl
end plain

/-- Four heads side by side. -/
theorem four_at (p0 p1 p2 p3 : FVec Ideal S1024x128 .bf16) (r : Fin 1024) (e : Fin 512) :
    View.canon (Val := Elt Ideal) (s := S1024x512) (e := .bf16)
      [⟨Rect.unit ![0, 384] ![1024, 128] inb_S1024x512_S1024x128_0_384, p3⟩,
        ⟨Rect.unit ![0, 256] ![1024, 128] inb_S1024x512_S1024x128_0_256, p2⟩,
        ⟨Rect.unit ![0, 128] ![1024, 128] inb_S1024x512_S1024x128_0_128, p1⟩,
        ⟨Rect.unit ![0, 0] ![1024, 128] inb_S1024x512_S1024x128_0_0, p0⟩] (ix2 r e)
      = if h : e.val < 128 then p0 (ix2 r ⟨e.val, h⟩)
        else if h' : e.val < 256 then p1 (ix2 r ⟨e.val - 128, by omega⟩)
        else if h'' : e.val < 384 then p2 (ix2 r ⟨e.val - 256, by omega⟩)
        else p3 (ix2 r ⟨e.val - 384, by omega⟩) := by
  have he := e.isLt
  canon_tiles x h
  · replace h0 : r.val = (x 0).val := h0
    replace h1 : e.val = 384 + (x 1).val := h1
    obtain ⟨x0, x1, rfl⟩ : ∃ (x0 : Fin 1024) (x1 : Fin 128), x = ix2 x0 x1 := ⟨x 0, x 1, by funext a; match a with | 0 => rfl | 1 => rfl⟩
    replace h0 : r.val = x0.val := h0
    replace h1 : e.val = 384 + x1.val := h1
    rw [dif_neg (by omega), dif_neg (by omega), dif_neg (by omega)]
    exact congrArg p3 (congrArg₂ ix2 (Fin.ext h0.symm) (Fin.ext (by show x1.val = e.val - 384; omega)))
  · replace h0 : r.val = (x 0).val := h0
    replace h1 : e.val = 256 + (x 1).val := h1
    obtain ⟨x0, x1, rfl⟩ : ∃ (x0 : Fin 1024) (x1 : Fin 128), x = ix2 x0 x1 := ⟨x 0, x 1, by funext a; match a with | 0 => rfl | 1 => rfl⟩
    replace h0 : r.val = x0.val := h0
    replace h1 : e.val = 256 + x1.val := h1
    have := x1.isLt
    rw [dif_neg (by omega), dif_neg (by omega), dif_pos (by omega)]
    exact congrArg p2 (congrArg₂ ix2 (Fin.ext h0.symm) (Fin.ext (by show x1.val = e.val - 256; omega)))
  · replace h0 : r.val = (x 0).val := h0
    replace h1 : e.val = 128 + (x 1).val := h1
    obtain ⟨x0, x1, rfl⟩ : ∃ (x0 : Fin 1024) (x1 : Fin 128), x = ix2 x0 x1 := ⟨x 0, x 1, by funext a; match a with | 0 => rfl | 1 => rfl⟩
    replace h0 : r.val = x0.val := h0
    replace h1 : e.val = 128 + x1.val := h1
    have := x1.isLt
    rw [dif_neg (by omega), dif_pos (by omega)]
    exact congrArg p1 (congrArg₂ ix2 (Fin.ext h0.symm) (Fin.ext (by show x1.val = e.val - 128; omega)))
  · replace h0 : r.val = (x 0).val := h0
    obtain ⟨x0, x1, rfl⟩ : ∃ (x0 : Fin 1024) (x1 : Fin 128), x = ix2 x0 x1 := ⟨x 0, x 1, by funext a; match a with | 0 => rfl | 1 => rfl⟩
    replace h0 : r.val = x0.val := h0
    replace h1 : e.val = x1.val := h1
    have := x1.isLt
    rw [dif_pos (by omega)]
    exact congrArg p0 (congrArg₂ ix2 (Fin.ext h0.symm) (Fin.ext h1.symm))

end Cert.QkvIdeal.Qkv

end

end
-- ==== Proof.Qkv.Ref.lean ====
module

public import proofs.«01_k».proof.Proof.Gen.QkvRefIdeal.Read
public import proofs.«01_k».proof.Proof.Qkv.Spec
public import Idealize.ShloMosaic.Lib.Pipeline.ValueKit
public import Idealize.ShloMosaic.Lib.Pointwise
public import Idealize.ShloMosaic.Lib.Claim

@[expose] public section

set_option maxRecDepth 16384

/-! The reference's result, stage by stage: every entry is `Qkv.Spec`'s. -/

noncomputable section
open Idealize.ShloMosaic Idealize.ShloMosaic.TcCoe Idealize.SL.Sem
namespace Cert.QkvRefIdeal.Qkv
open Cert.QkvRefIdeal Cert.QkvRefIdeal.Gen Cert.QkvRefIdeal.Read
open Cert.QkvSpec
variable (I : In)

/-- The angles the reference turns by. -/
abbrev angles : Angles where
  row t k := val_main_v62 (F := Ideal) (ix2 t k)
  col t k := val_main_v86 (F := Ideal) (ix2 t k)

/-- The angle of a row or column, for one of the frequencies. -/
def angleOf (W : BitVec 32) (k : Nat) : EReal :=
  FloatOps.sitofp (F := Ideal) FTy.f32 W * Ideal.pow (Ideal.ofBits FTy.f32 1176256512#32)
    (Ideal.div (-FloatOps.sitofp (F := Ideal) FTy.f32 (BitVec.ofNat 32 k)) (Ideal.ofBits FTy.f32 1107296256#32))

theorem row_eq (t : Fin 16384) (k : Fin 32) : val_main_v62 (F := Ideal) (ix2 t k) = angleOf (val_main_v1 (F := Ideal) (ix1 t)) k.val := by
  unfold val_main_v62 val_main_v61 val_main_v60 val_main_v59 val_main_v58 val_main_v57 angleOf
  generalize val_main_v1 (F := Ideal) = y
  pointwise [val_main_v55, val_main_v54, val_main_v53, val_main_v52, val_main_v51, val_main_v50, val_main_cst_7, val_main_cst_8]

theorem col_eq (t : Fin 16384) (k : Fin 32) : val_main_v86 (F := Ideal) (ix2 t k) = angleOf (val_main_v2 (F := Ideal) (ix1 t)) k.val := by
  unfold val_main_v86 val_main_v85 val_main_v84 val_main_v83 val_main_v82 val_main_v81 angleOf
  generalize val_main_v2 (F := Ideal) = y
  pointwise [val_main_v55, val_main_v54, val_main_v53, val_main_v52, val_main_v51, val_main_v50, val_main_cst_7, val_main_cst_8]

theorem cos_words (t : Fin 16384) (l : Fin 128) : cosT angles t l =
    if h : l.val < 32 then Ideal.cos (angleOf (val_main_v1 (F := Ideal) (ix1 t)) (l.val))
    else if h : l.val - 32 < 32 then Ideal.cos (angleOf (val_main_v1 (F := Ideal) (ix1 t)) (l.val - 32))
    else if h : l.val - 32 - 32 < 32 then Ideal.cos (angleOf (val_main_v2 (F := Ideal) (ix1 t)) (l.val - 32 - 32))
    else Ideal.cos (angleOf (val_main_v2 (F := Ideal) (ix1 t)) (l.val - 32 - 32 - 32)) :=
  (cos_eq angles t l).trans (dite_congr rfl (fun _ => congrArg Ideal.cos (row_eq t _)) fun _ => dite_congr rfl (fun _ => congrArg Ideal.cos (row_eq t _)) fun _ =>
    dite_congr rfl (fun _ => congrArg Ideal.cos (col_eq t _)) fun _ => congrArg Ideal.cos (col_eq t _))

theorem sin_words (t : Fin 16384) (l : Fin 128) : sinT angles t l =
    if h : l.val < 32 then -Ideal.sin (angleOf (val_main_v1 (F := Ideal) (ix1 t)) (l.val))
    else if h : l.val - 32 < 32 then Ideal.sin (angleOf (val_main_v1 (F := Ideal) (ix1 t)) (l.val - 32))
    else if h : l.val - 32 - 32 < 32 then -Ideal.sin (angleOf (val_main_v2 (F := Ideal) (ix1 t)) (l.val - 32 - 32))
    else Ideal.sin (angleOf (val_main_v2 (F := Ideal) (ix1 t)) (l.val - 32 - 32 - 32)) :=
  (sin_eq angles t l).trans (dite_congr rfl (fun _ => congrArg (fun x => -Ideal.sin x) (row_eq t _)) fun _ => dite_congr rfl (fun _ => congrArg Ideal.sin (row_eq t _)) fun _ =>
    dite_congr rfl (fun _ => congrArg (fun x => -Ideal.sin x) (col_eq t _)) fun _ => congrArg Ideal.sin (col_eq t _))

/-- The second turn's angles are the first's. -/
theorem row' : val_main_v130 (F := Ideal) = val_main_v62 (F := Ideal) := rfl
theorem col' : val_main_v154 (F := Ideal) = val_main_v86 (F := Ideal) := rfl

/-- The modulated norm, -/
theorem h_at (b : Fin 2) (t : Fin 16384) (d : Fin 2048) : val_main_v23 (F := Ideal) I.x I.g I.sc I.sh (ix3 b t d) = hAt I b t d := by
  unfold hAt scale
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_cst_1, val_main_cst_2, val_main_cst_3, val_main_cst]

/-- and its projection. -/
theorem p_at (b : Fin 2) (t : Fin 16384) (e : Fin 4608) : val_main_v24 (F := Ideal) I.x I.w I.g I.sc I.sh (ix3 b t e) = proj I b t e := by
  unfold val_main_v24 proj
  have h := h_at I
  generalize val_main_v23 (F := Ideal) I.x I.g I.sc I.sh = y at h
  pointwise []
  simp only [h]

theorem head31 (b : Fin 2) (t : Fin 16384) (n : Fin 8) (l : Fin 128) :
    val_main_v31 (F := Ideal) I.x I.w I.g I.sc I.sh (ix4 b t n l) = head I b t ⟨0 + n.val, by omega⟩ l := by
  unfold val_main_v31 val_main_v25 head
  have h := p_at I
  generalize val_main_v24 (F := Ideal) I.x I.w I.g I.sc I.sh = y at h
  pointwise []
  rw [h]

theorem head32 (b : Fin 2) (t : Fin 16384) (n : Fin 2) (l : Fin 128) :
    val_main_v32 (F := Ideal) I.x I.w I.g I.sc I.sh (ix4 b t n l) = head I b t ⟨8 + n.val, by omega⟩ l := by
  unfold val_main_v32 val_main_v26 head
  have h := p_at I
  generalize val_main_v24 (F := Ideal) I.x I.w I.g I.sc I.sh = y at h
  pointwise []
  rw [h]
  exact congrArg (proj I b t) (Fin.ext (by show 1024 + (n.val * 128 + l.val) = (8 + n.val) * 128 + l.val; omega))

theorem head33 (b : Fin 2) (t : Fin 16384) (n : Fin 2) (l : Fin 128) :
    val_main_v33 (F := Ideal) I.x I.w I.g I.sc I.sh (ix4 b t n l) = head I b t ⟨10 + n.val, by omega⟩ l := by
  unfold val_main_v33 val_main_v27 head
  have h := p_at I
  generalize val_main_v24 (F := Ideal) I.x I.w I.g I.sc I.sh = y at h
  pointwise []
  rw [h]
  exact congrArg (proj I b t) (Fin.ext (by show 1280 + (n.val * 128 + l.val) = (10 + n.val) * 128 + l.val; omega))

theorem head34 (b : Fin 2) (t : Fin 16384) (n : Fin 8) (l : Fin 128) :
    val_main_v34 (F := Ideal) I.x I.w I.g I.sc I.sh (ix4 b t n l) = head I b t ⟨12 + n.val, by omega⟩ l := by
  unfold val_main_v34 val_main_v28 head
  have h := p_at I
  generalize val_main_v24 (F := Ideal) I.x I.w I.g I.sc I.sh = y at h
  pointwise []
  rw [h]
  exact congrArg (proj I b t) (Fin.ext (by show 1536 + (n.val * 128 + l.val) = (12 + n.val) * 128 + l.val; omega))

theorem head35 (b : Fin 2) (t : Fin 16384) (n : Fin 8) (l : Fin 128) :
    val_main_v35 (F := Ideal) I.x I.w I.g I.sc I.sh (ix4 b t n l) = head I b t ⟨20 + n.val, by omega⟩ l := by
  unfold val_main_v35 val_main_v29 head
  have h := p_at I
  generalize val_main_v24 (F := Ideal) I.x I.w I.g I.sc I.sh = y at h
  pointwise []
  rw [h]
  exact congrArg (proj I b t) (Fin.ext (by show 2560 + (n.val * 128 + l.val) = (20 + n.val) * 128 + l.val; omega))

theorem head36 (b : Fin 2) (t : Fin 16384) (n : Fin 8) (l : Fin 128) :
    val_main_v36 (F := Ideal) I.x I.w I.g I.sc I.sh (ix4 b t n l) = head I b t ⟨28 + n.val, by omega⟩ l := by
  unfold val_main_v36 val_main_v30 head
  have h := p_at I
  generalize val_main_v24 (F := Ideal) I.x I.w I.g I.sc I.sh = y at h
  pointwise []
  rw [h]
  exact congrArg (proj I b t) (Fin.ext (by show 3584 + (n.val * 128 + l.val) = (28 + n.val) * 128 + l.val; omega))

theorem norm49 (b : Fin 2) (t : Fin 16384) (n : Fin 8) (l : Fin 128) :
    val_main_v49 (F := Ideal) I.x I.w I.g I.sc I.sh I.aq (ix4 b t n l)
      = normed (fun k => I.aq (ix1 k)) (fun k => val_main_v31 (F := Ideal) I.x I.w I.g I.sc I.sh (ix4 b t n k)) l := by
  unfold val_main_v49 val_main_v48 val_main_v47 val_main_v46 val_main_v45 val_main_v44 val_main_v43 val_main_v42 val_main_v41 val_main_v40 val_main_v39 val_main_v38 val_main_v37 val_main_cst_4 val_main_cst_5 val_main_cst_6 normed scale128
  generalize val_main_v31 (F := Ideal) I.x I.w I.g I.sc I.sh = y
  pointwise []

theorem norm117 (b : Fin 2) (t : Fin 16384) (n : Fin 2) (l : Fin 128) :
    val_main_v117 (F := Ideal) I.x I.w I.g I.sc I.sh I.ak (ix4 b t n l)
      = normed (fun k => I.ak (ix1 k)) (fun k => val_main_v32 (F := Ideal) I.x I.w I.g I.sc I.sh (ix4 b t n k)) l := by
  unfold val_main_v117 val_main_v116 val_main_v115 val_main_v114 val_main_v113 val_main_v112 val_main_v111 val_main_v110 val_main_v109 val_main_v108 val_main_v107 val_main_v106 val_main_v105 val_main_cst_9 val_main_cst_10 val_main_cst_11 normed scale128
  generalize val_main_v32 (F := Ideal) I.x I.w I.g I.sc I.sh = y
  pointwise []

theorem norm185 (b : Fin 2) (t : Fin 16384) (n : Fin 8) (l : Fin 128) :
    val_main_v185 (F := Ideal) I.x I.w I.g I.sc I.sh I.bq (ix4 b t n l)
      = normed (fun k => I.bq (ix1 k)) (fun k => val_main_v34 (F := Ideal) I.x I.w I.g I.sc I.sh (ix4 b t n k)) l := by
  unfold val_main_v185 val_main_v184 val_main_v183 val_main_v182 val_main_v181 val_main_v180 val_main_v179 val_main_v178 val_main_v177 val_main_v176 val_main_v175 val_main_v174 val_main_v173 val_main_cst_14 val_main_cst_15 val_main_cst_16 normed scale128
  generalize val_main_v34 (F := Ideal) I.x I.w I.g I.sc I.sh = y
  pointwise []

theorem norm198 (b : Fin 2) (t : Fin 16384) (n : Fin 8) (l : Fin 128) :
    val_main_v198 (F := Ideal) I.x I.w I.g I.sc I.sh I.bk (ix4 b t n l)
      = normed (fun k => I.bk (ix1 k)) (fun k => val_main_v35 (F := Ideal) I.x I.w I.g I.sc I.sh (ix4 b t n k)) l := by
  unfold val_main_v198 val_main_v197 val_main_v196 val_main_v195 val_main_v194 val_main_v193 val_main_v192 val_main_v191 val_main_v190 val_main_v189 val_main_v188 val_main_v187 val_main_v186 val_main_cst_17 val_main_cst_18 val_main_cst_19 normed scale128
  generalize val_main_v35 (F := Ideal) I.x I.w I.g I.sc I.sh = y
  pointwise []

theorem turn104 (b : Fin 2) (t : Fin 16384) (n : Fin 8) (l : Fin 128) :
    val_main_v104 (F := Ideal) I.x I.w I.g I.sc I.sh I.aq (ix4 b t n l)
      = turned (cosT angles t) (sinT angles t) (fun k => val_main_v49 (F := Ideal) I.x I.w I.g I.sc I.sh I.aq (ix4 b t n k)) l := by
  rw [turned_eq]
  unfold val_main_v104 val_main_v103 val_main_v102 val_main_v101 val_main_v100 val_main_v99 val_main_v98 val_main_v97 val_main_v96 val_main_v95 val_main_v94 val_main_v93 val_main_v92 val_main_v91 val_main_v90 val_main_v89 val_main_v88 val_main_v87 val_main_v80 val_main_v79 val_main_v78 val_main_v77 val_main_v76 val_main_v75 val_main_v74 val_main_v73 val_main_v72 val_main_v71 val_main_v70 val_main_v69 val_main_v68 val_main_v67 val_main_v66 val_main_v65 val_main_v64 val_main_v63 val_main_v56
  generalize val_main_v49 (F := Ideal) I.x I.w I.g I.sc I.sh I.aq = y
  unfold angles
  generalize val_main_v62 (F := Ideal) = p
  generalize val_main_v86 (F := Ideal) = q
  pointwise []

theorem turn172 (b : Fin 2) (t : Fin 16384) (n : Fin 2) (l : Fin 128) :
    val_main_v172 (F := Ideal) I.x I.w I.g I.sc I.sh I.ak (ix4 b t n l)
      = turned (cosT angles t) (sinT angles t) (fun k => val_main_v117 (F := Ideal) I.x I.w I.g I.sc I.sh I.ak (ix4 b t n k)) l := by
  rw [turned_eq]
  unfold val_main_v172 val_main_v171 val_main_v170 val_main_v169 val_main_v168 val_main_v167 val_main_v166 val_main_v165 val_main_v164 val_main_v163 val_main_v162 val_main_v161 val_main_v160 val_main_v159 val_main_v158 val_main_v157 val_main_v156 val_main_v155 val_main_v148 val_main_v147 val_main_v146 val_main_v145 val_main_v144 val_main_v143 val_main_v142 val_main_v141 val_main_v140 val_main_v139 val_main_v138 val_main_v137 val_main_v136 val_main_v135 val_main_v134 val_main_v133 val_main_v132 val_main_v131 val_main_v124
  generalize val_main_v117 (F := Ideal) I.x I.w I.g I.sc I.sh I.ak = y
  rw [row', col']
  unfold angles
  generalize val_main_v62 (F := Ideal) = p
  generalize val_main_v86 (F := Ideal) = q
  pointwise []

theorem written0 (b : Fin 2) (t : Fin 16384) (n : Fin 8) (l : Fin 128) :
    val_main_v104 (F := Ideal) I.x I.w I.g I.sc I.sh I.aq (ix4 b t n l) = written angles I b t ⟨0 + n.val, by omega⟩ l := by
  have hn := n.isLt
  rw [turn104]
  unfold written
  rw [if_pos (by show 0 + n.val < 10; omega)]
  exact congrArg (fun y => turned (cosT angles t) (sinT angles t) y l) (funext fun k' => (norm49 I b t n k').trans (congrArg₂ (fun G y => normed G y k') (funext fun k => (by unfold gain; dsimp only; split_ifs <;> first | rfl | omega)) (funext fun k => head31 I b t n k)))

theorem written1 (b : Fin 2) (t : Fin 16384) (n : Fin 2) (l : Fin 128) :
    val_main_v172 (F := Ideal) I.x I.w I.g I.sc I.sh I.ak (ix4 b t n l) = written angles I b t ⟨8 + n.val, by omega⟩ l := by
  have hn := n.isLt
  rw [turn172]
  unfold written
  rw [if_pos (by show 8 + n.val < 10; omega)]
  exact congrArg (fun y => turned (cosT angles t) (sinT angles t) y l) (funext fun k' => (norm117 I b t n k').trans (congrArg₂ (fun G y => normed G y k') (funext fun k => (by unfold gain; dsimp only; split_ifs <;> first | rfl | omega)) (funext fun k => head32 I b t n k)))

theorem written2 (b : Fin 2) (t : Fin 16384) (n : Fin 2) (l : Fin 128) :
    val_main_v33 (F := Ideal) I.x I.w I.g I.sc I.sh (ix4 b t n l) = written angles I b t ⟨10 + n.val, by omega⟩ l := by
  have hn := n.isLt
  unfold written
  rw [if_neg (by show ¬ 10 + n.val < 10; omega), if_neg (by show ¬ (12 ≤ 10 + n.val ∧ 10 + n.val < 28); omega)]
  exact head33 I b t n l

theorem written3 (b : Fin 2) (t : Fin 16384) (n : Fin 8) (l : Fin 128) :
    val_main_v185 (F := Ideal) I.x I.w I.g I.sc I.sh I.bq (ix4 b t n l) = written angles I b t ⟨12 + n.val, by omega⟩ l := by
  have hn := n.isLt
  unfold written
  rw [if_neg (by show ¬ 12 + n.val < 10; omega), if_pos (by show 12 ≤ 12 + n.val ∧ 12 + n.val < 28; omega)]
  exact (norm185 I b t n l).trans (congrArg₂ (fun G y => normed G y l) (funext fun k => (by unfold gain; dsimp only; split_ifs <;> first | rfl | omega)) (funext fun k => head34 I b t n k))

theorem written4 (b : Fin 2) (t : Fin 16384) (n : Fin 8) (l : Fin 128) :
    val_main_v198 (F := Ideal) I.x I.w I.g I.sc I.sh I.bk (ix4 b t n l) = written angles I b t ⟨20 + n.val, by omega⟩ l := by
  have hn := n.isLt
  unfold written
  rw [if_neg (by show ¬ 20 + n.val < 10; omega), if_pos (by show 12 ≤ 20 + n.val ∧ 20 + n.val < 28; omega)]
  exact (norm198 I b t n l).trans (congrArg₂ (fun G y => normed G y l) (funext fun k => (by unfold gain; dsimp only; split_ifs <;> first | rfl | omega)) (funext fun k => head35 I b t n k))

theorem written5 (b : Fin 2) (t : Fin 16384) (n : Fin 8) (l : Fin 128) :
    val_main_v36 (F := Ideal) I.x I.w I.g I.sc I.sh (ix4 b t n l) = written angles I b t ⟨28 + n.val, by omega⟩ l := by
  have hn := n.isLt
  unfold written
  rw [if_neg (by show ¬ 28 + n.val < 10; omega), if_neg (by show ¬ (12 ≤ 28 + n.val ∧ 28 + n.val < 28); omega)]
  exact head36 I b t n l

/-- The result, entry by entry, -/
theorem whole (r : Fin 32768) (e : Fin 4608) : val_main_v207 (F := Ideal) I.x I.w I.g I.sc I.sh I.aq I.ak I.bq I.bk (ix2 r e) = at_ angles I r e := by
  have he := e.isLt
  unfold val_main_v207 val_main_v206 val_main_v205 val_main_v204 val_main_v203 val_main_v202 val_main_v201 val_main_v200 val_main_v199
  have h0 := written0 I
  generalize val_main_v104 (F := Ideal) I.x I.w I.g I.sc I.sh I.aq = p0 at h0
  have h1 := written1 I
  generalize val_main_v172 (F := Ideal) I.x I.w I.g I.sc I.sh I.ak = p1 at h1
  have h2 := written2 I
  generalize val_main_v33 (F := Ideal) I.x I.w I.g I.sc I.sh = p2 at h2
  have h3 := written3 I
  generalize val_main_v185 (F := Ideal) I.x I.w I.g I.sc I.sh I.bq = p3 at h3
  have h4 := written4 I
  generalize val_main_v198 (F := Ideal) I.x I.w I.g I.sc I.sh I.bk = p4 at h4
  have h5 := written5 I
  generalize val_main_v36 (F := Ideal) I.x I.w I.g I.sc I.sh = p5 at h5
  pointwise []
  unfold at_
  by_cases c0 : e.val < 1024
  · rw [dif_pos c0, h0]
    exact congrArg₂ (written angles I _ _) (Fin.ext (by show 0 + e.val / 128 = e.val / 128; omega)) (Fin.ext (by show e.val % 128 = e.val % 128; omega))
  rw [dif_neg c0]
  by_cases c1 : e.val - 1024 < 256
  · rw [dif_pos c1, h1]
    exact congrArg₂ (written angles I _ _) (Fin.ext (by show 8 + (e.val - 1024) / 128 = e.val / 128; omega)) (Fin.ext (by show (e.val - 1024) % 128 = e.val % 128; omega))
  rw [dif_neg c1]
  by_cases c2 : e.val - 1024 - 256 < 256
  · rw [dif_pos c2, h2]
    exact congrArg₂ (written angles I _ _) (Fin.ext (by show 10 + (e.val - 1024 - 256) / 128 = e.val / 128; omega)) (Fin.ext (by show (e.val - 1024 - 256) % 128 = e.val % 128; omega))
  rw [dif_neg c2]
  by_cases c3 : e.val - 1024 - 256 - 256 < 1024
  · rw [dif_pos c3, h3]
    exact congrArg₂ (written angles I _ _) (Fin.ext (by show 12 + (e.val - 1024 - 256 - 256) / 128 = e.val / 128; omega)) (Fin.ext (by show (e.val - 1024 - 256 - 256) % 128 = e.val % 128; omega))
  rw [dif_neg c3]
  by_cases c4 : e.val - 1024 - 256 - 256 - 1024 < 1024
  · rw [dif_pos c4, h4]
    exact congrArg₂ (written angles I _ _) (Fin.ext (by show 20 + (e.val - 1024 - 256 - 256 - 1024) / 128 = e.val / 128; omega)) (Fin.ext (by show (e.val - 1024 - 256 - 256 - 1024) % 128 = e.val % 128; omega))
  rw [dif_neg c4]
  rw [h5]
  exact congrArg₂ (written angles I _ _) (Fin.ext (by show 28 + (e.val - 1024 - 256 - 256 - 1024 - 1024) / 128 = e.val / 128; omega)) (Fin.ext (by show (e.val - 1024 - 256 - 256 - 1024 - 1024) % 128 = e.val % 128; omega))

/-- and as an array. -/
theorem result : val_main_v207 (F := Ideal) I.x I.w I.g I.sc I.sh I.aq I.ak I.bq I.bk = out angles I := by
  funext j
  obtain ⟨r, e, rfl⟩ : ∃ (r : Fin 32768) (e : Fin 4608), j = ix2 r e := ⟨j 0, j 1, by funext a; match a with | 0 => rfl | 1 => rfl⟩
  exact whole I r e

end Cert.QkvRefIdeal.Qkv

end

end
-- ==== Proof.Qkv.Host.lean ====
module

public import proofs.«01_k».proof.Proof.Qkv.Body
public import proofs.«01_k».proof.Proof.Qkv.Ref
public import Idealize.ShloMosaic.Lib.Claim
public import Idealize.ShloMosaic.Lib.Tactic.CleanTypes
public import Idealize.ShloMosaic.Lib.StableHlo.ReadAt

@[expose] public section

set_option maxRecDepth 16384
set_option maxHeartbeats 400000

/-! What the host hands to the launch, as the arguments' entries and the angles. -/

noncomputable section
open Idealize.ShloMosaic Idealize.ShloMosaic.TcCoe Idealize.SL.Sem
open Idealize.ShloMosaic.Pipeline (Dat)
namespace Cert.QkvIdeal.Qkv
open Cert.QkvIdeal Cert.QkvIdeal.Gen
open Cert.QkvSpec
open Cert.QkvRefIdeal.Qkv (angles)
variable (m : (ℓ : Loc nD τ sig) → Buf (Elt Ideal) ℓ)

/-- The arguments, as the memory holds them. -/
abbrev args (c : Dev nD) : In where
  x := m ((c : Thread nD τ).loc main_arg0)
  w := m ((c : Thread nD τ).loc main_arg1)
  g := m ((c : Thread nD τ).loc main_arg2)
  sc := m ((c : Thread nD τ).loc main_arg3)
  sh := m ((c : Thread nD τ).loc main_arg4)
  aq := m ((c : Thread nD τ).loc main_arg5)
  ak := m ((c : Thread nD τ).loc main_arg6)
  bq := m ((c : Thread nD τ).loc main_arg7)
  bk := m ((c : Thread nD τ).loc main_arg8)

variable (c : Dev nD)

/-- The sequence by its rows, -/
theorem x_at (r : Fin 32768) (d : Fin 2048) :
    (show FVec Ideal S32768x2048 .f32 from V m c main_v0) (ix2 r d) = (args m c).x (ix3 ⟨r.val / 16384, by omega⟩ ⟨r.val % 16384, by omega⟩ d) := by
  unfold V
  simp only [hostOps0, hostOps0_1, hostOps0_2, hostOps0_3, hostOps0_4,
    List.flatten_cons, List.flatten_nil, List.append_nil, List.cons_append, List.nil_append]
  entry_read
  pointwise []

/-- the weights, -/
theorem w_at (d : Fin 2048) (e : Fin 4608) :
    (show FVec Ideal S2048x4608 .bf16 from V m c main_v58) (ix2 d e) = (args m c).w (ix2 d e) := by
  unfold V
  simp only [hostOps0, hostOps0_1, hostOps0_2, hostOps0_3, hostOps0_4,
    List.flatten_cons, List.flatten_nil, List.append_nil, List.cons_append, List.nil_append]
  entry_read
  pointwise []

/-- the norm's weights, -/
theorem g_at (u : Fin 1) (d : Fin 2048) :
    (show FVec Ideal S1x2048 .f32 from V m c main_v55) (ix2 u d) = (args m c).g (ix1 d) := by
  unfold V
  simp only [hostOps0, hostOps0_1, hostOps0_2, hostOps0_3, hostOps0_4,
    List.flatten_cons, List.flatten_nil, List.append_nil, List.cons_append, List.nil_append]
  entry_read
  pointwise []

/-- the scale -/
theorem sc_at (b : Fin 2) (u : Fin 1) (d : Fin 2048) :
    (show FVec Ideal S2x1x2048 .f32 from V m c main_v56) (ix3 b u d) = (args m c).sc (ix2 b d) := by
  unfold V
  simp only [hostOps0, hostOps0_1, hostOps0_2, hostOps0_3, hostOps0_4,
    List.flatten_cons, List.flatten_nil, List.append_nil, List.cons_append, List.nil_append]
  entry_read
  pointwise []

/-- and the shift. -/
theorem sh_at (b : Fin 2) (u : Fin 1) (d : Fin 2048) :
    (show FVec Ideal S2x1x2048 .f32 from V m c main_v57) (ix3 b u d) = (args m c).sh (ix2 b d) := by
  unfold V
  simp only [hostOps0, hostOps0_1, hostOps0_2, hostOps0_3, hostOps0_4,
    List.flatten_cons, List.flatten_nil, List.append_nil, List.cons_append, List.nil_append]
  entry_read
  pointwise []

/-- Which gain stands at a head's column. -/
theorem ladder (I : In) (n : Fin 36) (l : Fin 128) :
    (if h : n.val * 128 + l.val < 1024 then I.aq (ix1 l)
    else if h : n.val * 128 + l.val - 1024 < 256 then I.ak (ix1 ⟨(n.val * 128 + l.val - 1024) % 128, by omega⟩)
    else if h : n.val * 128 + l.val - 1024 - 256 < 256 then 1
    else if h : n.val * 128 + l.val - 1024 - 256 - 256 < 1024 then I.bq (ix1 ⟨(n.val * 128 + l.val - 1024 - 256 - 256) % 128, by omega⟩)
    else if h : n.val * 128 + l.val - 1024 - 256 - 256 - 1024 < 1024 then I.bk (ix1 ⟨(n.val * 128 + l.val - 1024 - 256 - 256 - 1024) % 128, by omega⟩)
    else 1) = gain I n l := by
  unfold gain
  by_cases c0 : n.val < 8
  · rw [dif_pos (by omega), if_pos c0]
  rw [dif_neg (by omega), if_neg c0]
  by_cases c1 : n.val < 10
  · rw [dif_pos (by omega), if_pos c1]
    exact congrArg (fun k => I.ak (ix1 k)) (Fin.ext (by show (n.val * 128 + l.val - 1024) % 128 = l.val; omega))
  rw [dif_neg (by omega), if_neg c1]
  by_cases c2 : n.val < 12
  · rw [dif_pos (by omega), if_pos c2]
  rw [dif_neg (by omega), if_neg c2]
  by_cases c3 : n.val < 20
  · rw [dif_pos (by omega), if_pos c3]
    exact congrArg (fun k => I.bq (ix1 k)) (Fin.ext (by show (n.val * 128 + l.val - 1024 - 256 - 256) % 128 = l.val; omega))
  rw [dif_neg (by omega), if_neg c3]
  by_cases c4 : n.val < 28
  · rw [dif_pos (by omega), if_pos c4]
    exact congrArg (fun k => I.bk (ix1 k)) (Fin.ext (by show (n.val * 128 + l.val - 1024 - 256 - 256 - 1024) % 128 = l.val; omega))
  rw [dif_neg (by omega), if_neg c4]

/-- The heads' gains side by side. -/
theorem gain_at (u : Fin 1) (n : Fin 36) (l : Fin 128) :
    (show FVec Ideal S1x4608 .f32 from V m c main_v21) (ix2 u ⟨n.val * 128 + l.val, by omega⟩) = gain (args m c) n l := by
  unfold V
  simp only [hostOps0, hostOps0_1, hostOps0_2, hostOps0_3, hostOps0_4,
    List.flatten_cons, List.flatten_nil, List.append_nil, List.cons_append, List.nil_append]
  repeat after_reads_at
  exact ladder (args m c) n l

/-- The cosines. -/
theorem cos_at (t : Fin 16384) (l : Fin 128) :
    (show FVec Ideal S16384x128 .f32 from V m c main_v47) (ix2 t l) = cosT angles t l := by
  unfold V
  simp only [hostOps0, hostOps0_1, hostOps0_2, hostOps0_3, hostOps0_4,
    List.flatten_cons, List.flatten_nil, List.append_nil, List.cons_append, List.nil_append]
  repeat after_reads_at
  exact (Cert.QkvRefIdeal.Qkv.cos_words t l).symm

/-- The sines. -/
theorem sin_at (t : Fin 16384) (l : Fin 128) :
    (show FVec Ideal S16384x128 .f32 from V m c main_v54) (ix2 t l) = sinT angles t l := by
  unfold V
  simp only [hostOps0, hostOps0_1, hostOps0_2, hostOps0_3, hostOps0_4,
    List.flatten_cons, List.flatten_nil, List.append_nil, List.cons_append, List.nil_append]
  repeat after_reads_at
  exact (Cert.QkvRefIdeal.Qkv.sin_words t l).symm

end Cert.QkvIdeal.Qkv

end

end
-- ==== Proof.Qkv.Block.lean ====
module

public import proofs.«01_k».proof.Proof.Qkv.Host

@[expose] public section

set_option maxRecDepth 16384
set_option maxHeartbeats 400000

/-! What each grid point of the launch reads, and what its parts come to. -/

noncomputable section
open Idealize.ShloMosaic Idealize.ShloMosaic.TcCoe Idealize.SL.Sem
open Idealize.ShloMosaic.Pipeline (Dat)
namespace Cert.QkvIdeal.Qkv
open Cert.QkvIdeal Cert.QkvIdeal.Gen
open Cert.QkvSpec
open Cert.QkvRefIdeal.Qkv (angles)
variable (m : (ℓ : Loc nD τ sig) → Buf (Elt Ideal) ℓ) (c : Dev nD)

/-- The blocks each grid point reads and writes. -/
theorem idx : ∀ t : Fin cfg0.N,
    win0_0.index t = ![t.val / 9, 0] ∧
    win0_1.index t = ![0, 0] ∧
    win0_2.index t = ![t.val / 144, 0, 0] ∧
    win0_3.index t = ![t.val / 144, 0, 0] ∧
    win0_4.index t = ![0, t.val % 9] ∧
    win0_5.index t = ![0, t.val % 9] ∧
    win0_6.index t = ![t.val / 9 % 16, 0] ∧
    win0_7.index t = ![t.val / 9 % 16, 0] ∧
    win0_8.index t = ![t.val / 9, t.val % 9] := (by decide +kernel : ∀ t : Fin grid0.N, _)

variable (t : Fin cfg0.N)

theorem tlt : t.val < 288 := lt_of_lt_of_eq t.isLt N_0

/-- The row of the arrays that row `r` of the point's tile is, its sequence and position, the column, and the head. -/
abbrev row (r : Fin 1024) : Fin 32768 := ⟨t.val / 9 * 1024 + r.val, by have := tlt t; omega⟩
abbrev seq (r : Fin 1024) : Fin 2 := ⟨(row t r).val / 16384, by omega⟩
abbrev pos (r : Fin 1024) : Fin 16384 := ⟨(row t r).val % 16384, by omega⟩
abbrev col (e : Fin 512) : Fin 4608 := ⟨t.val % 9 * 512 + e.val, by omega⟩
abbrev hd (q : Fin 4) : Fin 36 := ⟨t.val % 9 * 4 + q.val, by omega⟩

/-- The sequence's rows, -/
theorem blkx (r : Fin 1024) (d : Fin 2048) :
    (show FVec Ideal S1024x2048 .f32 from iblk m c 0 t) (ix2 r d) = (args m c).x (ix3 (seq t r) (pos t r) d) := by
  have := tlt t
  have h : (show FVec Ideal S1024x2048 .f32 from iblk m c 0 t) (ix2 r d) = (show FVec Ideal S32768x2048 .f32 from V m c main_v0) (ix2 (row t r) d) := by
    blk_point [iblk, idx t]
  rw [h, x_at]

/-- the norm's weights, -/
theorem blkg (d : Fin 2048) :
    (show FVec Ideal S1x2048 .f32 from iblk m c 1 t) (ix2 0 d) = (args m c).g (ix1 d) := by
  have := tlt t
  have h : (show FVec Ideal S1x2048 .f32 from iblk m c 1 t) (ix2 0 d) = (show FVec Ideal S1x2048 .f32 from V m c main_v55) (ix2 0 d) := by
    blk_point [iblk, idx t]
  rw [h, g_at]

/-- the scale -/
theorem blksc (r : Fin 1024) (d : Fin 2048) :
    (show FVec Ideal S1x1x2048 .f32 from iblk m c 2 t) (ix3 0 0 d) = (args m c).sc (ix2 (seq t r) d) := by
  have := tlt t
  have h : (show FVec Ideal S1x1x2048 .f32 from iblk m c 2 t) (ix3 0 0 d) = (show FVec Ideal S2x1x2048 .f32 from V m c main_v56) (ix3 ⟨t.val / 144, by omega⟩ 0 d) := by
    blk_point [iblk, idx t]
  rw [h, sc_at]
  exact congrArg (fun b : Fin 2 => (args m c).sc (ix2 b d)) (Fin.ext (by show t.val / 144 = (t.val / 9 * 1024 + r.val) / 16384; omega))

/-- and the shift, -/
theorem blksh (r : Fin 1024) (d : Fin 2048) :
    (show FVec Ideal S1x1x2048 .f32 from iblk m c 3 t) (ix3 0 0 d) = (args m c).sh (ix2 (seq t r) d) := by
  have := tlt t
  have h : (show FVec Ideal S1x1x2048 .f32 from iblk m c 3 t) (ix3 0 0 d) = (show FVec Ideal S2x1x2048 .f32 from V m c main_v57) (ix3 ⟨t.val / 144, by omega⟩ 0 d) := by
    blk_point [iblk, idx t]
  rw [h, sh_at]
  exact congrArg (fun b : Fin 2 => (args m c).sh (ix2 b d)) (Fin.ext (by show t.val / 144 = (t.val / 9 * 1024 + r.val) / 16384; omega))

/-- the weights' columns, -/
theorem blkw (d : Fin 2048) (e : Fin 512) :
    (show FVec Ideal S2048x512 .bf16 from iblk m c 4 t) (ix2 d e) = (args m c).w (ix2 d (col t e)) := by
  have := tlt t
  have h : (show FVec Ideal S2048x512 .bf16 from iblk m c 4 t) (ix2 d e) = (show FVec Ideal S2048x4608 .bf16 from V m c main_v58) (ix2 d (col t e)) := by
    blk_point [iblk, idx t]
  rw [h, w_at]

/-- the gains, -/
theorem blkgain (q : Fin 4) (l : Fin 128) (e : Fin 512) (he : e.val = q.val * 128 + l.val) :
    (show FVec Ideal S1x512 .f32 from iblk m c 5 t) (ix2 0 e) = gain (args m c) (hd t q) l := by
  have := tlt t
  have h : (show FVec Ideal S1x512 .f32 from iblk m c 5 t) (ix2 0 e) = (show FVec Ideal S1x4608 .f32 from V m c main_v21) (ix2 0 (col t e)) := by
    blk_point [iblk, idx t]
  rw [h, ← gain_at m c 0 (hd t q) l]
  exact congrArg (fun e : Fin 4608 => (show FVec Ideal S1x4608 .f32 from V m c main_v21) (ix2 0 e))
    (Fin.ext (by show t.val % 9 * 512 + e.val = (t.val % 9 * 4 + q.val) * 128 + l.val; omega))

/-- the cosines -/
theorem blkcos (r : Fin 1024) (l : Fin 128) :
    (show FVec Ideal S1024x128 .f32 from iblk m c 6 t) (ix2 r l) = cosT angles (pos t r) l := by
  have := tlt t
  have h : (show FVec Ideal S1024x128 .f32 from iblk m c 6 t) (ix2 r l) = (show FVec Ideal S16384x128 .f32 from V m c main_v47) (ix2 ⟨t.val / 9 % 16 * 1024 + r.val, by omega⟩ l) := by
    blk_point [iblk, idx t]
  rw [h, cos_at]
  exact congrArg (fun p : Fin 16384 => cosT angles p l) (Fin.ext (by show t.val / 9 % 16 * 1024 + r.val = (t.val / 9 * 1024 + r.val) % 16384; omega))

/-- and the sines. -/
theorem blksin (r : Fin 1024) (l : Fin 128) :
    (show FVec Ideal S1024x128 .f32 from iblk m c 7 t) (ix2 r l) = sinT angles (pos t r) l := by
  have := tlt t
  have h : (show FVec Ideal S1024x128 .f32 from iblk m c 7 t) (ix2 r l) = (show FVec Ideal S16384x128 .f32 from V m c main_v54) (ix2 ⟨t.val / 9 % 16 * 1024 + r.val, by omega⟩ l) := by
    blk_point [iblk, idx t]
  rw [h, sin_at]
  exact congrArg (fun p : Fin 16384 => sinT angles p l) (Fin.ext (by show t.val / 9 % 16 * 1024 + r.val = (t.val / 9 * 1024 + r.val) % 16384; omega))

/-- A head's part of a row of gains. -/
theorem ld0_at (x : FVec Ideal S1x512 .f32) (l : Fin 128) :
    View.ld (Val := Elt Ideal) (S := S1x512) (e' := .f32) x (Rect.unit ![0, 0] ![1, 128] inb_S1x512_S1x128_0_0) (ix2 0 l) = x (ix2 0 ⟨0 + l.val, by omega⟩) := by
  refine congrArg x ?_
  funext a
  match a with
  | ⟨0, _⟩ => rfl
  | ⟨1, _⟩ => exact Fin.ext (by show 0 + 1 * l.val = 0 + l.val; omega)

theorem ld1_at (x : FVec Ideal S1x512 .f32) (l : Fin 128) :
    View.ld (Val := Elt Ideal) (S := S1x512) (e' := .f32) x (Rect.unit ![0, 128] ![1, 128] inb_S1x512_S1x128_0_128) (ix2 0 l) = x (ix2 0 ⟨128 + l.val, by omega⟩) := by
  refine congrArg x ?_
  funext a
  match a with
  | ⟨0, _⟩ => rfl
  | ⟨1, _⟩ => exact Fin.ext (by show 128 + 1 * l.val = 128 + l.val; omega)

theorem ld2_at (x : FVec Ideal S1x512 .f32) (l : Fin 128) :
    View.ld (Val := Elt Ideal) (S := S1x512) (e' := .f32) x (Rect.unit ![0, 256] ![1, 128] inb_S1x512_S1x128_0_256) (ix2 0 l) = x (ix2 0 ⟨256 + l.val, by omega⟩) := by
  refine congrArg x ?_
  funext a
  match a with
  | ⟨0, _⟩ => rfl
  | ⟨1, _⟩ => exact Fin.ext (by show 256 + 1 * l.val = 256 + l.val; omega)

theorem ld3_at (x : FVec Ideal S1x512 .f32) (l : Fin 128) :
    View.ld (Val := Elt Ideal) (S := S1x512) (e' := .f32) x (Rect.unit ![0, 384] ![1, 128] inb_S1x512_S1x128_0_384) (ix2 0 l) = x (ix2 0 ⟨384 + l.val, by omega⟩) := by
  refine congrArg x ?_
  funext a
  match a with
  | ⟨0, _⟩ => rfl
  | ⟨1, _⟩ => exact Fin.ext (by show 384 + 1 * l.val = 384 + l.val; omega)

/-- The modulated norm of a row. -/
abbrev H (r : Fin 1024) (d : Fin 2048) : EReal := hAt (args m c) (seq t r) (pos t r) d

theorem h_at (r : Fin 1024) (d : Fin 2048) :
    k0_pay1 (F := Ideal) (iblk m c 0 t) (iblk m c 1 t) (iblk m c 2 t) (iblk m c 3 t) (ix2 r d) = H m c t r d :=
  (pay1_at _ _ _ _ r d).trans (congrArg₂ (· + ·) (congrArg₂ (· * ·) (congrArg₂ (· * ·) (congrArg₂ (· * ·) (blkx m c t r d)
    (congrArg scale (funext fun d => blkx m c t r d))) (blkg m c t d)) (congrArg (1 + ·) (blksc m c t r d))) (blksh m c t r d))

section point
variable (h : FVec Ideal S1024x2048 .bf16) (hh : ∀ (r : Fin 1024) (d : Fin 2048), h (ix2 r d) = H m c t r d) (r : Fin 1024)
include hh

/-- A column of the projection. -/
theorem acc_at (q : Fin 4) (l : Fin 128) (e : Fin 512) (he : e.val = q.val * 128 + l.val) :
    k0_pay2 (F := Ideal) h (iblk m c 4 t) (ix2 r e) = head (args m c) (seq t r) (pos t r) (hd t q) l := by
  refine (pay2_at _ _ r e).trans ?_
  have e1 : col t e = ⟨(hd t q).val * 128 + l.val, by omega⟩ := Fin.ext (by show t.val % 9 * 512 + e.val = (t.val % 9 * 4 + q.val) * 128 + l.val; omega)
  show _ = ∑ d, hAt (args m c) (seq t r) (pos t r) d * (args m c).w (ix2 d ⟨(hd t q).val * 128 + l.val, _⟩)
  rw [← e1]
  exact Finset.sum_congr rfl fun d _ => congrArg₂ (· * ·) (hh r d) (blkw m c t d e)

theorem norm0_at (l : Fin 128) :
    k0_pay18 (F := Ideal) (k0_pay2 h (iblk m c 4 t)) (View.ld (iblk m c 5 t) (Rect.unit ![0, 0] ![1, 128] inb_S1x512_S1x128_0_0)) (ix2 r l)
      = normed (gain (args m c) (hd t 0)) (head (args m c) (seq t r) (pos t r) (hd t 0)) l :=
  (pay18_at _ _ r l).trans (congrArg₂ (fun G y => normed G y l)
    (funext fun k => (ld0_at _ k).trans (blkgain m c t 0 k ⟨0 + k.val, by omega⟩ (by show 0 + k.val = 0 * 128 + k.val; omega)))
    (funext fun k => acc_at m c t h hh r 0 k ⟨k.val, by omega⟩ (by show k.val = 0 * 128 + k.val; omega)))

theorem turn0_at (l : Fin 128) :
    k0_pay35 (F := Ideal) (k0_pay18 (k0_pay2 h (iblk m c 4 t)) (View.ld (iblk m c 5 t) (Rect.unit ![0, 0] ![1, 128] inb_S1x512_S1x128_0_0)))
        k0_pay34 (iblk m c 6 t) (iblk m c 7 t) (ix2 r l)
      = turned (cosT angles (pos t r)) (sinT angles (pos t r)) (normed (gain (args m c) (hd t 0)) (head (args m c) (seq t r) (pos t r) (hd t 0))) l := by
  refine (pay35_at _ _ r l _).trans ?_
  rw [show (fun k => (show FVec Ideal S1024x128 .f32 from iblk m c 6 t) (ix2 r k)) = cosT angles (pos t r) from funext fun k => blkcos m c t r k,
    show (fun k => (show FVec Ideal S1024x128 .f32 from iblk m c 7 t) (ix2 r k)) = sinT angles (pos t r) from funext fun k => blksin m c t r k]
  exact congrArg (fun y => turned (cosT angles (pos t r)) (sinT angles (pos t r)) y l) (funext fun k => norm0_at m c t h hh r k)

theorem plain0_at (l : Fin 128) :
    k0_pay5 (F := Ideal) h (iblk m c 4 t) (ix2 r l) = head (args m c) (seq t r) (pos t r) (hd t 0) l :=
  (plain0 _ _ r l).trans (acc_at m c t h hh r 0 l ⟨l.val, by omega⟩ (by show l.val = 0 * 128 + l.val; omega))

theorem norm1_at (l : Fin 128) :
    k0_pay23 (F := Ideal) (k0_pay2 h (iblk m c 4 t)) (View.ld (iblk m c 5 t) (Rect.unit ![0, 128] ![1, 128] inb_S1x512_S1x128_0_128)) (ix2 r l)
      = normed (gain (args m c) (hd t 1)) (head (args m c) (seq t r) (pos t r) (hd t 1)) l :=
  (pay23_at _ _ r l).trans (congrArg₂ (fun G y => normed G y l)
    (funext fun k => (ld1_at _ k).trans (blkgain m c t 1 k ⟨128 + k.val, by omega⟩ (by show 128 + k.val = 1 * 128 + k.val; omega)))
    (funext fun k => acc_at m c t h hh r 1 k ⟨128 + k.val, by omega⟩ (by show 128 + k.val = 1 * 128 + k.val; omega)))

theorem turn1_at (l : Fin 128) :
    k0_pay35 (F := Ideal) (k0_pay23 (k0_pay2 h (iblk m c 4 t)) (View.ld (iblk m c 5 t) (Rect.unit ![0, 128] ![1, 128] inb_S1x512_S1x128_0_128)))
        k0_pay34 (iblk m c 6 t) (iblk m c 7 t) (ix2 r l)
      = turned (cosT angles (pos t r)) (sinT angles (pos t r)) (normed (gain (args m c) (hd t 1)) (head (args m c) (seq t r) (pos t r) (hd t 1))) l := by
  refine (pay35_at _ _ r l _).trans ?_
  rw [show (fun k => (show FVec Ideal S1024x128 .f32 from iblk m c 6 t) (ix2 r k)) = cosT angles (pos t r) from funext fun k => blkcos m c t r k,
    show (fun k => (show FVec Ideal S1024x128 .f32 from iblk m c 7 t) (ix2 r k)) = sinT angles (pos t r) from funext fun k => blksin m c t r k]
  exact congrArg (fun y => turned (cosT angles (pos t r)) (sinT angles (pos t r)) y l) (funext fun k => norm1_at m c t h hh r k)

theorem plain1_at (l : Fin 128) :
    k0_pay6 (F := Ideal) h (iblk m c 4 t) (ix2 r l) = head (args m c) (seq t r) (pos t r) (hd t 1) l :=
  (plain1 _ _ r l).trans (acc_at m c t h hh r 1 l ⟨128 + l.val, by omega⟩ (by show 128 + l.val = 1 * 128 + l.val; omega))

theorem norm2_at (l : Fin 128) :
    k0_pay33 (F := Ideal) (k0_pay2 h (iblk m c 4 t)) (View.ld (iblk m c 5 t) (Rect.unit ![0, 256] ![1, 128] inb_S1x512_S1x128_0_256)) (ix2 r l)
      = normed (gain (args m c) (hd t 2)) (head (args m c) (seq t r) (pos t r) (hd t 2)) l :=
  (pay33_at _ _ r l).trans (congrArg₂ (fun G y => normed G y l)
    (funext fun k => (ld2_at _ k).trans (blkgain m c t 2 k ⟨256 + k.val, by omega⟩ (by show 256 + k.val = 2 * 128 + k.val; omega)))
    (funext fun k => acc_at m c t h hh r 2 k ⟨256 + k.val, by omega⟩ (by show 256 + k.val = 2 * 128 + k.val; omega)))

theorem turn2_at (l : Fin 128) :
    k0_pay35 (F := Ideal) (k0_pay33 (k0_pay2 h (iblk m c 4 t)) (View.ld (iblk m c 5 t) (Rect.unit ![0, 256] ![1, 128] inb_S1x512_S1x128_0_256)))
        k0_pay34 (iblk m c 6 t) (iblk m c 7 t) (ix2 r l)
      = turned (cosT angles (pos t r)) (sinT angles (pos t r)) (normed (gain (args m c) (hd t 2)) (head (args m c) (seq t r) (pos t r) (hd t 2))) l := by
  refine (pay35_at _ _ r l _).trans ?_
  rw [show (fun k => (show FVec Ideal S1024x128 .f32 from iblk m c 6 t) (ix2 r k)) = cosT angles (pos t r) from funext fun k => blkcos m c t r k,
    show (fun k => (show FVec Ideal S1024x128 .f32 from iblk m c 7 t) (ix2 r k)) = sinT angles (pos t r) from funext fun k => blksin m c t r k]
  exact congrArg (fun y => turned (cosT angles (pos t r)) (sinT angles (pos t r)) y l) (funext fun k => norm2_at m c t h hh r k)

theorem plain2_at (l : Fin 128) :
    k0_pay7 (F := Ideal) h (iblk m c 4 t) (ix2 r l) = head (args m c) (seq t r) (pos t r) (hd t 2) l :=
  (plain2 _ _ r l).trans (acc_at m c t h hh r 2 l ⟨256 + l.val, by omega⟩ (by show 256 + l.val = 2 * 128 + l.val; omega))

theorem norm3_at (l : Fin 128) :
    k0_pay36 (F := Ideal) (k0_pay2 h (iblk m c 4 t)) (View.ld (iblk m c 5 t) (Rect.unit ![0, 384] ![1, 128] inb_S1x512_S1x128_0_384)) (ix2 r l)
      = normed (gain (args m c) (hd t 3)) (head (args m c) (seq t r) (pos t r) (hd t 3)) l :=
  (pay36_at _ _ r l).trans (congrArg₂ (fun G y => normed G y l)
    (funext fun k => (ld3_at _ k).trans (blkgain m c t 3 k ⟨384 + k.val, by omega⟩ (by show 384 + k.val = 3 * 128 + k.val; omega)))
    (funext fun k => acc_at m c t h hh r 3 k ⟨384 + k.val, by omega⟩ (by show 384 + k.val = 3 * 128 + k.val; omega)))

theorem turn3_at (l : Fin 128) :
    k0_pay35 (F := Ideal) (k0_pay36 (k0_pay2 h (iblk m c 4 t)) (View.ld (iblk m c 5 t) (Rect.unit ![0, 384] ![1, 128] inb_S1x512_S1x128_0_384)))
        k0_pay34 (iblk m c 6 t) (iblk m c 7 t) (ix2 r l)
      = turned (cosT angles (pos t r)) (sinT angles (pos t r)) (normed (gain (args m c) (hd t 3)) (head (args m c) (seq t r) (pos t r) (hd t 3))) l := by
  refine (pay35_at _ _ r l _).trans ?_
  rw [show (fun k => (show FVec Ideal S1024x128 .f32 from iblk m c 6 t) (ix2 r k)) = cosT angles (pos t r) from funext fun k => blkcos m c t r k,
    show (fun k => (show FVec Ideal S1024x128 .f32 from iblk m c 7 t) (ix2 r k)) = sinT angles (pos t r) from funext fun k => blksin m c t r k]
  exact congrArg (fun y => turned (cosT angles (pos t r)) (sinT angles (pos t r)) y l) (funext fun k => norm3_at m c t h hh r k)

theorem plain3_at (l : Fin 128) :
    k0_pay8 (F := Ideal) h (iblk m c 4 t) (ix2 r l) = head (args m c) (seq t r) (pos t r) (hd t 3) l :=
  (plain3 _ _ r l).trans (acc_at m c t h hh r 3 l ⟨384 + l.val, by omega⟩ (by show 384 + l.val = 3 * 128 + l.val; omega))

end point

/-- The head of the result a tile's head is. -/
abbrev W (r : Fin 1024) (q : Fin 4) (l : Fin 128) : EReal := written angles (args m c) (seq t r) (pos t r) (hd t q) l

theorem W_turned (r : Fin 1024) (q : Fin 4) (l : Fin 128) (hq : t.val % 9 * 4 + q.val < 10) : W m c t r q l
    = turned (cosT angles (pos t r)) (sinT angles (pos t r)) (normed (gain (args m c) (hd t q)) (head (args m c) (seq t r) (pos t r) (hd t q))) l :=
  if_pos hq
theorem W_normed (r : Fin 1024) (q : Fin 4) (l : Fin 128) (hq : 12 ≤ t.val % 9 * 4 + q.val ∧ t.val % 9 * 4 + q.val < 28) : W m c t r q l
    = normed (gain (args m c) (hd t q)) (head (args m c) (seq t r) (pos t r) (hd t q)) l :=
  (if_neg (by show ¬ t.val % 9 * 4 + q.val < 10; omega)).trans (if_pos hq)
theorem W_plain (r : Fin 1024) (q : Fin 4) (l : Fin 128) (hq : ¬ t.val % 9 * 4 + q.val < 10)
    (hq' : ¬ (12 ≤ t.val % 9 * 4 + q.val ∧ t.val % 9 * 4 + q.val < 28)) : W m c t r q l = head (args m c) (seq t r) (pos t r) (hd t q) l :=
  (if_neg hq).trans (if_neg hq')

theorem W_at (r : Fin 1024) (q : Fin 4) (l : Fin 128) (e : Fin 512) (he : e.val = q.val * 128 + l.val) :
    W m c t r q l = at_ angles (args m c) (row t r) (col t e) :=
  congrArg₂ (written angles (args m c) (seq t r) (pos t r)) (Fin.ext (by show t.val % 9 * 4 + q.val = (t.val % 9 * 512 + e.val) / 128; omega))
    (Fin.ext (by show l.val = (t.val % 9 * 512 + e.val) % 128; omega))

/-- Four heads of the result side by side. -/
theorem four (p0 p1 p2 p3 : FVec Ideal S1024x128 .bf16) (r : Fin 1024) (e : Fin 512)
    (h0 : ∀ l, p0 (ix2 r l) = W m c t r 0 l) (h1 : ∀ l, p1 (ix2 r l) = W m c t r 1 l)
    (h2 : ∀ l, p2 (ix2 r l) = W m c t r 2 l) (h3 : ∀ l, p3 (ix2 r l) = W m c t r 3 l) :
    View.canon (Val := Elt Ideal) (s := S1024x512) (e := .bf16)
      [⟨Rect.unit ![0, 384] ![1024, 128] inb_S1024x512_S1024x128_0_384, p3⟩,
        ⟨Rect.unit ![0, 256] ![1024, 128] inb_S1024x512_S1024x128_0_256, p2⟩,
        ⟨Rect.unit ![0, 128] ![1024, 128] inb_S1024x512_S1024x128_0_128, p1⟩,
        ⟨Rect.unit ![0, 0] ![1024, 128] inb_S1024x512_S1024x128_0_0, p0⟩] (ix2 r e) = at_ angles (args m c) (row t r) (col t e) := by
  rw [four_at]
  by_cases c0 : e.val < 128
  · rw [dif_pos c0, h0]
    exact W_at m c t r 0 _ e (by show e.val = 0 * 128 + e.val; omega)
  rw [dif_neg c0]
  by_cases c1 : e.val < 256
  · rw [dif_pos c1, h1]
    exact W_at m c t r 1 _ e (by show e.val = 1 * 128 + (e.val - 128); omega)
  rw [dif_neg c1]
  by_cases c2 : e.val < 384
  · rw [dif_pos c2, h2]
    exact W_at m c t r 2 _ e (by show e.val = 2 * 128 + (e.val - 256); omega)
  rw [dif_neg c2, h3]
  exact W_at m c t r 3 _ e (by show e.val = 3 * 128 + (e.val - 384); omega)

/-- What the point keeps for the next, and what it writes. -/
abbrev Kept : Prop := ∀ (r : Fin 1024) (d : Fin 2048), (outsAt0 m c t.val t.isLt).2 (ix2 r d) = H m c t r d
abbrev Wrote : Prop := ∀ (r : Fin 1024) (e : Fin 512), (outsAt0 m c t.val t.isLt).1 (ix2 r e) = at_ angles (args m c) (row t r) (col t e)
/-- What the point before has kept. -/
abbrev Had : Prop := ∀ (r : Fin 1024) (d : Fin 2048), (outsAt0 m c (t.val - 1) (by omega)).2 (ix2 r d) = H m c t r d

end Cert.QkvIdeal.Qkv

end

end
-- ==== Proof.Qkv.Array.lean ====
module

public import proofs.«01_k».proof.Proof.Qkv.Block
public import Idealize.ShloMosaic.Lib.Pipeline.ReadBack

@[expose] public section

set_option maxRecDepth 16384
set_option maxHeartbeats 400000

/-! What each grid point of the launch keeps and writes, and so what the launch writes. -/

noncomputable section
open Idealize.ShloMosaic Idealize.ShloMosaic.TcCoe Idealize.SL.Sem
open Idealize.ShloMosaic.Pipeline (Dat)
namespace Cert.QkvIdeal.Qkv
open Cert.QkvIdeal Cert.QkvIdeal.Gen
open Cert.QkvSpec
open Cert.QkvRefIdeal.Qkv (angles)
variable (m : (ℓ : Loc nD τ sig) → Buf (Elt Ideal) ℓ) (c : Dev nD)
variable (t : Fin cfg0.N)

theorem A1 (h0 : t.val % 9 = 0) : Kept m c t := by
  intro r d
  rw [outsAt0_A m c t h0 (by omega) (by omega) (by omega) (by omega)]
  frame_out
  exact h_at m c t r d

theorem A0 (h0 : t.val % 9 = 0) : Wrote m c t := by
  intro r e
  have := tlt t
  rw [outsAt0_A m c t h0 (by omega) (by omega) (by omega) (by omega)]
  frame_out
  refine four m c t _ _ _ _ r e (fun l => ?_) (fun l => ?_) (fun l => ?_) (fun l => ?_)
  · exact (congrFun (turn0' ..) _).trans ((turn0_at m c t _ (h_at m c t) r l).trans (W_turned m c t r 0 l (by show t.val % 9 * 4 + 0 < 10; omega)).symm)
  · exact (congrFun (turn1' ..) _).trans ((turn1_at m c t _ (h_at m c t) r l).trans (W_turned m c t r 1 l (by show t.val % 9 * 4 + 1 < 10; omega)).symm)
  · exact (turn2_at m c t _ (h_at m c t) r l).trans (W_turned m c t r 2 l (by show t.val % 9 * 4 + 2 < 10; omega)).symm
  · exact (congrFun (turn3 ..) _).trans ((turn3_at m c t _ (h_at m c t) r l).trans (W_turned m c t r 3 l (by show t.val % 9 * 4 + 3 < 10; omega)).symm)

theorem B0 (h0 : t.val % 9 = 1) (k : Had m c t) : Wrote m c t := by
  intro r e
  have := tlt t
  rw [outsAt0_B m c t (by omega) (by omega) (by omega) (by omega) (by omega)]
  frame_out
  refine four m c t _ _ _ _ r e (fun l => ?_) (fun l => ?_) (fun l => ?_) (fun l => ?_)
  · rw [read_unread_whole]
    exact (congrFun (turn0 ..) _).trans ((turn0_at m c t _ k r l).trans (W_turned m c t r 0 l (by show t.val % 9 * 4 + 0 < 10; omega)).symm)
  · rw [read_unread_whole]
    exact (congrFun (turn1 ..) _).trans ((turn1_at m c t _ k r l).trans (W_turned m c t r 1 l (by show t.val % 9 * 4 + 1 < 10; omega)).symm)
  · rw [read_unread_whole]
    exact (turn2_at m c t _ k r l).trans (W_turned m c t r 2 l (by show t.val % 9 * 4 + 2 < 10; omega)).symm
  · rw [read_unread_whole]
    exact (congrFun (turn3 ..) _).trans ((turn3_at m c t _ k r l).trans (W_turned m c t r 3 l (by show t.val % 9 * 4 + 3 < 10; omega)).symm)

theorem B1 (h0 : t.val % 9 = 1) : (outsAt0 m c t.val t.isLt).2 = (outsAt0 m c (t.val - 1) (by omega)).2 := by
  rw [outsAt0_B m c t (by omega) (by omega) (by omega) (by omega) (by omega)]
  frame_out
  unfold sout0_B_0
  rfl

theorem C0 (h0 : t.val % 9 = 2) (k : Had m c t) : Wrote m c t := by
  intro r e
  have := tlt t
  rw [outsAt0_C m c t (by omega) (by omega) (by omega) h0 (by omega)]
  frame_out
  refine four m c t _ _ _ _ r e (fun l => ?_) (fun l => ?_) (fun l => ?_) (fun l => ?_)
  · rw [read_unread_whole]
    exact (congrFun (turn0 ..) _).trans ((turn0_at m c t _ k r l).trans (W_turned m c t r 0 l (by show t.val % 9 * 4 + 0 < 10; omega)).symm)
  · rw [read_unread_whole]
    exact (congrFun (turn1 ..) _).trans ((turn1_at m c t _ k r l).trans (W_turned m c t r 1 l (by show t.val % 9 * 4 + 1 < 10; omega)).symm)
  · rw [read_unread_whole]
    exact (congrFun (plain2' ..) _).trans ((plain2_at m c t _ k r l).trans (W_plain m c t r 2 l (by show ¬ t.val % 9 * 4 + 2 < 10; omega) (by show ¬ (12 ≤ t.val % 9 * 4 + 2 ∧ t.val % 9 * 4 + 2 < 28); omega)).symm)
  · rw [read_unread_whole]
    exact (congrFun (plain3' ..) _).trans ((plain3_at m c t _ k r l).trans (W_plain m c t r 3 l (by show ¬ t.val % 9 * 4 + 3 < 10; omega) (by show ¬ (12 ≤ t.val % 9 * 4 + 3 ∧ t.val % 9 * 4 + 3 < 28); omega)).symm)

theorem C1 (h0 : t.val % 9 = 2) : (outsAt0 m c t.val t.isLt).2 = (outsAt0 m c (t.val - 1) (by omega)).2 := by
  rw [outsAt0_C m c t (by omega) (by omega) (by omega) h0 (by omega)]
  frame_out
  unfold sout0_C_0
  rfl

theorem D0 (h0 : 3 ≤ t.val % 9 ∧ t.val % 9 ≤ 6) (k : Had m c t) : Wrote m c t := by
  intro r e
  have := tlt t
  rw [outsAt0_D m c t (by omega) h0 (by omega) (by omega) (by omega)]
  frame_out
  refine four m c t _ _ _ _ r e (fun l => ?_) (fun l => ?_) (fun l => ?_) (fun l => ?_)
  · rw [read_unread_whole]
    exact (norm0 ..).trans ((norm0_at m c t _ k r l).trans (W_normed m c t r 0 l (by show 12 ≤ t.val % 9 * 4 + 0 ∧ t.val % 9 * 4 + 0 < 28; omega)).symm)
  · rw [read_unread_whole]
    exact (norm1 ..).trans ((norm1_at m c t _ k r l).trans (W_normed m c t r 1 l (by show 12 ≤ t.val % 9 * 4 + 1 ∧ t.val % 9 * 4 + 1 < 28; omega)).symm)
  · rw [read_unread_whole]
    exact (norm2 ..).trans ((norm2_at m c t _ k r l).trans (W_normed m c t r 2 l (by show 12 ≤ t.val % 9 * 4 + 2 ∧ t.val % 9 * 4 + 2 < 28; omega)).symm)
  · rw [read_unread_whole]
    exact (norm3 ..).trans ((norm3_at m c t _ k r l).trans (W_normed m c t r 3 l (by show 12 ≤ t.val % 9 * 4 + 3 ∧ t.val % 9 * 4 + 3 < 28; omega)).symm)

theorem D1 (h0 : 3 ≤ t.val % 9 ∧ t.val % 9 ≤ 6) : (outsAt0 m c t.val t.isLt).2 = (outsAt0 m c (t.val - 1) (by omega)).2 := by
  rw [outsAt0_D m c t (by omega) h0 (by omega) (by omega) (by omega)]
  frame_out
  unfold sout0_D_0
  rfl

theorem E0 (h0 : 7 ≤ t.val % 9) (k : Had m c t) : Wrote m c t := by
  intro r e
  have := tlt t
  rw [outsAt0_E m c t (by omega) (by omega) h0 (by omega) (by omega)]
  frame_out
  refine four m c t _ _ _ _ r e (fun l => ?_) (fun l => ?_) (fun l => ?_) (fun l => ?_)
  · rw [read_unread_whole]
    exact (plain0_at m c t _ k r l).trans (W_plain m c t r 0 l (by show ¬ t.val % 9 * 4 + 0 < 10; omega) (by show ¬ (12 ≤ t.val % 9 * 4 + 0 ∧ t.val % 9 * 4 + 0 < 28); omega)).symm
  · rw [read_unread_whole]
    exact (plain1_at m c t _ k r l).trans (W_plain m c t r 1 l (by show ¬ t.val % 9 * 4 + 1 < 10; omega) (by show ¬ (12 ≤ t.val % 9 * 4 + 1 ∧ t.val % 9 * 4 + 1 < 28); omega)).symm
  · rw [read_unread_whole]
    exact (plain2_at m c t _ k r l).trans (W_plain m c t r 2 l (by show ¬ t.val % 9 * 4 + 2 < 10; omega) (by show ¬ (12 ≤ t.val % 9 * 4 + 2 ∧ t.val % 9 * 4 + 2 < 28); omega)).symm
  · rw [read_unread_whole]
    exact (plain3_at m c t _ k r l).trans (W_plain m c t r 3 l (by show ¬ t.val % 9 * 4 + 3 < 10; omega) (by show ¬ (12 ≤ t.val % 9 * 4 + 3 ∧ t.val % 9 * 4 + 3 < 28); omega)).symm

theorem E1 (h0 : 7 ≤ t.val % 9) : (outsAt0 m c t.val t.isLt).2 = (outsAt0 m c (t.val - 1) (by omega)).2 := by
  rw [outsAt0_E m c t (by omega) (by omega) h0 (by omega) (by omega)]
  frame_out
  unfold sout0_E_0
  rfl

/-- The point before holds the same rows. -/
theorem same (h0 : ¬ t.val % 9 = 0) (h : t.val - 1 < cfg0.N) (r : Fin 1024) (d : Fin 2048) : H m c (⟨t.val - 1, h⟩ : Fin cfg0.N) r d = H m c t r d := by
  have e : row (⟨t.val - 1, h⟩ : Fin cfg0.N) r = row t r := Fin.ext (by show (t.val - 1) / 9 * 1024 + r.val = t.val / 9 * 1024 + r.val; omega)
  exact congrArg (fun R : Fin 32768 => hAt (args m c) ⟨R.val / 16384, by omega⟩ ⟨R.val % 16384, by omega⟩ d) e

/-- A later point of a row of tiles keeps the rows and writes its columns. -/
theorem later (h0 : ¬ t.val % 9 = 0) (k : Had m c t) : Kept m c t ∧ Wrote m c t := by
  have := tlt t
  by_cases h1 : t.val % 9 = 1
  · exact ⟨fun r d => (congrFun (B1 m c t h1) (ix2 r d)).trans (k r d), B0 m c t h1 k⟩
  by_cases h2 : t.val % 9 = 2
  · exact ⟨fun r d => (congrFun (C1 m c t h2) (ix2 r d)).trans (k r d), C0 m c t h2 k⟩
  by_cases h3 : 3 ≤ t.val % 9 ∧ t.val % 9 ≤ 6
  · exact ⟨fun r d => (congrFun (D1 m c t h3) (ix2 r d)).trans (k r d), D0 m c t h3 k⟩
  · have h4 : 7 ≤ t.val % 9 := by omega
    exact ⟨fun r d => (congrFun (E1 m c t h4) (ix2 r d)).trans (k r d), E0 m c t h4 k⟩

/-- Every point keeps its rows and writes their columns. -/
theorem all : ∀ (n : Nat) (h : n < cfg0.N), Kept m c ⟨n, h⟩ ∧ Wrote m c ⟨n, h⟩ := by
  intro n
  induction n with
  | zero => exact fun h => ⟨A1 m c ⟨0, h⟩ rfl, A0 m c ⟨0, h⟩ rfl⟩
  | succ n ih =>
    intro h
    by_cases h0 : (n + 1) % 9 = 0
    · exact ⟨A1 m c ⟨n + 1, h⟩ h0, A0 m c ⟨n + 1, h⟩ h0⟩
    · exact later m c ⟨n + 1, h⟩ h0 fun r d =>
        ((ih (Nat.lt_of_succ_lt h)).1 r d).trans (same m c ⟨n + 1, h⟩ h0 (Nat.lt_of_succ_lt h) r d)

theorem point (y : S1024x512.Idx) : (outsAt0 m c t.val t.isLt).1 y = out angles (args m c) (((cfg0.win 8).blk t).view.emb y) := by
  obtain ⟨r, e, rfl⟩ : ∃ (r : Fin 1024) (e : Fin 512), y = ix2 r e := ⟨y 0, y 1, by funext a; match a with | 0 => rfl | 1 => rfl⟩
  have ht := tlt t
  have e0 : (((cfg0.win 8).blk t).view.emb (ix2 r e) 0).val = t.val / 9 * 1024 + r.val := by blk_simp [idx t]
  have e1 : (((cfg0.win 8).blk t).view.emb (ix2 r e) 1).val = t.val % 9 * 512 + e.val := by blk_simp [idx t]
  exact ((all m c t.val t.isLt).2 r e).trans (out_of _ _ _ (row t r) (col t e) e0 e1).symm

/-- What the launch writes is the result. -/
theorem final : (dats m 0 c).arrAt 8 cfg0.N = out angles (args m c) := by
  refine (dats m 0 c).arrAt_eq_of_covers 8 _ (by decide +kernel) fun t _ y => ?_
  blk_simp
  rw [after0_8]
  exact point m c t y

end Cert.QkvIdeal.Qkv

end

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_scores
public import proofs.«01_k».proof.Proof.Win.Array
public import proofs.«01_k».proof.Proof.Win.Ref
public import proofs.«01_k».proof.Proof.Win.Pre
public import proofs.«01_k».proof.Proof.Proj.Array
public import proofs.«01_k».proof.Proof.Proj.Ref
public import proofs.«01_k».proof.Proof.Gen.Projections
public import proofs.«01_k».proof.Proof.Gen.Projections.Frame
public import proofs.«01_k».proof.Proof.Gen.ProjectionsIdeal
public import proofs.«01_k».proof.Proof.Gen.ProjectionsIdeal.Frame
public import proofs.«01_k».proof.Proof.Gen.ProjectionsRefIdeal
public import proofs.«01_k».proof.Proof.Gen.ProjectionsRefIdeal.Run
public import proofs.«01_k».proof.Proof.Gen.ProjectionsRefIdeal.Read
public import proofs.«01_k».proof.Proof.Gen.AttnOut
public import proofs.«01_k».proof.Proof.Gen.AttnOut.Frame
public import proofs.«01_k».proof.Proof.Gen.AttnOutIdeal
public import proofs.«01_k».proof.Proof.Gen.AttnOutIdeal.Frame
public import proofs.«01_k».proof.Proof.Gen.AttnOutRefIdeal
public import proofs.«01_k».proof.Proof.Gen.AttnOutRefIdeal.Run
public import proofs.«01_k».proof.Proof.Gen.AttnOutRefIdeal.Read
public import proofs.«01_k».proof.Proof.Gen.MixOut
public import proofs.«01_k».proof.Proof.Gen.MixOut.Frame
public import proofs.«01_k».proof.Proof.Gen.MixOutIdeal
public import proofs.«01_k».proof.Proof.Gen.MixOutIdeal.Frame
public import proofs.«01_k».proof.Proof.Gen.MixOutRefIdeal
public import proofs.«01_k».proof.Proof.Gen.MixOutRefIdeal.Run
public import proofs.«01_k».proof.Proof.Gen.MixOutRefIdeal.Read
public import proofs.«01_k».proof.Proof.Gen.Combine
public import proofs.«01_k».proof.Proof.Gen.Combine.Frame
public import proofs.«01_k».proof.Proof.Gen.CombineIdeal
public import proofs.«01_k».proof.Proof.Gen.CombineIdeal.Frame
public import proofs.«01_k».proof.Proof.Gen.CombineRefIdeal
public import proofs.«01_k».proof.Proof.Gen.CombineRefIdeal.Run
public import proofs.«01_k».proof.Proof.Gen.CombineRefIdeal.Read
public import proofs.«01_k».proof.Proof.Out.Attn
public import proofs.«01_k».proof.Proof.Out.Mix
public import proofs.«01_k».proof.Proof.Out.Combine
public import proofs.«01_k».proof.Proof.Out.Ref
public import proofs.«01_k».proof.Proof.Qkv.Array
public import proofs.«01_k».proof.Proof.Qkv.Ref
public import proofs.«01_k».proof.Proof.Gen.Qkv
public import proofs.«01_k».proof.Proof.Gen.Qkv.Frame
public import proofs.«01_k».proof.Proof.Gen.QkvIdeal
public import proofs.«01_k».proof.Proof.Gen.QkvIdeal.Frame
public import proofs.«01_k».proof.Proof.Gen.QkvRefIdeal
public import proofs.«01_k».proof.Proof.Gen.QkvRefIdeal.Run
public import proofs.«01_k».proof.Proof.Gen.QkvRefIdeal.Read
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The named mask value is −∞. -/
theorem preserves : Cert.preserves_Kernel_KernelIdeal :=
  IdealRules.named_const.statement Cert.KernelIdeal.κ "mask" .f32 0xF149F2CA#32 ⊥ rfl

/-- The reference ends with its arguments as launched; it declares no semaphore. -/
theorem frame_ref : Cert.quiescent_ReferenceIdeal := fun m g _ =>
  (θ_run Cert.ReferenceIdeal.defs _ _).mono (fun _ h => ⟨fun c => (h c).2, sem_eq_zero_of_no_sems (by decide) _⟩)
    (Cert.ReferenceIdeal.Value.run m g)

/-- The window attention: the kernel's array and the reference's result are the same formula of the arguments. -/
theorem algebraic : Cert.algebraic_KernelIdeal_ReferenceIdeal_pre_finite_scores := by
  pair_intro
  · run_from Cert.KernelIdeal.Gen.run_main m g
  · run_from Cert.ReferenceIdeal.Value.run m' g'
    rw [Cert.ReferenceIdeal.Read.val_main_v97_eq, Cert.ReferenceIdeal.Win.result]
    have hf := Cert.Pre_finite_scores.Win.finite _ _ _ (hpre c)
    obtain ⟨e0, e1, e2⟩ := hagree c
    rw [e0, e1, e2]
    exact (Cert.KernelIdeal.Win.final m c hf).symm

/-- The projections have no named constant. -/
theorem preserves_proj : Cert.preserves_Projections_ProjectionsIdeal := trivial

theorem frame_proj_ref : Cert.quiescent_ProjectionsRefIdeal := fun m g _ =>
  (θ_run Cert.ProjectionsRefIdeal.defs _ _).mono (fun _ h => ⟨fun c => (h c).2, sem_eq_zero_of_no_sems (by decide) _⟩)
    (Cert.ProjectionsRefIdeal.Value.run m g)

/-- The projections' arguments as the reference's memory holds them. -/
abbrev argsRef (m : (ℓ : Loc Cert.ProjectionsRefIdeal.nD Cert.ProjectionsRefIdeal.τ Cert.ProjectionsRefIdeal.sig) → Buf (Elt Ideal) ℓ) (c : Dev Cert.ProjectionsRefIdeal.nD) : Cert.ProjSpec.In where
  x := m ((c.tc : Thread Cert.ProjectionsRefIdeal.nD Cert.ProjectionsRefIdeal.τ).loc Cert.ProjectionsRefIdeal.main_arg0)
  xc := m ((c.tc : Thread Cert.ProjectionsRefIdeal.nD Cert.ProjectionsRefIdeal.τ).loc Cert.ProjectionsRefIdeal.main_arg1)
  g := m ((c.tc : Thread Cert.ProjectionsRefIdeal.nD Cert.ProjectionsRefIdeal.τ).loc Cert.ProjectionsRefIdeal.main_arg2)
  sc := m ((c.tc : Thread Cert.ProjectionsRefIdeal.nD Cert.ProjectionsRefIdeal.τ).loc Cert.ProjectionsRefIdeal.main_arg3)
  sh := m ((c.tc : Thread Cert.ProjectionsRefIdeal.nD Cert.ProjectionsRefIdeal.τ).loc Cert.ProjectionsRefIdeal.main_arg4)
  csc := m ((c.tc : Thread Cert.ProjectionsRefIdeal.nD Cert.ProjectionsRefIdeal.τ).loc Cert.ProjectionsRefIdeal.main_arg5)
  csh := m ((c.tc : Thread Cert.ProjectionsRefIdeal.nD Cert.ProjectionsRefIdeal.τ).loc Cert.ProjectionsRefIdeal.main_arg6)
  mu := m ((c.tc : Thread Cert.ProjectionsRefIdeal.nD Cert.ProjectionsRefIdeal.τ).loc Cert.ProjectionsRefIdeal.main_arg7)
  wr := m ((c.tc : Thread Cert.ProjectionsRefIdeal.nD Cert.ProjectionsRefIdeal.τ).loc Cert.ProjectionsRefIdeal.main_arg8)
  wk := m ((c.tc : Thread Cert.ProjectionsRefIdeal.nD Cert.ProjectionsRefIdeal.τ).loc Cert.ProjectionsRefIdeal.main_arg9)
  wv := m ((c.tc : Thread Cert.ProjectionsRefIdeal.nD Cert.ProjectionsRefIdeal.τ).loc Cert.ProjectionsRefIdeal.main_arg10)
  w1 := m ((c.tc : Thread Cert.ProjectionsRefIdeal.nD Cert.ProjectionsRefIdeal.τ).loc Cert.ProjectionsRefIdeal.main_arg11)
  a1 := m ((c.tc : Thread Cert.ProjectionsRefIdeal.nD Cert.ProjectionsRefIdeal.τ).loc Cert.ProjectionsRefIdeal.main_arg12)
  g1 := m ((c.tc : Thread Cert.ProjectionsRefIdeal.nD Cert.ProjectionsRefIdeal.τ).loc Cert.ProjectionsRefIdeal.main_arg13)

/-- The projections: the kernel's array and the reference's result are the same formula of the arguments. -/
theorem algebraic_proj : Cert.algebraic_ProjectionsIdeal_ProjectionsRefIdeal := by
  intro m g m' g' _ hagree
  refine ⟨fun c => Cert.ProjSpec.out (Cert.ProjectionsIdeal.Proj.args m c), ?_, ?_⟩
  · refine (θ_run Cert.ProjectionsIdeal.defs _ _).mono (fun r h c => ⟨?_, h.1 c⟩)
      (θ_run_and (Cert.ProjectionsIdeal.Gen.unchanged m g) (Cert.ProjectionsIdeal.Gen.run_main m g))
    exact ((h.2 c).1 10).trans (Cert.ProjectionsIdeal.Proj.final m c)
  · refine (θ_run Cert.ProjectionsRefIdeal.defs _ _).mono (fun r h c => ⟨?_, (h c).2⟩) (Cert.ProjectionsRefIdeal.Value.run m' g')
    have e : argsRef m' c = Cert.ProjectionsIdeal.Proj.args m c := by
      obtain ⟨e0, e1, e2, e3, e4, e5, e6, e7, e8, e9, e10, e11, e12, e13⟩ := hagree c
      unfold argsRef
      rw [e0, e1, e2, e3, e4, e5, e6, e7, e8, e9, e10, e11, e12, e13]
    refine (h c).1.trans ?_
    refine (Cert.ProjectionsRefIdeal.Read.val_main_v90_eq (StableHlo.launchContents m' c)).trans ?_
    refine (Cert.ProjectionsRefIdeal.Proj.result_of _ _ _ _ _ _ _ _ _ _ _ _ _ _).trans ?_
    exact congrArg Cert.ProjSpec.out e

/-- The attentions' output projection: no named constant. -/
theorem preserves_attn : Cert.preserves_AttnOut_AttnOutIdeal := trivial

theorem frame_attn_ref : Cert.quiescent_AttnOutRefIdeal := fun m g _ =>
  (θ_run Cert.AttnOutRefIdeal.defs _ _).mono (fun _ h => ⟨fun c => (h c).2, sem_eq_zero_of_no_sems (by decide) _⟩)
    (Cert.AttnOutRefIdeal.Value.run m g)

/-- The kernel's array and the reference's result are the same formula of the arguments. -/
theorem algebraic_attn : Cert.algebraic_AttnOutIdeal_AttnOutRefIdeal := by
  intro m g m' g' _ hagree
  refine ⟨fun c => Cert.OutSpec.out (Cert.AttnOutIdeal.Out.X m c) (Cert.AttnOutIdeal.Out.G m c) (Cert.OutSpec.times (Cert.OutSpec.beside (Cert.AttnOutIdeal.Out.A m c) (Cert.AttnOutIdeal.Out.B m c)) (Cert.AttnOutIdeal.Out.W m c)), ?_, ?_⟩
  · refine (θ_run Cert.AttnOutIdeal.defs _ _).mono (fun r h c => ⟨?_, h.1 c⟩)
      (θ_run_and (Cert.AttnOutIdeal.Gen.unchanged m g) (Cert.AttnOutIdeal.Gen.run_main m g))
    exact ((h.2 c).1 5).trans (Cert.AttnOutIdeal.Out.final m c)
  · refine (θ_run Cert.AttnOutRefIdeal.defs _ _).mono (fun r h c => ⟨?_, (h c).2⟩) (Cert.AttnOutRefIdeal.Value.run m' g')
    obtain ⟨e0, e1, e2, e3, e4⟩ := hagree c
    refine (h c).1.trans ?_
    refine (Cert.AttnOutRefIdeal.Read.val_main_v8_eq _ _ _ _ _).trans ?_
    refine (Cert.OutRef.attn _ _ _ _ _).trans ?_
    rw [e0, e1, e2, e3, e4]

/-- The recurrence's output projection: no named constant. -/
theorem preserves_mix : Cert.preserves_MixOut_MixOutIdeal := trivial

theorem frame_mix_ref : Cert.quiescent_MixOutRefIdeal := fun m g _ =>
  (θ_run Cert.MixOutRefIdeal.defs _ _).mono (fun _ h => ⟨fun c => (h c).2, sem_eq_zero_of_no_sems (by decide) _⟩)
    (Cert.MixOutRefIdeal.Value.run m g)

/-- The kernel's array and the reference's result are the same formula of the arguments. -/
theorem algebraic_mix : Cert.algebraic_MixOutIdeal_MixOutRefIdeal := by
  intro m g m' g' _ hagree
  refine ⟨fun c => Cert.OutSpec.out (Cert.MixOutIdeal.Out.X m c) (Cert.MixOutIdeal.Out.G m c) (Cert.OutSpec.times (Cert.OutSpec.rows (Cert.MixOutIdeal.Out.Z m c)) (Cert.MixOutIdeal.Out.W m c)), ?_, ?_⟩
  · refine (θ_run Cert.MixOutIdeal.defs _ _).mono (fun r h c => ⟨?_, h.1 c⟩)
      (θ_run_and (Cert.MixOutIdeal.Gen.unchanged m g) (Cert.MixOutIdeal.Gen.run_main m g))
    exact ((h.2 c).1 4).trans (Cert.MixOutIdeal.Out.final m c)
  · refine (θ_run Cert.MixOutRefIdeal.defs _ _).mono (fun r h c => ⟨?_, (h c).2⟩) (Cert.MixOutRefIdeal.Value.run m' g')
    obtain ⟨e0, e1, e2, e3⟩ := hagree c
    refine (h c).1.trans ?_
    refine (Cert.MixOutRefIdeal.Read.val_main_v6_eq _ _ _ _).trans ?_
    refine (Cert.OutRef.mix _ _ _ _).trans ?_
    rw [e0, e1, e2, e3]

/-- The experts' outputs weighted and added: no named constant. -/
theorem preserves_combine : Cert.preserves_Combine_CombineIdeal := trivial

theorem frame_combine_ref : Cert.quiescent_CombineRefIdeal := fun m g _ =>
  (θ_run Cert.CombineRefIdeal.defs _ _).mono (fun _ h => ⟨fun c => (h c).2, sem_eq_zero_of_no_sems (by decide) _⟩)
    (Cert.CombineRefIdeal.Value.run m g)

/-- The kernel's array and the reference's result are the same formula of the arguments. -/
theorem algebraic_combine : Cert.algebraic_CombineIdeal_CombineRefIdeal := by
  intro m g m' g' _ hagree
  refine ⟨fun c => Cert.OutSpec.out (Cert.CombineIdeal.Out.X m c) (Cert.CombineIdeal.Out.G m c) (Cert.OutSpec.mixed (Cert.CombineIdeal.Out.A m c) (Cert.CombineIdeal.Out.B m c) (Cert.CombineIdeal.Out.P m c)), ?_, ?_⟩
  · refine (θ_run Cert.CombineIdeal.defs _ _).mono (fun r h c => ⟨?_, h.1 c⟩)
      (θ_run_and (Cert.CombineIdeal.Gen.unchanged m g) (Cert.CombineIdeal.Gen.run_main m g))
    exact ((h.2 c).1 5).trans (Cert.CombineIdeal.Out.final m c)
  · refine (θ_run Cert.CombineRefIdeal.defs _ _).mono (fun r h c => ⟨?_, (h c).2⟩) (Cert.CombineRefIdeal.Value.run m' g')
    obtain ⟨e0, e1, e2, e3, e4⟩ := hagree c
    refine (h c).1.trans ?_
    refine (Cert.CombineRefIdeal.Read.val_main_v13_eq _ _ _ _ _).trans ?_
    refine (Cert.OutRef.combine _ _ _ _ _).trans ?_
    rw [e0, e1, e2, e3, e4]

/-- The attention layer's input projection: no named constant. -/
theorem preserves_qkv : Cert.preserves_Qkv_QkvIdeal := trivial

theorem frame_qkv_ref : Cert.quiescent_QkvRefIdeal := fun m g _ =>
  (θ_run Cert.QkvRefIdeal.defs _ _).mono (fun _ h => ⟨fun c => (h c).2, sem_eq_zero_of_no_sems (by decide) _⟩)
    (Cert.QkvRefIdeal.Value.run m g)

/-- The input projection's arguments as the reference's memory holds them. -/
abbrev argsQkvRef (m : (ℓ : Loc Cert.QkvRefIdeal.nD Cert.QkvRefIdeal.τ Cert.QkvRefIdeal.sig) → Buf (Elt Ideal) ℓ) (c : Dev Cert.QkvRefIdeal.nD) : Cert.QkvSpec.In where
  x := m ((c.tc : Thread Cert.QkvRefIdeal.nD Cert.QkvRefIdeal.τ).loc Cert.QkvRefIdeal.main_arg0)
  w := m ((c.tc : Thread Cert.QkvRefIdeal.nD Cert.QkvRefIdeal.τ).loc Cert.QkvRefIdeal.main_arg1)
  g := m ((c.tc : Thread Cert.QkvRefIdeal.nD Cert.QkvRefIdeal.τ).loc Cert.QkvRefIdeal.main_arg2)
  sc := m ((c.tc : Thread Cert.QkvRefIdeal.nD Cert.QkvRefIdeal.τ).loc Cert.QkvRefIdeal.main_arg3)
  sh := m ((c.tc : Thread Cert.QkvRefIdeal.nD Cert.QkvRefIdeal.τ).loc Cert.QkvRefIdeal.main_arg4)
  aq := m ((c.tc : Thread Cert.QkvRefIdeal.nD Cert.QkvRefIdeal.τ).loc Cert.QkvRefIdeal.main_arg5)
  ak := m ((c.tc : Thread Cert.QkvRefIdeal.nD Cert.QkvRefIdeal.τ).loc Cert.QkvRefIdeal.main_arg6)
  bq := m ((c.tc : Thread Cert.QkvRefIdeal.nD Cert.QkvRefIdeal.τ).loc Cert.QkvRefIdeal.main_arg7)
  bk := m ((c.tc : Thread Cert.QkvRefIdeal.nD Cert.QkvRefIdeal.τ).loc Cert.QkvRefIdeal.main_arg8)

/-- The kernel's array and the reference's result are the same formula of the arguments. -/
theorem algebraic_qkv : Cert.algebraic_QkvIdeal_QkvRefIdeal := by
  intro m g m' g' _ hagree
  refine ⟨fun c => Cert.QkvSpec.out Cert.QkvRefIdeal.Qkv.angles (Cert.QkvIdeal.Qkv.args m c), ?_, ?_⟩
  · refine (θ_run Cert.QkvIdeal.defs _ _).mono (fun r h c => ⟨?_, h.1 c⟩)
      (θ_run_and (Cert.QkvIdeal.Gen.unchanged m g) (Cert.QkvIdeal.Gen.run_main m g))
    exact ((h.2 c).1 8).trans (Cert.QkvIdeal.Qkv.final m c)
  · refine (θ_run Cert.QkvRefIdeal.defs _ _).mono (fun r h c => ⟨?_, (h c).2⟩) (Cert.QkvRefIdeal.Value.run m' g')
    have e : argsQkvRef m' c = Cert.QkvIdeal.Qkv.args m c := by
      obtain ⟨e0, e1, e2, e3, e4, e5, e6, e7, e8⟩ := hagree c
      unfold argsQkvRef
      rw [e0, e1, e2, e3, e4, e5, e6, e7, e8]
    refine (h c).1.trans ?_
    refine (Cert.QkvRefIdeal.Read.val_main_v207_eq (StableHlo.launchContents m' c)).trans ?_
    refine (Cert.QkvRefIdeal.Qkv.result (argsQkvRef m' c)).trans ?_
    exact congrArg (Cert.QkvSpec.out Cert.QkvRefIdeal.Qkv.angles) e

theorem claim : Cert.Claim := ⟨Cert.Kernel.Gen.facts, Cert.KernelIdeal.Gen.facts, Cert.ReferenceIdeal.Gen.facts, Cert.Projections.Gen.facts, Cert.ProjectionsIdeal.Gen.facts, Cert.ProjectionsRefIdeal.Gen.facts, Cert.AttnOut.Gen.facts, Cert.AttnOutIdeal.Gen.facts, Cert.AttnOutRefIdeal.Gen.facts, Cert.MixOut.Gen.facts, Cert.MixOutIdeal.Gen.facts, Cert.MixOutRefIdeal.Gen.facts, Cert.Combine.Gen.facts, Cert.CombineIdeal.Gen.facts, Cert.CombineRefIdeal.Gen.facts, Cert.Qkv.Gen.facts, Cert.QkvIdeal.Gen.facts, Cert.QkvRefIdeal.Gen.facts, Cert.Pre_finite_scores.Gen.facts,
  fun m g _ => Cert.Kernel.Gen.frame m g, fun m g _ => Cert.KernelIdeal.Gen.frame m g, fun m g _ => Cert.KernelIdeal.Gen.frame m g,
  frame_ref, fun m g _ => frame_ref m g trivial, fun m g _ => Cert.Projections.Gen.frame m g,
  fun m g _ => Cert.ProjectionsIdeal.Gen.frame m g, frame_proj_ref, fun m g _ => Cert.AttnOut.Gen.frame m g,
  fun m g _ => Cert.AttnOutIdeal.Gen.frame m g, frame_attn_ref, fun m g _ => Cert.MixOut.Gen.frame m g,
  fun m g _ => Cert.MixOutIdeal.Gen.frame m g, frame_mix_ref, fun m g _ => Cert.Combine.Gen.frame m g,
  fun m g _ => Cert.CombineIdeal.Gen.frame m g, frame_combine_ref, fun m g _ => Cert.Qkv.Gen.frame m g,
  fun m g _ => Cert.QkvIdeal.Gen.frame m g, frame_qkv_ref, preserves,
  algebraic, preserves_proj, algebraic_proj,
  preserves_attn, algebraic_attn, preserves_mix,
  algebraic_mix, preserves_combine, algebraic_combine,
  preserves_qkv, algebraic_qkv⟩

end Cert.Proof

end
